-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v81_0)) (v1 : (c : Dev Cert.Kernel3Ideal.nD) → Buf (Elt Ideal) ((c.tc : Thread Cert.Kernel3Ideal.nD Cert.Kernel3Ideal.τ).loc Cert.Kernel3Ideal.main_v81_1)) (v2 : (c : Dev Cert.Kernel3Ideal.nD) → Buf (Elt Ideal) ((c.tc : Thread Cert.Kernel3Ideal.nD Cert.Kernel3Ideal.τ).loc Cert.Kernel3Ideal.main_v81_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v81_0) = v0 c
          ∧ r.2.mem ((c.tc : Thread Cert.Kernel3Ideal.nD Cert.Kernel3Ideal.τ).loc Cert.Kernel3Ideal.main_v81_1) = v1 c
          ∧ r.2.mem ((c.tc : Thread Cert.Kernel3Ideal.nD Cert.Kernel3Ideal.τ).loc Cert.Kernel3Ideal.main_v81_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v230) = v0 c
          ∧ r.2.mem ((c.tc : Thread Cert.Reference3Ideal.nD Cert.Reference3Ideal.τ).loc Cert.Reference3Ideal.main_v231) = v1 c
          ∧ r.2.mem ((c.tc : Thread Cert.Reference3Ideal.nD Cert.Reference3Ideal.τ).loc Cert.Reference3Ideal.main_v232) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S1 : Shape := ⟨1, ![1]⟩
abbrev S16x2304x8192 : Shape := ⟨3, ![16, 2304, 8192]⟩
abbrev S4x64 : Shape := ⟨2, ![4, 64]⟩
abbrev S128 : Shape := ⟨1, ![128]⟩
abbrev S16x2304x1536 : Shape := ⟨3, ![16, 2304, 1536]⟩
abbrev S_ : Shape := ⟨0, ![]⟩

class Facts : Prop where
  slices_S16x2304x8192_S16x2304x1536_0_0_6144 : S16x2304x8192.Slices ![0, 0, 6144] S16x2304x1536
  bitsLt_bf16_f32 : FTy.bits .bf16 < FTy.bits .f32
  bcast_S_S16x2304x1536 : S_.BroadcastsInDim S16x2304x1536 (![] : Fin 0 → Fin S16x2304x1536.rank)
  bcast_S_S4x64 : S_.BroadcastsInDim S4x64 (![] : Fin 0 → Fin S4x64.rank)
  bcast_S_S1 : S_.BroadcastsInDim S1 (![] : Fin 0 → Fin S1.rank)

variable [Facts]

def fn {F : FTy → Type} [FloatOps F] (main_arg0 : FVec F S1 .f32) (main_arg1 : FVec F S16x2304x8192 .bf16) (main_arg2 : FVec F S4x64 .f32) (main_arg3 : FVec F S128 .f32) : IVec S16x2304x1536 1 × IVec S4x64 1 × IVec S1 1 :=
  let main_v0 : FVec F S16x2304x1536 .bf16 := (extractStridedSlice S16x2304x1536 ![0, 0, 6144] · slices_S16x2304x8192_S16x2304x1536_0_0_6144) main_arg1
  let main_v1 : FVec F S16x2304x1536 .f32 := (extf .f32 · bitsLt_bf16_f32) main_v0
  let main_v2 : FVec F S16x2304x1536 .f32 := Host.absf main_v1
  let main_cst : FVec F S_ .f32 := constant S_ .f32 0x7F800000#32
  let main_v3 : FVec F S16x2304x1536 .f32 := broadcastInDim S16x2304x1536 ![] bcast_S_S16x2304x1536 main_cst
  let main_v4 : IVec S16x2304x1536 1 := cmpf .olt main_v2 main_v3
  let main_v5 : FVec F S4x64 .f32 := Host.absf main_arg2
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_v8 : FVec F S1 .f32 := Host.absf main_arg0
  let main_cst_1 : FVec F S_ .f32 := constant S_ .f32 0x7F800000#32
  let main_v9 : FVec F S1 .f32 := broadcastInDim S1 ![] bcast_S_S1 main_cst_1
  let main_v10 : IVec S1 1 := cmpf .olt main_v8 main_v9
  (main_v4, main_v7, main_v10)
-- ==== Pre_finite3.lean ====
abbrev S16x2048x1024 : Shape := ⟨3, ![16, 2048, 1024]⟩
abbrev S16x256x1024 : Shape := ⟨3, ![16, 256, 1024]⟩
abbrev S24x3072 : Shape := ⟨2, ![24, 3072]⟩
abbrev S1024 : Shape := ⟨1, ![1024]⟩
abbrev S1024x8720 : Shape := ⟨2, ![1024, 8720]⟩
abbrev S64 : Shape := ⟨1, ![64]⟩
abbrev S24x2048 : Shape := ⟨2, ![24, 2048]⟩
abbrev S_ : Shape := ⟨0, ![]⟩
abbrev S1024x1024 : Shape := ⟨2, ![1024, 1024]⟩

class Facts : Prop where
  slices_S24x3072_S24x2048_0_0 : S24x3072.Slices ![0, 0] S24x2048
  bcast_S_S24x2048 : S_.BroadcastsInDim S24x2048 (![] : Fin 0 → Fin S24x2048.rank)
  bcast_S_S1024 : S_.BroadcastsInDim S1024 (![] : Fin 0 → Fin S1024.rank)
  slices_S1024x8720_S1024x1024_0_3600 : S1024x8720.Slices ![0, 3600] S1024x1024
  bcast_S_S1024x1024 : S_.BroadcastsInDim S1024x1024 (![] : Fin 0 → Fin S1024x1024.rank)

variable [Facts]

def fn {F : FTy → Type} [FloatOps F] (main_arg0 : FVec F S16x2048x1024 .f32) (main_arg1 : FVec F S16x256x1024 .f32) (main_arg2 : FVec F S24x3072 .f32) (main_arg3 : FVec F S1024 .f32) (main_arg4 : FVec F S1024x8720 .f32) (main_arg5 : FVec F S64 .f32) (main_arg6 : FVec F S64 .f32) : IVec S24x2048 1 × IVec S1024 1 × IVec S1024x1024 1 :=
  let main_v0 : FVec F S24x2048 .f32 := (extractStridedSlice S24x2048 ![0, 0] · slices_S24x3072_S24x2048_0_0) main_arg2
  let main_v1 : FVec F S24x2048 .f32 := Host.absf main_v0
  let main_cst : FVec F S_ .f32 := constant S_ .f32 0x7F800000#32
  let main_v2 : FVec F S24x2048 .f32 := broadcastInDim S24x2048 ![] bcast_S_S24x2048 main_cst
  let main_v3 : IVec S24x2048 1 := cmpf .olt main_v1 main_v2
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x1024 .f32 := (extractStridedSlice S1024x1024 ![0, 3600] · slices_S1024x8720_S1024x1024_0_3600) main_arg4
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v3, main_v6, main_v10)
-- ==== Kernel.lean ====
abbrev S1 : Shape := ⟨1, ![1]⟩
abbrev S16x2304x8192 : Shape := ⟨3, ![16, 2304, 8192]⟩
abbrev S4x64 : Shape := ⟨2, ![4, 64]⟩
abbrev S128 : Shape := ⟨1, ![128]⟩
abbrev S_ : Shape := ⟨0, ![]⟩
abbrev S2 : Shape := ⟨1, ![2]⟩
abbrev S1x128 : Shape := ⟨2, ![1, 128]⟩
abbrev S16x2304x512 : Shape := ⟨3, ![16, 2304, 512]⟩
abbrev S1x256x512 : Shape := ⟨3, ![1, 256, 512]⟩
abbrev S1x2304x512 : Shape := ⟨3, ![1, 2304, 512]⟩
abbrev S2304x1024 : Shape := ⟨2, ![2304, 1024]⟩
abbrev S1x64 : Shape := ⟨2, ![1, 64]⟩
abbrev S1x1 : Shape := ⟨2, ![1, 1]⟩
abbrev S1x2304x128 : Shape := ⟨3, ![1, 2304, 128]⟩
abbrev S2304x128 : Shape := ⟨2, ![2304, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x768x128 : Shape := ⟨3, ![1, 768, 128]⟩
abbrev S768x128 : Shape := ⟨2, ![768, 128]⟩
abbrev S256x768 : Shape := ⟨2, ![256, 768]⟩
abbrev S768x256 : Shape := ⟨2, ![768, 256]⟩

abbrev nBuf : Space → Nat
  | .hbm => 10
  | .vmem => 11
  | .smem => 1
  | _ => 0

abbrev bufTy : (tb : Table) → Fin (tcTables nBuf tb) → BufTy
  | .hbm, ⟨0, _⟩ => ⟨S1, .f32⟩
  | .hbm, ⟨1, _⟩ => ⟨S16x2304x8192, .bf16⟩
  | .hbm, ⟨2, _⟩ => ⟨S4x64, .f32⟩
  | .hbm, ⟨3, _⟩ => ⟨S128, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S2, .f32⟩
  | .hbm, ⟨8, _⟩ => ⟨S1x128, .f32⟩
  | .hbm, ⟨9, _⟩ => ⟨S16x2304x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2304x512, .bf16⟩
  | .local _ .vmem, ⟨6, _⟩ => ⟨S4x64, .f32⟩
  | .local _ .vmem, ⟨7, _⟩ => ⟨S1x128, .f32⟩
  | .local _ .vmem, ⟨8, _⟩ => ⟨S1x256x512, .bf16⟩
  | .local _ .vmem, ⟨9, _⟩ => ⟨S1x256x512, .bf16⟩
  | .local _ .vmem, ⟨10, _⟩ => ⟨S2304x1024, .bf16⟩
  | .local _ .smem, ⟨0, _⟩ => ⟨S2, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 9], ![false, false, false]⟩

def k0_cond2 (i : grid0.Coords) : BitVec 1 :=
  let arg2 : BitVec 32 := BitVec.ofNat 32 (i 2).val
  let c1_i32 : BitVec 32 := 1#32
  let v21 : BitVec 1 := Scalar.cmpi .slt arg2 c1_i32
  let v22 : BitVec 32 := Scalar.extui v21
  let c0_i32_4 : BitVec 32 := 0#32
  let v23 : BitVec 1 := Scalar.cmpi .ne v22 c0_i32_4
  v23

def k0_cond3 (i : grid0.Coords) : BitVec 1 :=
  let arg2 : BitVec 32 := BitVec.ofNat 32 (i 2).val
  let c1_i32_5 : BitVec 32 := 1#32
  let v24 : BitVec 1 := Scalar.cmpi .sge arg2 c1_i32_5
  let v25 : BitVec 32 := Scalar.extui v24
  let c0_i32_6 : BitVec 32 := 0#32
  let v26 : BitVec 1 := Scalar.cmpi .ne v25 c0_i32_6
  v26

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, arg2.toNat, c12_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c13_i32 : BitVec 32 := 13#32
  let c0_i32_0 : BitVec 32 := 0#32
  ![arg0.toNat, c0_i32.toNat, c13_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c14_i32 : BitVec 32 := 14#32
  let c0_i32_0 : BitVec 32 := 0#32
  ![arg0.toNat, c0_i32.toNat, c14_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]
-- ==== ReferenceIdeal.lean ====
abbrev S1 : Shape := ⟨1, ![1]⟩
abbrev S16x2304x8192 : Shape := ⟨3, ![16, 2304, 8192]⟩
abbrev S4x64 : Shape := ⟨2, ![4, 64]⟩
abbrev S128 : Shape := ⟨1, ![128]⟩
abbrev S16x2304x512 : Shape := ⟨3, ![16, 2304, 512]⟩
abbrev S16x2304x4x2x64 : Shape := ⟨5, ![16, 2304, 4, 2, 64]⟩
abbrev S16x2304x4x128 : Shape := ⟨4, ![16, 2304, 4, 128]⟩
abbrev S1x64 : Shape := ⟨2, ![1, 64]⟩
abbrev S64 : Shape := ⟨1, ![64]⟩
abbrev S_ : Shape := ⟨0, ![]⟩
abbrev S16x256x4x2x64 : Shape := ⟨5, ![16, 256, 4, 2, 64]⟩
abbrev S16x256x4x128 : Shape := ⟨4, ![16, 256, 4, 128]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x1x4x256x256 : Shape := ⟨5, ![16, 1, 4, 256, 256]⟩
abbrev S16x4x256x256 : Shape := ⟨4, ![16, 4, 256, 256]⟩
abbrev S16x4x128x256 : Shape := ⟨4, ![16, 4, 128, 256]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S16x256x512 : Shape := ⟨3, ![16, 256, 512]⟩
abbrev S16x2048x4x2x64 : Shape := ⟨5, ![16, 2048, 4, 2, 64]⟩
abbrev S16x2x4x2048x2304 : Shape := ⟨5, ![16, 2, 4, 2048, 2304]⟩
abbrev S16x2x4x2048 : Shape := ⟨4, ![16, 2, 4, 2048]⟩
abbrev S16x2x4x2048x1 : Shape := ⟨5, ![16, 2, 4, 2048, 1]⟩
abbrev S16x1x4x2048x2304 : Shape := ⟨5, ![16, 1, 4, 2048, 2304]⟩
abbrev S16x4x2048x2304 : Shape := ⟨4, ![16, 4, 2048, 2304]⟩
abbrev S16x4x128x2048 : Shape := ⟨4, ![16, 4, 128, 2048]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S16x2048x512 : Shape := ⟨3, ![16, 2048, 512]⟩

abbrev nBuf : Space → Nat
  | .hbm => 128
  | .vmem => 0
  | .smem => 0
  | _ => 0

abbrev bufTy : (tb : Table) → Fin (tcTables nBuf tb) → BufTy
  | .hbm, ⟨0, _⟩ => ⟨S1, .f32⟩
  | .hbm, ⟨1, _⟩ => ⟨S16x2304x8192, .bf16⟩
  | .hbm, ⟨2, _⟩ => ⟨S4x64, .f32⟩
  | .hbm, ⟨3, _⟩ => ⟨S128, .f32⟩
  | .hbm, ⟨4, _⟩ => ⟨S16x2304x8192, .f32⟩
  | .hbm, ⟨5, _⟩ => ⟨S16x2304x512, .f32⟩
  | .hbm, ⟨6, _⟩ => ⟨S16x2304x4x2x64, .f32⟩
  | .hbm, ⟨7, _⟩ => ⟨S16x2304x512, .f32⟩
  | .hbm, ⟨8, _⟩ => ⟨S16x2304x4x2x64, .f32⟩
  | .hbm, ⟨9, _⟩ => ⟨S16x2304x512, .f32⟩
  | .hbm, ⟨10, _⟩ => ⟨S16x2304x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x256x4x2x64, .f32⟩
  | .hbm, ⟨31, _⟩ => ⟨S16x256x4x2x64, .f32⟩
  | .hbm, ⟨32, _⟩ => ⟨S16x256x4x128, .f32⟩
  | .hbm, ⟨33, _⟩ => ⟨S16x2x4x256x256, .f32⟩
  | .hbm, ⟨34, _⟩ => ⟨S_, .f32⟩
  | .hbm, ⟨35, _⟩ => ⟨S16x2x4x256, .f32⟩
  | .hbm, ⟨36, _⟩ => ⟨S_, .f32⟩
  | .hbm, ⟨37, _⟩ => ⟨S16x2x4x256, .f32⟩
  | .hbm, ⟨38, _⟩ => ⟨S16x2x4x256, .f32⟩
  | .hbm, ⟨39, _⟩ => ⟨S16x2x4x256x1, .f32⟩
  | .hbm, ⟨40, _⟩ => ⟨S16x2x4x256x256, .f32⟩
  | .hbm, ⟨41, _⟩ => ⟨S16x2x4x256x256, .f32⟩
  | .hbm, ⟨42, _⟩ => ⟨S16x2x4x256x256, .f32⟩
  | .hbm, ⟨43, _⟩ => ⟨S_, .f32⟩
  | .hbm, ⟨44, _⟩ => ⟨S16x2x4x256, .f32⟩
  | .hbm, ⟨45, _⟩ => ⟨S16x2x4x256x1, .f32⟩
  | .hbm, ⟨46, _⟩ => ⟨S16x2x4x256x256, .f32⟩
  | .hbm, ⟨47, _⟩ => ⟨S16x2x4x256x256, .f32⟩
  | .hbm, ⟨48, _⟩ => ⟨S16x1x4x256x256, .f32⟩
  | .hbm, ⟨49, _⟩ => ⟨S16x4x256x256, .f32⟩
  | .hbm, ⟨50, _⟩ => ⟨S16x1x4x256x256, .f32⟩
  | .hbm, ⟨51, _⟩ => ⟨S16x4x256x256, .f32⟩
  | .hbm, ⟨52, _⟩ => ⟨S16x4x256x256, .f32⟩
  | .hbm, ⟨53, _⟩ => ⟨S16x4x256x256, .f32⟩
  | .hbm, ⟨54, _⟩ => ⟨S16x4x256x256, .f32⟩
  | .hbm, ⟨55, _⟩ => ⟨S16x4x128x256, .f32⟩
  | .hbm, ⟨56, _⟩ => ⟨S16x256x4x128, .f32⟩
  | .hbm, ⟨57, _⟩ => ⟨S16x256x4x128, .f32⟩
  | .hbm, ⟨58, _⟩ => ⟨S_, .f32⟩
  | .hbm, ⟨59, _⟩ => ⟨S16x256x4, .f32⟩
  | .hbm, ⟨60, _⟩ => ⟨S16x256x4x1, .f32⟩
  | .hbm, ⟨61, _⟩ => ⟨S_, .f32⟩
  | .hbm, ⟨62, _⟩ => ⟨S16x256x4x1, .f32⟩
  | .hbm, ⟨63, _⟩ => ⟨S16x256x4x1, .f32⟩
  | .hbm, ⟨64, _⟩ => ⟨S_, .f32⟩
  | .hbm, ⟨65, _⟩ => ⟨S16x256x4x1, .f32⟩
  | .hbm, ⟨66, _⟩ => ⟨S16x256x4x1, .f32⟩
  | .hbm, ⟨67, _⟩ => ⟨S16x256x4x1, .f32⟩
  | .hbm, ⟨68, _⟩ => ⟨S16x256x4x128, .f32⟩
  | .hbm, ⟨69, _⟩ => ⟨S16x256x4x128, .f32⟩
  | .hbm, ⟨70, _⟩ => ⟨S1x1x1x128, .f32⟩
  | .hbm, ⟨71, _⟩ => ⟨S16x256x4x128, .f32⟩
  | .hbm, ⟨72, _⟩ => ⟨S16x256x4x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16x256x4x128, .f32⟩
  | .hbm, ⟨77, _⟩ => ⟨S16x256x4x128, .f32⟩
  | .hbm, ⟨78, _⟩ => ⟨S16x256x512, .f32⟩
  | .hbm, ⟨79, _⟩ => ⟨S16x2048x4x2x64, .f32⟩
  | .hbm, ⟨80, _⟩ => ⟨S16x2x4x2048x2304, .f32⟩
  | .hbm, ⟨81, _⟩ => ⟨S_, .f32⟩
  | .hbm, ⟨82, _⟩ => ⟨S16x2x4x2048, .f32⟩
  | .hbm, ⟨83, _⟩ => ⟨S_, .f32⟩
  | .hbm, ⟨84, _⟩ => ⟨S16x2x4x2048, .f32⟩
  | .hbm, ⟨85, _⟩ => ⟨S16x2x4x2048, .f32⟩
  | .hbm, ⟨86, _⟩ => ⟨S16x2x4x2048x1, .f32⟩
  | .hbm, ⟨87, _⟩ => ⟨S16x2x4x2048x2304, .f32⟩
  | .hbm, ⟨88, _⟩ => ⟨S16x2x4x2048x2304, .f32⟩
  | .hbm, ⟨89, _⟩ => ⟨S16x2x4x2048x2304, .f32⟩
  | .hbm, ⟨90, _⟩ => ⟨S_, .f32⟩
  | .hbm, ⟨91, _⟩ => ⟨S16x2x4x2048, .f32⟩
  | .hbm, ⟨92, _⟩ => ⟨S16x2x4x2048x1, .f32⟩
  | .hbm, ⟨93, _⟩ => ⟨S16x2x4x2048x2304, .f32⟩
  | .hbm, ⟨94, _⟩ => ⟨S16x2x4x2048x2304, .f32⟩
  | .hbm, ⟨95, _⟩ => ⟨S16x1x4x2048x2304, .f32⟩
  | .hbm, ⟨96, _⟩ => ⟨S16x4x2048x2304, .f32⟩
  | .hbm, ⟨97, _⟩ => ⟨S16x1x4x2048x2304, .f32⟩
  | .hbm, ⟨98, _⟩ => ⟨S16x4x2048x2304, .f32⟩
  | .hbm, ⟨99, _⟩ => ⟨S16x4x2048x2304, .f32⟩
  | .hbm, ⟨100, _⟩ => ⟨S16x4x2048x2304, .f32⟩
  | .hbm, ⟨101, _⟩ => ⟨S16x4x2048x2304, .f32⟩
  | .hbm, ⟨102, _⟩ => ⟨S16x4x128x2048, .f32⟩
  | .hbm, ⟨103, _⟩ => ⟨S16x2048x4x128, .f32⟩
  | .hbm, ⟨104, _⟩ => ⟨S16x2048x4x128, .f32⟩
  | .hbm, ⟨105, _⟩ => ⟨S_, .f32⟩
  | .hbm, ⟨106, _⟩ => ⟨S16x2048x4, .f32⟩
  | .hbm, ⟨107, _⟩ => ⟨S16x2048x4x1, .f32⟩
  | .hbm, ⟨108, _⟩ => ⟨S_, .f32⟩
  | .hbm, ⟨109, _⟩ => ⟨S16x2048x4x1, .f32⟩
  | .hbm, ⟨110, _⟩ => ⟨S16x2048x4x1, .f32⟩
  | .hbm, ⟨111, _⟩ => ⟨S_, .f32⟩
  | .hbm, ⟨112, _⟩ => ⟨S16x2048x4x1, .f32⟩
  | .hbm, ⟨113, _⟩ => ⟨S16x2048x4x1, .f32⟩
  | .hbm, ⟨114, _⟩ => ⟨S16x2048x4x1, .f32⟩
  | .hbm, ⟨115, _⟩ => ⟨S16x2048x4x128, .f32⟩
  | .hbm, ⟨116, _⟩ => ⟨S16x2048x4x128, .f32⟩
  | .hbm, ⟨117, _⟩ => ⟨S1x1x1x128, .f32⟩
  | .hbm, ⟨118, _⟩ => ⟨S16x2048x4x128, .f32⟩
  | .hbm, ⟨119, _⟩ => ⟨S16x2048x4x128, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S16x2048x4x128, .f32⟩
  | .hbm, ⟨124, _⟩ => ⟨S16x2048x4x128, .f32⟩
  | .hbm, ⟨125, _⟩ => ⟨S16x2048x512, .f32⟩
  | .hbm, ⟨126, _⟩ => ⟨S16x2304x512, .f32⟩
  | .hbm, ⟨127, _⟩ => ⟨S16x2304x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_10 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_11 : Ref sig .tc := ⟨.hbm, 105, rfl⟩
abbrev main_v89 : Ref sig .tc := ⟨.hbm, 106, rfl⟩
abbrev main_v90 : Ref sig .tc := ⟨.hbm, 107, rfl⟩
abbrev main_cst_12 : Ref sig .tc := ⟨.hbm, 108, rfl⟩
abbrev main_v91 : Ref sig .tc := ⟨.hbm, 109, rfl⟩
abbrev main_v92 : Ref sig .tc := ⟨.hbm, 110, rfl⟩
abbrev main_cst_13 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_14 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== Kernel2.lean ====
abbrev S16x2304x1024 : Shape := ⟨3, ![16, 2304, 1024]⟩
abbrev S24x3072 : Shape := ⟨2, ![24, 3072]⟩
abbrev S4x144x16x16x128 : Shape := ⟨5, ![4, 144, 16, 16, 128]⟩
abbrev S16x2304x512 : Shape := ⟨3, ![16, 2304, 512]⟩
abbrev S16x2304x8192 : Shape := ⟨3, ![16, 2304, 8192]⟩
abbrev S512x1024 : Shape := ⟨2, ![512, 1024]⟩
abbrev S1024 : Shape := ⟨1, ![1024]⟩
abbrev S1024x1024 : Shape := ⟨2, ![1024, 1024]⟩
abbrev S24x1x3072 : Shape := ⟨3, ![24, 1, 3072]⟩
abbrev S1x1024 : Shape := ⟨2, ![1, 1024]⟩
abbrev S16x2048x1024 : Shape := ⟨3, ![16, 2048, 1024]⟩
abbrev S1x256x1024 : Shape := ⟨3, ![1, 256, 1024]⟩
abbrev S1x1x3072 : Shape := ⟨3, ![1, 1, 3072]⟩
abbrev S4x16x1x16x128 : Shape := ⟨5, ![4, 16, 1, 16, 128]⟩
abbrev S1x256x512 : Shape := ⟨3, ![1, 256, 512]⟩
abbrev S1x256x3072 : Shape := ⟨3, ![1, 256, 3072]⟩
abbrev S1x16x1x16x128 : Shape := ⟨5, ![1, 16, 1, 16, 128]⟩
abbrev S16x16x128 : Shape := ⟨3, ![16, 16, 128]⟩
abbrev S256x128 : Shape := ⟨2, ![256, 128]⟩
abbrev S256x512 : Shape := ⟨2, ![256, 512]⟩
abbrev S256x1024 : Shape := ⟨2, ![256, 1024]⟩
abbrev S256x3072 : Shape := ⟨2, ![256, 3072]⟩
abbrev S1x1x1024 : Shape := ⟨3, ![1, 1, 1024]⟩

abbrev nBuf : Space → Nat
  | .hbm => 20
  | .vmem => 26
  | .smem => 0
  | _ => 0

abbrev bufTy : (tb : Table) → Fin (tcTables nBuf tb) → BufTy
  | .hbm, ⟨0, _⟩ => ⟨S16x2304x1024, .f32⟩
  | .hbm, ⟨1, _⟩ => ⟨S24x3072, .f32⟩
  | .hbm, ⟨2, _⟩ => ⟨S4x144x16x16x128, .bf16⟩
  | .hbm, ⟨3, _⟩ => ⟨S16x2304x512, .bf16⟩
  | .hbm, ⟨4, _⟩ => ⟨S16x2304x512, .bf16⟩
  | .hbm, ⟨5, _⟩ => ⟨S16x2304x8192, .bf16⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S24x1x3072, .f32⟩
  | .hbm, ⟨13, _⟩ => ⟨S512x1024, .bf16⟩
  | .hbm, ⟨14, _⟩ => ⟨S1x1024, .f32⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S4x16x1x16x128, .bf16⟩
  | .local _ .vmem, ⟨5, _⟩ => ⟨S4x16x1x16x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x3072, .bf16⟩
  | .local _ .vmem, ⟨17, _⟩ => ⟨S1x256x3072, .bf16⟩
  | .local _ .vmem, ⟨18, _⟩ => ⟨S512x1024, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c16_i32 : BitVec 32 := 16#32
  let v2 : BitVec 32 := Scalar.select v1 c16_i32 arg0
  let c0_i32 : BitVec 32 := 0#32
  let c0_i32_1 : BitVec 32 := 0#32
  let c0_i32_2 : BitVec 32 := 0#32
  ![v2.toNat, c0_i32.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  ![c0_i32.toNat, v0.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c6_i32 : BitVec 32 := 6#32
  let c0_i32 : BitVec 32 := 0#32
  ![arg0.toNat, v0.toNat, c6_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c11_i32 : BitVec 32 := 11#32
  let c0_i32 : BitVec 32 := 0#32
  ![arg0.toNat, v0.toNat, c11_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let c0_i32 : BitVec 32 := 0#32
  ![arg0.toNat, v0.toNat, c15_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16x2304x1024 : Shape := ⟨3, ![16, 2304, 1024]⟩
abbrev S24x3072 : Shape := ⟨2, ![24, 3072]⟩
abbrev S4x144x16x16x128 : Shape := ⟨5, ![4, 144, 16, 16, 128]⟩
abbrev S16x2304x512 : Shape := ⟨3, ![16, 2304, 512]⟩
abbrev S16x2304x8192 : Shape := ⟨3, ![16, 2304, 8192]⟩
abbrev S512x1024 : Shape := ⟨2, ![512, 1024]⟩
abbrev S1024 : Shape := ⟨1, ![1024]⟩
abbrev S1024x1024 : Shape := ⟨2, ![1024, 1024]⟩
abbrev S16x2048x8192 : Shape := ⟨3, ![16, 2048, 8192]⟩
abbrev S16x144x16x4x128 : Shape := ⟨5, ![16, 144, 16, 4, 128]⟩
abbrev S16x2048x512 : Shape := ⟨3, ![16, 2048, 512]⟩
abbrev S_ : Shape := ⟨0, ![]⟩
abbrev S16x2048x1024 : Shape := ⟨3, ![16, 2048, 1024]⟩
abbrev S1x1x1024 : Shape := ⟨3, ![1, 1, 1024]⟩
abbrev S16x2048x3072 : Shape := ⟨3, ![16, 2048, 3072]⟩
abbrev S16x1024 : Shape := ⟨2, ![16, 1024]⟩
abbrev S16x1x1024 : Shape := ⟨3, ![16, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S24x3072, .f32⟩
  | .hbm, ⟨2, _⟩ => ⟨S4x144x16x16x128, .bf16⟩
  | .hbm, ⟨3, _⟩ => ⟨S16x2304x512, .bf16⟩
  | .hbm, ⟨4, _⟩ => ⟨S16x2304x512, .bf16⟩
  | .hbm, ⟨5, _⟩ => ⟨S16x2304x8192, .bf16⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S16x2048x8192, .bf16⟩
  | .hbm, ⟨13, _⟩ => ⟨S16x2048x8192, .f32⟩
  | .hbm, ⟨14, _⟩ => ⟨S4x144x16x16x128, .f32⟩
  | .hbm, ⟨15, _⟩ => ⟨S16x144x16x4x128, .f32⟩
  | .hbm, ⟨16, _⟩ => ⟨S16x2304x512, .f32⟩
  | .hbm, ⟨17, _⟩ => ⟨S16x2048x512, .f32⟩
  | .hbm, ⟨18, _⟩ => ⟨S16x2048x512, .f32⟩
  | .hbm, ⟨19, _⟩ => ⟨S16x2048x512, .f32⟩
  | .hbm, ⟨20, _⟩ => ⟨S_, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S_, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S_, .f32⟩
  | .hbm, ⟨29, _⟩ => ⟨S16x2048x512, .f32⟩
  | .hbm, ⟨30, _⟩ => ⟨S16x2048x512, .f32⟩
  | .hbm, ⟨31, _⟩ => ⟨S_, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S16x2048x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S_, .f32⟩
  | .hbm, ⟨44, _⟩ => ⟨S16x2048x512, .f32⟩
  | .hbm, ⟨45, _⟩ => ⟨S16x2048x512, .f32⟩
  | .hbm, ⟨46, _⟩ => ⟨S_, .f32⟩
  | .hbm, ⟨47, _⟩ => ⟨S16x2048x512, .f32⟩
  | .hbm, ⟨48, _⟩ => ⟨S16x2048x512, .f32⟩
  | .hbm, ⟨49, _⟩ => ⟨S16x2048x512, .f32⟩
  | .hbm, ⟨50, _⟩ => ⟨S16x2048x512, .bf16⟩
  | .hbm, ⟨51, _⟩ => ⟨S16x2048x512, .f32⟩
  | .hbm, ⟨52, _⟩ => ⟨S16x2048x512, .bf16⟩
  | .hbm, ⟨53, _⟩ => ⟨S16x2048x512, .f32⟩
  | .hbm, ⟨54, _⟩ => ⟨S16x2048x512, .f32⟩
  | .hbm, ⟨55, _⟩ => ⟨S16x2048x512, .f32⟩
  | .hbm, ⟨56, _⟩ => ⟨S16x2048x512, .f32⟩
  | .hbm, ⟨57, _⟩ => ⟨S16x2048x3072, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x512, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048x1024, .f32⟩
  | .hbm, ⟨66, _⟩ => ⟨S16x2048x1024, .f32⟩
  | .hbm, ⟨67, _⟩ => ⟨S16x2048x512, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x512, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S16x1024, .f32⟩
  | .hbm, ⟨77, _⟩ => ⟨S16x1x1024, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x256x1024 : Shape := ⟨3, ![16, 256, 1024]⟩
abbrev S24x3072 : Shape := ⟨2, ![24, 3072]⟩
abbrev S1024 : Shape := ⟨1, ![1024]⟩
abbrev S1024x8720 : Shape := ⟨2, ![1024, 8720]⟩
abbrev S64 : Shape := ⟨1, ![64]⟩
abbrev S16x2304x1024 : Shape := ⟨3, ![16, 2304, 1024]⟩
abbrev S24x1x3072 : Shape := ⟨3, ![24, 1, 3072]⟩
abbrev S1024x3072 : Shape := ⟨2, ![1024, 3072]⟩
abbrev S1024x2048 : Shape := ⟨2, ![1024, 2048]⟩
abbrev S1024x8192 : Shape := ⟨2, ![1024, 8192]⟩
abbrev S1024x512 : Shape := ⟨2, ![1024, 512]⟩
abbrev S1024x16 : Shape := ⟨2, ![1024, 16]⟩
abbrev S16x1024 : Shape := ⟨2, ![16, 1024]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x64 : Shape := ⟨2, ![256, 64]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S16x2304x8192 : Shape := ⟨3, ![16, 2304, 8192]⟩
abbrev S4x144x16x16x128 : Shape := ⟨5, ![4, 144, 16, 16, 128]⟩
abbrev S16x16x2304 : Shape := ⟨3, ![16, 16, 2304]⟩
abbrev S1x256x1024 : Shape := ⟨3, ![1, 256, 1024]⟩
abbrev S1x1x3072 : Shape := ⟨3, ![1, 1, 3072]⟩
abbrev S256x128 : Shape := ⟨2, ![256, 128]⟩
abbrev S1x256x8192 : Shape := ⟨3, ![1, 256, 8192]⟩
abbrev S4x16x1x16x128 : Shape := ⟨5, ![4, 16, 1, 16, 128]⟩
abbrev S1x16x256 : Shape := ⟨3, ![1, 16, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x512 : Shape := ⟨2, ![256, 512]⟩
abbrev S1x256x512 : Shape := ⟨3, ![1, 256, 512]⟩
abbrev S1x128 : Shape := ⟨2, ![1, 128]⟩
abbrev S1024x256 : Shape := ⟨2, ![1024, 256]⟩
abbrev S16x16x128 : Shape := ⟨3, ![16, 16, 128]⟩
abbrev S1x16x1x16x128 : Shape := ⟨5, ![1, 16, 1, 16, 128]⟩
abbrev S16x256 : Shape := ⟨2, ![16, 256]⟩

abbrev nBuf : Space → Nat
  | .hbm => 104
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x3072, .f32⟩
  | .hbm, ⟨3, _⟩ => ⟨S1024, .f32⟩
  | .hbm, ⟨4, _⟩ => ⟨S1024x8720, .f32⟩
  | .hbm, ⟨5, _⟩ => ⟨S64, .f32⟩
  | .hbm, ⟨6, _⟩ => ⟨S64, .f32⟩
  | .hbm, ⟨7, _⟩ => ⟨S16x2304x1024, .f32⟩
  | .hbm, ⟨8, _⟩ => ⟨S24x1x3072, .f32⟩
  | .hbm, ⟨9, _⟩ => ⟨S1024x3072, .f32⟩
  | .hbm, ⟨10, _⟩ => ⟨S1024x3072, .f32⟩
  | .hbm, ⟨11, _⟩ => ⟨S1024x2048, .f32⟩
  | .hbm, ⟨12, _⟩ => ⟨S1024x8192, .f32⟩
  | .hbm, ⟨13, _⟩ => ⟨S1024x8192, .bf16⟩
  | .hbm, ⟨14, _⟩ => ⟨S1024x512, .f32⟩
  | .hbm, ⟨15, _⟩ => ⟨S1024x512, .bf16⟩
  | .hbm, ⟨16, _⟩ => ⟨S1024x16, .f32⟩
  | .hbm, ⟨17, _⟩ => ⟨S16x1024, .f32⟩
  | .hbm, ⟨18, _⟩ => ⟨S16x1024, .bf16⟩
  | .hbm, ⟨19, _⟩ => ⟨S32, .i32⟩
  | .hbm, ⟨20, _⟩ => ⟨S32x64, .i32⟩
  | .hbm, ⟨21, _⟩ => ⟨S2048, .i32⟩
  | .hbm, ⟨22, _⟩ => ⟨S2048, .f32⟩
  | .hbm, ⟨23, _⟩ => ⟨S64, .i32⟩
  | .hbm, ⟨24, _⟩ => ⟨S1x64, .i32⟩
  | .hbm, ⟨25, _⟩ => ⟨S32x64, .i32⟩
  | .hbm, ⟨26, _⟩ => ⟨S2048, .i32⟩
  | .hbm, ⟨27, _⟩ => ⟨S2048, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x1, .f32⟩
  | .hbm, ⟨48, _⟩ => ⟨S1x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x64, .f32⟩
  | .hbm, ⟨57, _⟩ => ⟨S2048x16, .f32⟩
  | .hbm, ⟨58, _⟩ => ⟨S2048x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S2048x64, .f32⟩
  | .hbm, ⟨64, _⟩ => ⟨S_, .f32⟩
  | .hbm, ⟨65, _⟩ => ⟨S256x64, .f32⟩
  | .hbm, ⟨66, _⟩ => ⟨S2304x64, .f32⟩
  | .hbm, ⟨67, _⟩ => ⟨S_, .f32⟩
  | .hbm, ⟨68, _⟩ => ⟨S256x64, .f32⟩
  | .hbm, ⟨69, _⟩ => ⟨S2304x64, .f32⟩
  | .hbm, ⟨70, _⟩ => ⟨S1x2304x1x64, .f32⟩
  | .hbm, ⟨71, _⟩ => ⟨S1x2304x2x64, .f32⟩
  | .hbm, ⟨72, _⟩ => ⟨S2304x128, .f32⟩
  | .hbm, ⟨73, _⟩ => ⟨S1x2304x1x64, .f32⟩
  | .hbm, ⟨74, _⟩ => ⟨S1x2304x2x64, .f32⟩
  | .hbm, ⟨75, _⟩ => ⟨S2304x128, .f32⟩
  | .hbm, ⟨76, _⟩ => ⟨S4x4, .i32⟩
  | .hbm, ⟨77, _⟩ => ⟨S4x4, .i32⟩
  | .hbm, ⟨78, _⟩ => ⟨S_, .i32⟩
  | .hbm, ⟨79, _⟩ => ⟨S4x4, .i32⟩
  | .hbm, ⟨80, _⟩ => ⟨S4x4, .i32⟩
  | .hbm, ⟨81, _⟩ => ⟨S4x4, .i1⟩
  | .hbm, ⟨82, _⟩ => ⟨S4x4, .f32⟩
  | .hbm, ⟨83, _⟩ => ⟨S_, .f32⟩
  | .hbm, ⟨84, _⟩ => ⟨S64x64, .f32⟩
  | .hbm, ⟨85, _⟩ => ⟨S4x1x4x1, .f32⟩
  | .hbm, ⟨86, _⟩ => ⟨S1x64x1x64, .f32⟩
  | .hbm, ⟨87, _⟩ => ⟨S4x64x4x64, .f32⟩
  | .hbm, ⟨88, _⟩ => ⟨S4x64x4x64, .f32⟩
  | .hbm, ⟨89, _⟩ => ⟨S4x64x4x64, .f32⟩
  | .hbm, ⟨90, _⟩ => ⟨S256x256, .f32⟩
  | .hbm, ⟨91, _⟩ => ⟨S256x256, .bf16⟩
  | .hbm, ⟨92, _⟩ => ⟨S1x64, .f32⟩
  | .hbm, ⟨93, _⟩ => ⟨S8x64, .f32⟩
  | .hbm, ⟨94, _⟩ => ⟨S512, .f32⟩
  | .hbm, ⟨95, _⟩ => ⟨S1x512, .f32⟩
  | .hbm, ⟨96, _⟩ => ⟨S1x64, .f32⟩
  | .hbm, ⟨97, _⟩ => ⟨S8x64, .f32⟩
  | .hbm, ⟨98, _⟩ => ⟨S512, .f32⟩
  | .hbm, ⟨99, _⟩ => ⟨S1x512, .f32⟩
  | .hbm, ⟨100, _⟩ => ⟨S1x1024, .f32⟩
  | .hbm, ⟨101, _⟩ => ⟨S16x2304x8192, .bf16⟩
  | .hbm, ⟨102, _⟩ => ⟨S4x144x16x16x128, .bf16⟩
  | .hbm, ⟨103, _⟩ => ⟨S16x16x2304, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x8192, .bf16⟩
  | .local _ .vmem, ⟨6, _⟩ => ⟨S1024x512, .bf16⟩
  | .local _ .vmem, ⟨7, _⟩ => ⟨S16x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x512, .f32⟩
  | .local _ .vmem, ⟨13, _⟩ => ⟨S1x512, .f32⟩
  | .local _ .vmem, ⟨14, _⟩ => ⟨S256x256, .bf16⟩
  | .local _ .vmem, ⟨15, _⟩ => ⟨S1x256x8192, .bf16⟩
  | .local _ .vmem, ⟨16, _⟩ => ⟨S1x256x8192, .bf16⟩
  | .local _ .vmem, ⟨17, _⟩ => ⟨S4x16x1x16x128, .bf16⟩
  | .local _ .vmem, ⟨18, _⟩ => ⟨S4x16x1x16x128, .bf16⟩
  | .local _ .vmem, ⟨19, _⟩ => ⟨S1x16x256, .f32⟩
  | .local _ .vmem, ⟨20, _⟩ => ⟨S1x16x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81_0 : Ref sig .tc := ⟨.hbm, 101, rfl⟩
abbrev main_v81_1 : Ref sig .tc := ⟨.hbm, 102, rfl⟩
abbrev main_v81_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x16x1x16x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x2048x1024 : Shape := ⟨3, ![16, 2048, 1024]⟩
abbrev S16x256x1024 : Shape := ⟨3, ![16, 256, 1024]⟩
abbrev S24x3072 : Shape := ⟨2, ![24, 3072]⟩
abbrev S1024 : Shape := ⟨1, ![1024]⟩
abbrev S1024x8720 : Shape := ⟨2, ![1024, 8720]⟩
abbrev S64 : Shape := ⟨1, ![64]⟩
abbrev S16x1024 : Shape := ⟨2, ![16, 1024]⟩
abbrev S16x1x1024 : Shape := ⟨3, ![16, 1, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x256x8720 : Shape := ⟨3, ![16, 256, 8720]⟩
abbrev S16x2048x8720 : Shape := ⟨3, ![16, 2048, 8720]⟩
abbrev S16x2304x8720 : Shape := ⟨3, ![16, 2304, 8720]⟩
abbrev S16x2304x512 : Shape := ⟨3, ![16, 2304, 512]⟩
abbrev S16x2304x1024 : Shape := ⟨3, ![16, 2304, 1024]⟩
abbrev S16x2304x16 : Shape := ⟨3, ![16, 2304, 16]⟩
abbrev S16x2304x3072 : Shape := ⟨3, ![16, 2304, 3072]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x1x16 : Shape := ⟨4, ![2048, 1, 1, 16]⟩
abbrev S16x2304x4x2x64 : Shape := ⟨5, ![16, 2304, 4, 2, 64]⟩
abbrev S16x2304x4x2 : Shape := ⟨4, ![16, 2304, 4, 2]⟩
abbrev S16x2304x4x2x1 : Shape := ⟨5, ![16, 2304, 4, 2, 1]⟩
abbrev S1x1x1x1x64 : Shape := ⟨5, ![1, 1, 1, 1, 64]⟩
abbrev S16x256x4x2x64 : Shape := ⟨5, ![16, 256, 4, 2, 64]⟩
abbrev S16x2048x4x2x64 : Shape := ⟨5, ![16, 2048, 4, 2, 64]⟩
abbrev S16x2048x4x2x32 : Shape := ⟨5, ![16, 2048, 4, 2, 32]⟩
abbrev S16x2048x4x2x16 : Shape := ⟨5, ![16, 2048, 4, 2, 16]⟩
abbrev S1x2048x1x1x16 : Shape := ⟨5, ![1, 2048, 1, 1, 16]⟩
abbrev S16x2304x8192 : Shape := ⟨3, ![16, 2304, 8192]⟩
abbrev S16x144x16x4x128 : Shape := ⟨5, ![16, 144, 16, 4, 128]⟩
abbrev S4x144x16x16x128 : Shape := ⟨5, ![4, 144, 16, 16, 128]⟩
abbrev S16x16x2304 : Shape := ⟨3, ![16, 16, 2304]⟩

abbrev nBuf : Space → Nat
  | .hbm => 287
  | .vmem => 0
  | .smem => 0
  | _ => 0

abbrev hbmTy0_0 (i : Nat) : BufTy := match i % 128 with
  | 0 => ⟨S16x2048x1024, .f32⟩
  | 1 => ⟨S16x256x1024, .f32⟩
  | 2 => ⟨S24x3072, .f32⟩
  | 3 => ⟨S1024, .f32⟩
  | 4 => ⟨S1024x8720, .f32⟩
  | 5 => ⟨S64, .f32⟩
  | 6 => ⟨S64, .f32⟩
  | 7 => ⟨S16x1024, .f32⟩
  | 8 => ⟨S16x1x1024, .f32⟩
  | 9 => ⟨S16x1024, .f32⟩
  | 10 => ⟨S16x1x1024, .f32⟩
  | 11 => ⟨S1x1024, .f32⟩
  | 12 => ⟨S1024, .f32⟩
  | 13 => ⟨S1x1024, .f32⟩
  | 14 => ⟨S1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S_, .f32⟩
  | 32 => ⟨S16x1x1024, .f32⟩
  | 33 => ⟨S16x1x1024, .f32⟩
  | 34 => ⟨S16x2048x1024, .f32⟩
  | 35 => ⟨S16x2048x1024, .f32⟩
  | 36 => ⟨S16x2048x1024, .f32⟩
  | 37 => ⟨S16x2048x1024, .f32⟩
  | 38 => ⟨S16x256x1024, .f32⟩
  | 39 => ⟨S_, .f32⟩
  | 40 => ⟨S16x256, .f32⟩
  | 41 => ⟨S16x256x1, .f32⟩
  | 42 => ⟨S_, .f32⟩
  | 43 => ⟨S16x256x1, .f32⟩
  | 44 => ⟨S16x256x1, .f32⟩
  | 45 => ⟨S_, .f32⟩
  | 46 => ⟨S16x256x1, .f32⟩
  | 47 => ⟨S16x256x1, .f32⟩
  | 48 => ⟨S16x256x1, .f32⟩
  | 49 => ⟨S16x256x1024, .f32⟩
  | 50 => ⟨S16x256x1024, .f32⟩
  | 51 => ⟨S1x1x1024, .f32⟩
  | 52 => ⟨S16x256x1024, .f32⟩
  | 53 => ⟨S16x256x1024, .f32⟩
  | 54 => ⟨S_, .f32⟩
  | 55 => ⟨S1024, .f32⟩
  | 56 => ⟨S1024, .f32⟩
  | 57 => ⟨S1x1x1024, .f32⟩
  | 58 => ⟨S16x256x1024, .f32⟩
  | 59 => ⟨S16x256x1024, .f32⟩
  | 60 => ⟨S1x1x1024, .f32⟩
  | 61 => ⟨S16x256x1024, .f32⟩
  | 62 => ⟨S16x256x1024, .f32⟩
  | 63 => ⟨S16x256x8720, .f32⟩
  | 64 => ⟨S16x2048x8720, .f32⟩
  | 65 => ⟨S16x2304x8720, .f32⟩
  | 66 => ⟨S16x2304x512, .f32⟩
  | 67 => ⟨S16x2304x512, .f32⟩
  | 68 => ⟨S16x2304x1024, .f32⟩
  | 69 => ⟨S16x2304x512, .f32⟩
  | 70 => ⟨S16x2304x512, .f32⟩
  | 71 => ⟨S16x2304x512, .f32⟩
  | 72 => ⟨S16x2304x16, .f32⟩
  | 73 => ⟨S16x2304x512, .f32⟩
  | 74 => ⟨S16x2304x512, .f32⟩
  | 75 => ⟨S16x2304x512, .f32⟩
  | 76 => ⟨S16x2304x512, .f32⟩
  | 77 => ⟨S16x2304x3072, .f32⟩
  | 78 => ⟨S32, .i32⟩
  | 79 => ⟨S32x64, .i32⟩
  | 80 => ⟨S2048, .i32⟩
  | 81 => ⟨S2048, .f32⟩
  | 82 => ⟨S64, .i32⟩
  | 83 => ⟨S1x64, .i32⟩
  | 84 => ⟨S32x64, .i32⟩
  | 85 => ⟨S2048, .i32⟩
  | 86 => ⟨S2048, .f32⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S2048x1, .f32⟩
  | 102 => ⟨S1x16, .f32⟩
  | 103 => ⟨S2048x16, .f32⟩
  | 104 => ⟨S2048x16, .f32⟩
  | 105 => ⟨S2048x16, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x16, .f32⟩
  | 112 => ⟨S2048x1x1x16, .f32⟩
  | 113 => ⟨S2048x16, .f32⟩
  | 114 => ⟨S2048x1x1x16, .f32⟩
  | 115 => ⟨S2048x16, .f32⟩
  | 116 => ⟨S2048x1x1x16, .f32⟩
  | 117 => ⟨S2048x16, .f32⟩
  | 118 => ⟨S2048x1x1x16, .f32⟩
  | 119 => ⟨S16x2304x3072, .f32⟩
  | 120 => ⟨S16x2304x3072, .f32⟩
  | 121 => ⟨S_, .f32⟩
  | 122 => ⟨S16x2304x3072, .f32⟩
  | 123 => ⟨S16x2304x3072, .f32⟩
  | 124 => ⟨S_, .f32⟩
  | 125 => ⟨S16x2304x3072, .f32⟩
  | 126 => ⟨S16x2304x3072, .f32⟩
  | 127 => ⟨S16x2304x512, .f32⟩
  | _ => ⟨S16x2048x1024, .f32⟩

abbrev hbmTy0_1 (i : Nat) : BufTy := match i % 128 with
  | 0 => ⟨S16x2304x512, .f32⟩
  | 1 => ⟨S_, .f32⟩
  | 2 => ⟨S16x2304x512, .f32⟩
  | 3 => ⟨S16x2304x512, .f32⟩
  | 4 => ⟨S_, .f32⟩
  | 5 => ⟨S16x2304x512, .f32⟩
  | 6 => ⟨S16x2304x512, .f32⟩
  | 7 => ⟨S16x2304x512, .f32⟩
  | 8 => ⟨S16x2304x512, .f32⟩
  | 9 => ⟨S16x2304x512, .f32⟩
  | 10 => ⟨S_, .f32⟩
  | 11 => ⟨S16x2304x512, .f32⟩
  | 12 => ⟨S16x2304x512, .f32⟩
  | 13 => ⟨S_, .f32⟩
  | 14 => ⟨S16x2304x512, .f32⟩
  | 15 => ⟨S16x2304x512, .f32⟩
  | 16 => ⟨S16x2304x512, .f32⟩
  | 17 => ⟨S16x2304x512, .f32⟩
  | 18 => ⟨S_, .f32⟩
  | 19 => ⟨S16x2304x512, .f32⟩
  | 20 => ⟨S16x2304x512, .f32⟩
  | 21 => ⟨S_, .f32⟩
  | 22 => ⟨S16x2304x512, .f32⟩
  | 23 => ⟨S16x2304x512, .f32⟩
  | 24 => ⟨S16x2304x512, .f32⟩
  | 25 => ⟨S16x2304x4x2x64, .f32⟩
  | 26 => ⟨S16x2304x4x2x64, .f32⟩
  | 27 => ⟨S_, .f32⟩
  | 28 => ⟨S16x2304x4x2, .f32⟩
  | 29 => ⟨S16x2304x4x2x1, .f32⟩
  | 30 => ⟨S_, .f32⟩
  | 31 => ⟨S16x2304x4x2x1, .f32⟩
  | 32 => ⟨S16x2304x4x2x1, .f32⟩
  | 33 => ⟨S_, .f32⟩
  | 34 => ⟨S16x2304x4x2x1, .f32⟩
  | 35 => ⟨S16x2304x4x2x1, .f32⟩
  | 36 => ⟨S16x2304x4x2x1, .f32⟩
  | 37 => ⟨S16x2304x4x2x64, .f32⟩
  | 38 => ⟨S16x2304x4x2x64, .f32⟩
  | 39 => ⟨S1x1x1x1x64, .f32⟩
  | 40 => ⟨S16x2304x4x2x64, .f32⟩
  | 41 => ⟨S16x2304x4x2x64, .f32⟩
  | 42 => ⟨S16x256x4x2x64, .f32⟩
  | 43 => ⟨S16x2048x4x2x64, .f32⟩
  | 44 => ⟨S16x2048x4x2x32, .f32⟩
  | 45 => ⟨S16x2048x4x2x32, .f32⟩
  | 46 => ⟨S16x2048x4x2x16, .f32⟩
  | 47 => ⟨S16x2048x4x2x16, .f32⟩
  | 48 => ⟨S1x2048x1x1x16, .f32⟩
  | 49 => ⟨S16x2048x4x2x16, .f32⟩
  | 50 => ⟨S16x2048x4x2x16, .f32⟩
  | 51 => ⟨S1x2048x1x1x16, .f32⟩
  | 52 => ⟨S16x2048x4x2x16, .f32⟩
  | 53 => ⟨S16x2048x4x2x16, .f32⟩
  | 54 => ⟨S16x2048x4x2x16, .f32⟩
  | 55 => ⟨S1x2048x1x1x16, .f32⟩
  | 56 => ⟨S16x2048x4x2x16, .f32⟩
  | 57 => ⟨S16x2048x4x2x16, .f32⟩
  | 58 => ⟨S1x2048x1x1x16, .f32⟩
  | 59 => ⟨S16x2048x4x2x16, .f32⟩
  | 60 => ⟨S16x2048x4x2x16, .f32⟩
  | 61 => ⟨S16x2048x4x2x16, .f32⟩
  | 62 => ⟨S16x2048x4x2x32, .f32⟩
  | 63 => ⟨S16x2048x4x2x16, .f32⟩
  | 64 => ⟨S16x2048x4x2x16, .f32⟩
  | 65 => ⟨S1x2048x1x1x16, .f32⟩
  | 66 => ⟨S16x2048x4x2x16, .f32⟩
  | 67 => ⟨S16x2048x4x2x16, .f32⟩
  | 68 => ⟨S1x2048x1x1x16, .f32⟩
  | 69 => ⟨S16x2048x4x2x16, .f32⟩
  | 70 => ⟨S16x2048x4x2x16, .f32⟩
  | 71 => ⟨S16x2048x4x2x16, .f32⟩
  | 72 => ⟨S1x2048x1x1x16, .f32⟩
  | 73 => ⟨S16x2048x4x2x16, .f32⟩
  | 74 => ⟨S16x2048x4x2x16, .f32⟩
  | 75 => ⟨S1x2048x1x1x16, .f32⟩
  | 76 => ⟨S16x2048x4x2x16, .f32⟩
  | 77 => ⟨S16x2048x4x2x16, .f32⟩
  | 78 => ⟨S16x2048x4x2x16, .f32⟩
  | 79 => ⟨S16x2048x4x2x32, .f32⟩
  | 80 => ⟨S16x2048x4x2x64, .f32⟩
  | 81 => ⟨S16x2304x4x2x64, .f32⟩
  | 82 => ⟨S16x2304x512, .f32⟩
  | 83 => ⟨S_, .f32⟩
  | 84 => ⟨S16x2304x512, .f32⟩
  | 85 => ⟨S16x2304x512, .f32⟩
  | 86 => ⟨S16x2304x4x2x64, .f32⟩
  | 87 => ⟨S16x2304x4x2x64, .f32⟩
  | 88 => ⟨S_, .f32⟩
  | 89 => ⟨S16x2304x4x2, .f32⟩
  | 90 => ⟨S16x2304x4x2x1, .f32⟩
  | 91 => ⟨S_, .f32⟩
  | 92 => ⟨S16x2304x4x2x1, .f32⟩
  | 93 => ⟨S16x2304x4x2x1, .f32⟩
  | 94 => ⟨S_, .f32⟩
  | 95 => ⟨S16x2304x4x2x1, .f32⟩
  | 96 => ⟨S16x2304x4x2x1, .f32⟩
  | 97 => ⟨S16x2304x4x2x1, .f32⟩
  | 98 => ⟨S16x2304x4x2x64, .f32⟩
  | 99 => ⟨S16x2304x4x2x64, .f32⟩
  | 100 => ⟨S1x1x1x1x64, .f32⟩
  | 101 => ⟨S16x2304x4x2x64, .f32⟩
  | 102 => ⟨S16x2304x4x2x64, .f32⟩
  | 103 => ⟨S16x256x4x2x64, .f32⟩
  | 104 => ⟨S16x2048x4x2x64, .f32⟩
  | 105 => ⟨S16x2048x4x2x32, .f32⟩
  | 106 => ⟨S16x2048x4x2x32, .f32⟩
  | 107 => ⟨S16x2048x4x2x16, .f32⟩
  | 108 => ⟨S16x2048x4x2x16, .f32⟩
  | 109 => ⟨S1x2048x1x1x16, .f32⟩
  | 110 => ⟨S16x2048x4x2x16, .f32⟩
  | 111 => ⟨S16x2048x4x2x16, .f32⟩
  | 112 => ⟨S1x2048x1x1x16, .f32⟩
  | 113 => ⟨S16x2048x4x2x16, .f32⟩
  | 114 => ⟨S16x2048x4x2x16, .f32⟩
  | 115 => ⟨S16x2048x4x2x16, .f32⟩
  | 116 => ⟨S1x2048x1x1x16, .f32⟩
  | 117 => ⟨S16x2048x4x2x16, .f32⟩
  | 118 => ⟨S16x2048x4x2x16, .f32⟩
  | 119 => ⟨S1x2048x1x1x16, .f32⟩
  | 120 => ⟨S16x2048x4x2x16, .f32⟩
  | 121 => ⟨S16x2048x4x2x16, .f32⟩
  | 122 => ⟨S16x2048x4x2x16, .f32⟩
  | 123 => ⟨S16x2048x4x2x32, .f32⟩
  | 124 => ⟨S16x2048x4x2x16, .f32⟩
  | 125 => ⟨S16x2048x4x2x16, .f32⟩
  | 126 => ⟨S1x2048x1x1x16, .f32⟩
  | 127 => ⟨S16x2048x4x2x16, .f32⟩
  | _ => ⟨S16x2048x1024, .f32⟩

abbrev hbmTy0_2 (i : Nat) : BufTy := match i % 128 with
  | 0 => ⟨S16x2048x4x2x16, .f32⟩
  | 1 => ⟨S1x2048x1x1x16, .f32⟩
  | 2 => ⟨S16x2048x4x2x16, .f32⟩
  | 3 => ⟨S16x2048x4x2x16, .f32⟩
  | 4 => ⟨S16x2048x4x2x16, .f32⟩
  | 5 => ⟨S1x2048x1x1x16, .f32⟩
  | 6 => ⟨S16x2048x4x2x16, .f32⟩
  | 7 => ⟨S16x2048x4x2x16, .f32⟩
  | 8 => ⟨S1x2048x1x1x16, .f32⟩
  | 9 => ⟨S16x2048x4x2x16, .f32⟩
  | 10 => ⟨S16x2048x4x2x16, .f32⟩
  | 11 => ⟨S16x2048x4x2x16, .f32⟩
  | 12 => ⟨S16x2048x4x2x32, .f32⟩
  | 13 => ⟨S16x2048x4x2x64, .f32⟩
  | 14 => ⟨S16x2304x4x2x64, .f32⟩
  | 15 => ⟨S16x2304x512, .f32⟩
  | 16 => ⟨S16x2304x512, .f32⟩
  | 17 => ⟨S16x2304x512, .f32⟩
  | 18 => ⟨S_, .f32⟩
  | 19 => ⟨S16x2304x512, .f32⟩
  | 20 => ⟨S16x2304x512, .f32⟩
  | 21 => ⟨S_, .f32⟩
  | 22 => ⟨S16x2304x512, .f32⟩
  | 23 => ⟨S16x2304x512, .f32⟩
  | 24 => ⟨S16x2304x512, .f32⟩
  | 25 => ⟨S16x2304x8192, .f32⟩
  | 26 => ⟨S16x144x16x4x128, .f32⟩
  | 27 => ⟨S4x144x16x16x128, .f32⟩
  | 28 => ⟨S16x2304x8192, .bf16⟩
  | 29 => ⟨S4x144x16x16x128, .bf16⟩
  | 30 => ⟨S16x16x2304, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_cst_12 : Ref sig .tc := ⟨.hbm, 124, rfl⟩
abbrev main_v104 : Ref sig .tc := ⟨.hbm, 125, rfl⟩
abbrev main_v105 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_13 : Ref sig .tc := ⟨.hbm, 138, rfl⟩
abbrev main_v109 : Ref sig .tc := ⟨.hbm, 139, rfl⟩
abbrev main_v110 : Ref sig .tc := ⟨.hbm, 140, rfl⟩
abbrev main_cst_14 : Ref sig .tc := ⟨.hbm, 141, rfl⟩
abbrev main_v111 : Ref sig .tc := ⟨.hbm, 142, rfl⟩
abbrev main_v112 : Ref sig .tc := ⟨.hbm, 143, rfl⟩
abbrev main_call1_v0 : Ref sig .tc := ⟨.hbm, 144, rfl⟩
abbrev main_call1_v1 : Ref sig .tc := ⟨.hbm, 145, rfl⟩
abbrev main_call1_cst : Ref sig .tc := ⟨.hbm, 146, rfl⟩
abbrev main_call1_v2 : Ref sig .tc := ⟨.hbm, 147, rfl⟩
abbrev main_call1_v3 : Ref sig .tc := ⟨.hbm, 148, rfl⟩
abbrev main_call1_cst_0 : Ref sig .tc := ⟨.hbm, 149, rfl⟩
abbrev main_call1_v4 : Ref sig .tc := ⟨.hbm, 150, rfl⟩
abbrev main_call1_v5 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_15 : Ref sig .tc := ⟨.hbm, 155, rfl⟩
abbrev main_v116 : Ref sig .tc := ⟨.hbm, 156, rfl⟩
abbrev main_v117 : Ref sig .tc := ⟨.hbm, 157, rfl⟩
abbrev main_cst_16 : Ref sig .tc := ⟨.hbm, 158, rfl⟩
abbrev main_v118 : Ref sig .tc := ⟨.hbm, 159, rfl⟩
abbrev main_v119 : Ref sig .tc := ⟨.hbm, 160, rfl⟩
abbrev main_cst_17 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_18 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_19 : Ref sig .tc := ⟨.hbm, 216, rfl⟩
abbrev main_v173 : Ref sig .tc := ⟨.hbm, 217, rfl⟩
abbrev main_v174 : Ref sig .tc := ⟨.hbm, 218, rfl⟩
abbrev main_cst_20 : Ref sig .tc := ⟨.hbm, 219, rfl⟩
abbrev main_v175 : Ref sig .tc := ⟨.hbm, 220, rfl⟩
abbrev main_v176 : Ref sig .tc := ⟨.hbm, 221, rfl⟩
abbrev main_cst_21 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_call2_v0 : Ref sig .tc := ⟨.hbm, 272, rfl⟩
abbrev main_call2_v1 : Ref sig .tc := ⟨.hbm, 273, rfl⟩
abbrev main_call2_cst : Ref sig .tc := ⟨.hbm, 274, rfl⟩
abbrev main_call2_v2 : Ref sig .tc := ⟨.hbm, 275, rfl⟩
abbrev main_call2_v3 : Ref sig .tc := ⟨.hbm, 276, rfl⟩
abbrev main_call2_cst_0 : Ref sig .tc := ⟨.hbm, 277, rfl⟩
abbrev main_call2_v4 : Ref sig .tc := ⟨.hbm, 278, rfl⟩
abbrev main_call2_v5 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩

abbrev nD : Nat := 1
abbrev τ : Topo := Topo.v7x

variable {F : FTy → Type} [FloatOps F]
-- ==== Proof.Softmax.lean ====
/-
  The mathematics of one row of attention, over the extended reals.  For finite scores `s` and weights `w` the
  quotient `(∑ exp (s j - M) * w j) / ∑ exp (s j - M)` does not depend on the real shift `M`, so that the row computed
  chunk by chunk under a running maximum and the row computed at once under the whole maximum are both
  `(∑ exp (s j) * w j) / ∑ exp (s j)`.
-/
module

public import Idealize.ShloMosaic.Lib.Pointwise

@[expose] public section

noncomputable section

namespace Cert.Attn

open Idealize.ShloMosaic

/-- The pattern of negative infinity denotes `⊥`. -/
theorem ofBits_negInf : Ideal.ofBits .f32 0xFF800000#32 = ⊥ := by
  simp [Ideal.ofBits, Ideal.ieee]

/-- The pattern of positive infinity denotes `⊤`. -/
theorem ofBits_posInf : Ideal.ofBits .f32 0x7F800000#32 = ⊤ := by
  simp [Ideal.ofBits, Ideal.ieee]

/-- A sum of reals, taken among the extended reals, is the real sum. -/
theorem coe_sum {ι : Type*} (t : Finset ι) (f : ι → ℝ) : ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.exp {x : EReal} : IsReal x → IsReal (Ideal.exp x)
  | ⟨a, ha⟩ => ⟨Real.exp a, by rw [ha, Ideal.exp_coe]⟩

theorem IsReal.sum {ι : Type*} (t : Finset ι) {f : ι → EReal} (h : ∀ j, IsReal (f j)) : IsReal (∑ j ∈ t, f j) := by
  choose g hg using h
  exact ⟨∑ j ∈ t, g j, by rw [← coe_sum]; exact Finset.sum_congr rfl fun j _ => hg j⟩

theorem isReal_zero : IsReal 0 := ⟨0, by simp⟩

/-- Below positive infinity in absolute value means real. -/
theorem isReal_of_abs_lt {x : EReal} (h : max x (-x) < ⊤) : IsReal x := by
  induction x with
  | bot => simp at h
  | coe r => exact ⟨r, rfl⟩
  | top => simp at h

theorem coe_max (a b : ℝ) : ((max a b : ℝ) : EReal) = max (a : EReal) (b : EReal) :=
  EReal.coe_strictMono.monotone.map_max

/-- The greatest of a row of scores, started from negative infinity. -/
def rowMax {n : ℕ} (s : Fin n → EReal) : EReal := Finset.univ.fold max (Ideal.ofBits .f32 0xFF800000#32) s

theorem fold_max_real {ι : Type*} (t : Finset ι) (f : ι → ℝ) (ht : t.Nonempty) :
    IsReal (t.fold max ⊥ fun j => (f j : EReal)) := by
  classical
  induction ht using Finset.Nonempty.cons_induction with
  | singleton a => exact ⟨f a, by simp⟩
  | cons a t ha _ ih =>
    obtain ⟨M, hM⟩ := ih
    exact ⟨max (f a) M, by rw [Finset.fold_cons, hM, coe_max]⟩

/-- The greatest of finitely many real scores (at least one) is real. -/
theorem rowMax_real {n : ℕ} (hn : 0 < n) (f : Fin n → ℝ) : IsReal (rowMax fun j => (f j : EReal)) := by
  unfold rowMax
  rw [ofBits_negInf]
  exact fold_max_real _ f ⟨⟨0, hn⟩, Finset.mem_univ _⟩

/-- What a chunk of keys adds to an accumulator: the weights under the exponentials of the shifted scores. -/
def pv {n : ℕ} (s : Fin n → EReal) (m : EReal) (w : Fin n → EReal) : EReal := ∑ j, Ideal.exp (s j - m) * w j

theorem pv_coe {n : ℕ} (s w : Fin n → ℝ) (m : ℝ) :
    pv (fun j => (s j : EReal)) (m : EReal) (fun j => (w j : EReal))
      = ((Real.exp (-m) * ∑ j, Real.exp (s j) * w j : ℝ) : EReal) := by
  unfold pv
  rw [Finset.mul_sum, ← coe_sum]
  refine Finset.sum_congr rfl fun j _ => ?_
  rw [← EReal.coe_sub, Ideal.exp_coe, ← EReal.coe_mul]
  congr 1
  rw [sub_eq_add_neg, Real.exp_add]
  ring

/-- Passing from the shift `m` to the shift `m'` and adding a chunk. -/
theorem step_coe (A B m m' : ℝ) :
    ((Real.exp (-m) * A : ℝ) : EReal) * Ideal.exp ((m : EReal) - (m' : EReal)) + ((Real.exp (-m') * B : ℝ) : EReal)
      = ((Real.exp (-m') * (A + B) : ℝ) : EReal) := by
  rw [← EReal.coe_sub, Ideal.exp_coe, ← EReal.coe_mul, ← EReal.coe_add]
  congr 1
  have h : Real.exp (m - m') = Real.exp m * Real.exp (-m') := by rw [← Real.exp_add]; ring_nf
  have h1 : Real.exp (-m) * Real.exp m = 1 := by rw [← Real.exp_add]; simp
  rw [h]
  linear_combination (A * Real.exp (-m')) * h1

theorem div_shift (N D m : ℝ) (hD : D ≠ 0) :
    Ideal.div ((Real.exp (-m) * N : ℝ) : EReal) ((Real.exp (-m) * D : ℝ) : EReal) = ((N / D : ℝ) : EReal) := by
  have he : Real.exp (-m) ≠ 0 := (Real.exp_pos _).ne'
  rw [Ideal.div_coe (mul_ne_zero he hD), ← EReal.coe_mul]
  congr 1
  field_simp

/-- The shift-free row: the average of `w` under the exponentials of the scores. -/
def avg {n : ℕ} (s w : Fin n → ℝ) : ℝ := (∑ j, Real.exp (s j) * w j) / ∑ j, Real.exp (s j)

theorem sum_exp_pos {n : ℕ} (hn : 0 < n) (s : Fin n → ℝ) : 0 < ∑ j, Real.exp (s j) :=
  Finset.sum_pos (fun _ _ => Real.exp_pos _) ⟨⟨0, hn⟩, Finset.mem_univ _⟩

/-- One chunk: the row's weighted sum over its sum of exponentials, both under the row's greatest score. -/
def row1 {n : ℕ} (s w u : Fin n → EReal) : EReal := Ideal.div (pv s (rowMax s) w) (pv s (rowMax s) u)

theorem row1_coe {n : ℕ} (hn : 0 < n) (s w : Fin n → ℝ) :
    row1 (fun j => (s j : EReal)) (fun j => (w j : EReal)) (fun _ => 1) = ((avg s w : ℝ) : EReal) := by
  obtain ⟨m, hm⟩ := rowMax_real hn s
  have h1 : (fun _ => 1 : Fin n → EReal) = fun _ => ((1 : ℝ) : EReal) := by simp
  unfold row1 avg
  rw [hm, h1, pv_coe, pv_coe, div_shift]
  · simp
  · simpa using (sum_exp_pos hn s).ne'

/-- Three chunks: the accumulator after each, rescaled whenever the running maximum moves. -/
def acc3 {n : ℕ} (s₁ s₂ s₃ w₁ w₂ w₃ : Fin n → EReal) : EReal :=
  (pv s₁ (rowMax s₁) w₁ * Ideal.exp (rowMax s₁ - max (rowMax s₁) (rowMax s₂)) + pv s₂ (max (rowMax s₁) (rowMax s₂)) w₂)
      * Ideal.exp (max (rowMax s₁) (rowMax s₂) - max (max (rowMax s₁) (rowMax s₂)) (rowMax s₃))
    + pv s₃ (max (max (rowMax s₁) (rowMax s₂)) (rowMax s₃)) w₃

/-- Three chunks: the row is the quotient of two accumulators. -/
def row3 {n : ℕ} (s₁ s₂ s₃ w₁ w₂ w₃ u₁ u₂ u₃ : Fin n → EReal) : EReal :=
  Ideal.div (acc3 s₁ s₂ s₃ w₁ w₂ w₃) (acc3 s₁ s₂ s₃ u₁ u₂ u₃)

theorem acc3_coe {n : ℕ} (hn : 0 < n) (s₁ s₂ s₃ : Fin n → ℝ) : ∃ m : ℝ, ∀ w₁ w₂ w₃ : Fin n → ℝ,
    acc3 (fun j => (s₁ j : EReal)) (fun j => (s₂ j : EReal)) (fun j => (s₃ j : EReal)) (fun j => (w₁ j : EReal))
        (fun j => (w₂ j : EReal)) (fun j => (w₃ j : EReal))
      = ((Real.exp (-m) * ((∑ j, Real.exp (s₁ j) * w₁ j + ∑ j, Real.exp (s₂ j) * w₂ j)
          + ∑ j, Real.exp (s₃ j) * w₃ j) : ℝ) : EReal) := by
  obtain ⟨m₁, h₁⟩ := rowMax_real hn s₁
  obtain ⟨m₂, h₂⟩ := rowMax_real hn s₂
  obtain ⟨m₃, h₃⟩ := rowMax_real hn s₃
  refine ⟨max (max m₁ m₂) m₃, fun w₁ w₂ w₃ => ?_⟩
  unfold acc3
  rw [h₁, h₂, h₃, ← coe_max, ← coe_max, pv_coe, pv_coe, pv_coe, step_coe, step_coe]

/-- A row of `3 n` scores cut in three chunks. -/
theorem row3_coe {n : ℕ} (hn : 0 < n) (s w : Fin (3 * n) → ℝ) (s₁ s₂ s₃ w₁ w₂ w₃ : Fin n → EReal)
    (h₁ : ∀ j : Fin n, s₁ j = (s ⟨j, by omega⟩ : EReal)) (h₂ : ∀ j : Fin n, s₂ j = (s ⟨n + j, by omega⟩ : EReal))
    (h₃ : ∀ j : Fin n, s₃ j = (s ⟨2 * n + j, by omega⟩ : EReal))
    (k₁ : ∀ j : Fin n, w₁ j = (w ⟨j, by omega⟩ : EReal)) (k₂ : ∀ j : Fin n, w₂ j = (w ⟨n + j, by omega⟩ : EReal))
    (k₃ : ∀ j : Fin n, w₃ j = (w ⟨2 * n + j, by omega⟩ : EReal)) :
    row3 s₁ s₂ s₃ w₁ w₂ w₃ (fun _ => 1) (fun _ => 1) (fun _ => 1) = ((avg s w : ℝ) : EReal) := by
  have h1 : (fun _ => 1 : Fin n → EReal) = fun _ => ((1 : ℝ) : EReal) := by simp
  have cut : ∀ f : Fin (3 * n) → ℝ, ∑ j, f j
      = (∑ j : Fin n, f ⟨j, by omega⟩ + ∑ j : Fin n, f ⟨n + j, by omega⟩) + ∑ j : Fin n, f ⟨2 * n + j, by omega⟩ := by
    intro f
    rw [Fin.sum_univ_tiles 3 n rfl f, Fin.sum_univ_three]
    simp
  obtain rfl : s₁ = fun j : Fin n => (s ⟨j, by omega⟩ : EReal) := funext h₁
  obtain rfl : s₂ = fun j : Fin n => (s ⟨n + j, by omega⟩ : EReal) := funext h₂
  obtain rfl : s₃ = fun j : Fin n => (s ⟨2 * n + j, by omega⟩ : EReal) := funext h₃
  obtain rfl : w₁ = fun j : Fin n => (w ⟨j, by omega⟩ : EReal) := funext k₁
  obtain rfl : w₂ = fun j : Fin n => (w ⟨n + j, by omega⟩ : EReal) := funext k₂
  obtain rfl : w₃ = fun j : Fin n => (w ⟨2 * n + j, by omega⟩ : EReal) := funext k₃
  obtain ⟨m, hm⟩ := acc3_coe hn (fun j : Fin n => s ⟨j, by omega⟩) (fun j : Fin n => s ⟨n + j, by omega⟩)
    (fun j : Fin n => s ⟨2 * n + j, by omega⟩)
  unfold row3 avg
  rw [h1, hm, hm, cut fun j => Real.exp (s j) * w j, cut fun j => Real.exp (s j), div_shift]
  · simp
  · have e := sum_exp_pos (by omega) s
    rw [cut fun j => Real.exp (s j)] at e
    simpa using e.ne'

/-- The softmax weight of key `j`, under the shift `M`. -/
def soft {n : ℕ} (s : Fin n → EReal) (M : EReal) (j : Fin n) : EReal :=
  Ideal.div (Ideal.exp (s j - M)) (∑ k, Ideal.exp (s k - M))

theorem soft_coe {n : ℕ} (hn : 0 < n) (s : Fin n → ℝ) (M : ℝ) (j : Fin n) :
    soft (fun j => (s j : EReal)) (M : EReal) j = ((Real.exp (s j) / ∑ k, Real.exp (s k) : ℝ) : EReal) := by
  have e : ∀ k, Ideal.exp ((s k : EReal) - (M : EReal)) = ((Real.exp (-M) * Real.exp (s k) : ℝ) : EReal) := by
    intro k
    rw [← EReal.coe_sub, Ideal.exp_coe, sub_eq_add_neg, Real.exp_add, mul_comm]
  unfold soft
  simp only [e]
  rw [coe_sum, ← Finset.mul_sum, div_shift _ _ _ (sum_exp_pos hn s).ne']

/-- The reference's row of differential attention: the difference of two softmax rows against the values. -/
def refRow {n : ℕ} (s₀ s₁ v : Fin n → EReal) (lam : EReal) : EReal :=
  ∑ j, v j * (soft s₀ (rowMax s₀) j - lam * soft s₁ (rowMax s₁) j)

theorem refRow_coe {n : ℕ} (hn : 0 < n) (s₀ s₁ v : Fin n → ℝ) (lam : ℝ) :
    refRow (fun j => (s₀ j : EReal)) (fun j => (s₁ j : EReal)) (fun j => (v j : EReal)) (lam : EReal)
      = ((avg s₀ v : ℝ) : EReal) - (lam : EReal) * ((avg s₁ v : ℝ) : EReal) := by
  obtain ⟨m₀, h₀⟩ := rowMax_real hn s₀
  obtain ⟨m₁, h₁⟩ := rowMax_real hn s₁
  unfold refRow
  rw [h₀, h₁]
  simp only [soft_coe hn]
  rw [← EReal.coe_mul, ← EReal.coe_sub]
  rw [show avg s₀ v - lam * avg s₁ v
      = ∑ j, v j * (Real.exp (s₀ j) / ∑ k, Real.exp (s₀ k) - lam * (Real.exp (s₁ j) / ∑ k, Real.exp (s₁ k))) from ?_,
    ← coe_sum]
  · refine Finset.sum_congr rfl fun j _ => ?_
    rw [EReal.coe_mul, EReal.coe_sub, EReal.coe_mul]
  · unfold avg
    rw [Finset.sum_div, Finset.sum_div, Finset.mul_sum, ← Finset.sum_sub_distrib]
    refine Finset.sum_congr rfl fun j _ => ?_
    ring

end Cert.Attn

end
-- ==== Proof.Rows.lean ====
/-
  One row of one head: its scores over the two halves of the lanes, the difference of the two softmax averages computed
  at once, over one chunk and over three chunks, and the normalisation. For real queries, keys, values and `lam` the
  three ways agree.
-/
module

public import proofs.«01_k».proof.Proof.Softmax

@[expose] public section

noncomputable section

namespace Cert.Attn

open Idealize.ShloMosaic

/-- The score of query row `r` against key row `j` over the first 64 lanes. -/
def scoreLo (q k : Fin 128 → EReal) : EReal := ∑ l : Fin 64, q ⟨l, by omega⟩ * k ⟨l, by omega⟩

/-- The score over the last 64 lanes. -/
def scoreHi (q k : Fin 128 → EReal) : EReal := ∑ l : Fin 64, q ⟨64 + l, by omega⟩ * k ⟨64 + l, by omega⟩

/-- A row over the root of its mean square, times the gain and the last factor. -/
def normRow (o g : Fin 128 → EReal) (s : EReal) (d : Fin 128) : EReal :=
  o d * Ideal.rsqrt (Ideal.div (∑ k, o k * o k) (Ideal.ofBits .f32 0x43000000#32) + Ideal.ofBits .f32 0x358637BD#32) * g d * s

/-- A row of a head over one chunk of keys. -/
def headRow1 {n : ℕ} (q : Fin 128 → EReal) (k v : Fin n → Fin 128 → EReal) (lam : EReal) (d : Fin 128) : EReal :=
  row1 (fun j => scoreLo q (k j)) (fun j => v j d) (fun _ => 1)
    - lam * row1 (fun j => scoreHi q (k j)) (fun j => v j d) (fun _ => 1)

/-- A row of a head over three chunks of `n` keys. -/
def headRow3 {n : ℕ} (q : Fin 128 → EReal) (k v : Fin (3 * n) → Fin 128 → EReal) (lam : EReal) (d : Fin 128) : EReal :=
  row3 (fun j : Fin n => scoreLo q (k ⟨j, by omega⟩)) (fun j : Fin n => scoreLo q (k ⟨n + j, by omega⟩))
      (fun j : Fin n => scoreLo q (k ⟨2 * n + j, by omega⟩)) (fun j : Fin n => v ⟨j, by omega⟩ d)
      (fun j : Fin n => v ⟨n + j, by omega⟩ d) (fun j : Fin n => v ⟨2 * n + j, by omega⟩ d) (fun _ => 1) (fun _ => 1) (fun _ => 1)
    - lam
      * row3 (fun j : Fin n => scoreHi q (k ⟨j, by omega⟩)) (fun j : Fin n => scoreHi q (k ⟨n + j, by omega⟩))
        (fun j : Fin n => scoreHi q (k ⟨2 * n + j, by omega⟩)) (fun j : Fin n => v ⟨j, by omega⟩ d)
        (fun j : Fin n => v ⟨n + j, by omega⟩ d) (fun j : Fin n => v ⟨2 * n + j, by omega⟩ d) (fun _ => 1) (fun _ => 1)
        (fun _ => 1)

/-- A row of a head as the reference states it: the weights of the two softmax rows, subtracted, against the values. -/
def headRow {n : ℕ} (q : Fin 128 → EReal) (k v : Fin n → Fin 128 → EReal) (lam : EReal) (d : Fin 128) : EReal :=
  refRow (fun j => scoreLo q (k j)) (fun j => scoreHi q (k j)) (fun j => v j d) lam

theorem scoreLo_real {q k : Fin 128 → EReal} (hq : ∀ l, IsReal (q l)) (hk : ∀ l, IsReal (k l)) : IsReal (scoreLo q k) :=
  IsReal.sum _ fun l => (hq _).mul (hk _)

theorem scoreHi_real {q k : Fin 128 → EReal} (hq : ∀ l, IsReal (q l)) (hk : ∀ l, IsReal (k l)) : IsReal (scoreHi q k) :=
  IsReal.sum _ fun l => (hq _).mul (hk _)

theorem headRow1_eq {n : ℕ} (hn : 0 < n) {q : Fin 128 → EReal} {k v : Fin n → Fin 128 → EReal} {lam : EReal}
    (hq : ∀ l, IsReal (q l)) (hk : ∀ j l, IsReal (k j l)) (hv : ∀ j l, IsReal (v j l)) (hl : IsReal lam) (d : Fin 128) :
    headRow1 q k v lam d = headRow q k v lam d := by
  choose a ha using fun j => scoreLo_real hq (hk j)
  choose b hb using fun j => scoreHi_real hq (hk j)
  choose w hw using fun j => hv j d
  obtain ⟨L, rfl⟩ := hl
  unfold headRow1 headRow
  simp only [ha, hb, hw]
  rw [refRow_coe hn, row1_coe hn, row1_coe hn]

theorem headRow3_eq {n : ℕ} (hn : 0 < n) {q : Fin 128 → EReal} {k v : Fin (3 * n) → Fin 128 → EReal} {lam : EReal}
    (hq : ∀ l, IsReal (q l)) (hk : ∀ j l, IsReal (k j l)) (hv : ∀ j l, IsReal (v j l)) (hl : IsReal lam) (d : Fin 128) :
    headRow3 q k v lam d = headRow q k v lam d := by
  choose a ha using fun j => scoreLo_real hq (hk j)
  choose b hb using fun j => scoreHi_real hq (hk j)
  choose w hw using fun j => hv j d
  obtain ⟨L, rfl⟩ := hl
  unfold headRow3 headRow
  rw [row3_coe hn a w _ _ _ _ _ _ (fun j => ha _) (fun j => ha _) (fun j => ha _) (fun j => hw _) (fun j => hw _) (fun j => hw _),
    row3_coe hn b w _ _ _ _ _ _ (fun j => hb _) (fun j => hb _) (fun j => hb _) (fun j => hw _) (fun j => hw _) (fun j => hw _)]
  simp only [ha, hb, hw]
  rw [refRow_coe (by omega)]

end Cert.Attn

end
-- ==== Proof.Head.lean ====
/-
  One head of the attention, as the kernel computes it for a tile of 256 query rows: the two copies of the queries with
  one half of the lanes each, the scores, the running maximum, the accumulator whose second half carries the sum of the
  exponentials, the difference of the two maps and its normalisation.
-/
module

public import proofs.«01_k».proof.Proof.Gen.KernelIdeal.Value
public import proofs.«01_k».proof.Proof.Rows
public import Idealize.ShloMosaic.Lib.Pointwise

@[expose] public section

set_option maxRecDepth 16384

noncomputable section

namespace Cert.Attn

open Idealize.ShloMosaic
open Cert.KernelIdeal
open Cert.KernelIdeal.Gen

/-- The number of each lane. -/
abbrev lanes : IVec S1x128 32 := iota Kind.tc S1x128 32 [1] iota_S1x128_d1_w32

/-- The queries with lanes 64 and up cleared. -/
def keepLo (q : Vec Ideal S1x256x128 .bf16) : FVec Ideal S256x128 .bf16 :=
  select (broadcastTo S256x128 (shapeCast S1x128 (cmpi .slt lanes (broadcast S1x128 64#32)) shapeCasts_S1x128_S1x128)
      broadcasts_S1x128_S256x128)
    (shapeCast S256x128 q shapeCasts_S1x256x128_S256x128) (broadcast S256x128 (Scalar.ofBits (F := Ideal) .bf16 0x0000#16))

/-- The queries with the lanes below 64 cleared. -/
def keepHi (q : Vec Ideal S1x256x128 .bf16) : FVec Ideal S256x128 .bf16 :=
  select (broadcastTo S256x128 (shapeCast S1x128 (cmpi .sge lanes (broadcast S1x128 64#32)) shapeCasts_S1x128_S1x128)
      broadcasts_S1x128_S256x128)
    (shapeCast S256x128 q shapeCasts_S1x256x128_S256x128) (broadcast S256x128 (Scalar.ofBits (F := Ideal) .bf16 0x0000#16))

/-- The scores of 256 queries against 768 keys. -/
def scoresB (q : FVec Ideal S256x128 .bf16) (k : Vec Ideal S1x768x128 .bf16) : FVec Ideal S256x768 .f32 :=
  matmul dot_S256x128_S768x128_S256x768_1_1_0_0_n_n none (φ₂ := .bf16) q (shapeCast S768x128 k shapeCasts_S1x768x128_S768x128)
    (constant S256x768 .f32 0x00000000#32)

/-- The greatest score of each row. -/
def topB (s : FVec Ideal S256x768 .f32) : FVec Ideal S256x1 .f32 :=
  shapeCast S256x1 (multiReduction .maximumf [1] S256 s 0xFF800000#32 reduces_S256x768_S256 (.inl rfl) rfl)
    shapeCasts_S256_S256x1

/-- The exponentials of the shifted scores against the extended values. -/
def addB (s : FVec Ideal S256x768 .f32) (m : FVec Ideal S256x1 .f32) (w : Vec Ideal S768x256 .bf16) :
    FVec Ideal S256x256 .f32 :=
  matmul dot_S256x768_S768x256_S256x256_1_0_0_1_n_n none (φ₂ := .bf16)
    (truncf .bf16 (exp (subf s (broadcastTo S256x768 m broadcasts_S256x1_S256x768))) bitsLt_bf16_f32) w
    (constant S256x256 .f32 0x00000000#32)

/-- The accumulator rescaled when the maximum moves from `m` to `m'`. -/
def moveB (a : FVec Ideal S256x256 .f32) (m m' : FVec Ideal S256x1 .f32) : FVec Ideal S256x256 .f32 :=
  mulf a (broadcastTo S256x256 (exp (subf m m')) broadcasts_S256x1_S256x256)

/-- The weighted sums over the sums of the exponentials. -/
def quot (a : FVec Ideal S256x256 .f32) : FVec Ideal S256x128 .f32 :=
  divf (extractStridedSlice S256x128 ![0, 0] a slices_S256x256_o0_0_S256x128)
    (extractStridedSlice S256x128 ![0, 128] a slices_S256x256_o0_128_S256x128)

/-- One attention map over three chunks of 768 keys. -/
def mapB (q : FVec Ideal S256x128 .bf16) (k₁ k₂ k₃ : Vec Ideal S1x768x128 .bf16) (w₁ w₂ w₃ : Vec Ideal S768x256 .bf16) :
    FVec Ideal S256x128 .f32 :=
  quot (addf
    (moveB
      (addf
        (moveB (addB (scoresB q k₁) (topB (scoresB q k₁)) w₁) (topB (scoresB q k₁))
          (maximumf (topB (scoresB q k₁)) (topB (scoresB q k₂))))
        (addB (scoresB q k₂) (maximumf (topB (scoresB q k₁)) (topB (scoresB q k₂))) w₂))
      (maximumf (topB (scoresB q k₁)) (topB (scoresB q k₂)))
      (maximumf (maximumf (topB (scoresB q k₁)) (topB (scoresB q k₂))) (topB (scoresB q k₃))))
    (addB (scoresB q k₃) (maximumf (maximumf (topB (scoresB q k₁)) (topB (scoresB q k₂))) (topB (scoresB q k₃))) w₃))

/-- The scores of 256 queries against 256 keys. -/
def scoresA (q : FVec Ideal S256x128 .bf16) (k : Vec Ideal S1x256x128 .bf16) : FVec Ideal S256x256 .f32 :=
  matmul dot_S256x128_S256x128_S256x256_1_1_0_0_n_n none (φ₂ := .bf16) q (shapeCast S256x128 k shapeCasts_S1x256x128_S256x128)
    (constant S256x256 .f32 0x00000000#32)

/-- The greatest score of each row. -/
def topA (s : FVec Ideal S256x256 .f32) : FVec Ideal S256x1 .f32 :=
  shapeCast S256x1 (multiReduction .maximumf [1] S256 s 0xFF800000#32 reduces_S256x256_S256 (.inl rfl) rfl)
    shapeCasts_S256_S256x1

/-- The exponentials of the shifted scores against the extended values. -/
def addA (s : FVec Ideal S256x256 .f32) (m : FVec Ideal S256x1 .f32) (w : Vec Ideal S256x256 .bf16) :
    FVec Ideal S256x256 .f32 :=
  matmul dot_S256x256_S256x256_S256x256_1_0_0_1_n_n none (φ₂ := .bf16)
    (truncf .bf16 (exp (subf s (broadcastTo S256x256 m broadcasts_S256x1_S256x256))) bitsLt_bf16_f32) w
    (constant S256x256 .f32 0x00000000#32)

/-- One attention map over 256 keys. -/
def mapA (q : FVec Ideal S256x128 .bf16) (k : Vec Ideal S1x256x128 .bf16) (w : Vec Ideal S256x256 .bf16) :
    FVec Ideal S256x128 .f32 :=
  quot (addA (scoresA q k) (topA (scoresA q k)) w)

/-- The first map minus `lam` times the second. -/
def diffMap (lam : FVec Ideal S1x1 .f32) (a b : FVec Ideal S256x128 .f32) : FVec Ideal S256x128 .f32 :=
  subf a (mulf (broadcastTo S256x128 lam broadcasts_S1x1_S256x128) b)

/-- Each row over the root of its mean square, times the gain and the last factor. -/
def normed (o : FVec Ideal S256x128 .f32) (g : Vec Ideal S1x128 .f32) (s : Elt Ideal .f32) : FVec Ideal S1x256x128 .bf16 :=
  shapeCast S1x256x128
    (truncf .bf16
      (mulf
        (mulf
          (mulf o
            (broadcastTo S256x128
              (rsqrt
                (addf
                  (divf
                    (shapeCast S256x1 (multiReduction .add [1] S256 (mulf o o) 0x00000000#32 reduces_S256x128_S256 (.inl rfl) rfl)
                      shapeCasts_S256_S256x1)
                    (broadcast S256x1 (Scalar.ofBits (F := Ideal) .f32 0x43000000#32)))
                  (broadcast S256x1 (Scalar.ofBits (F := Ideal) .f32 0x358637BD#32))))
              broadcasts_S256x1_S256x128))
          (broadcastTo S256x128 (shapeCast S1x128 g shapeCasts_S1x128_S1x128) broadcasts_S1x128_S256x128))
        (broadcast S256x128 s))
      bitsLt_bf16_f32)
    shapeCasts_S256x128_S1x256x128

/-- A head of a tile of the latent rows. -/
def headB (lam : FVec Ideal S1x1 .f32) (q : Vec Ideal S1x256x128 .bf16) (k₁ k₂ k₃ : Vec Ideal S1x768x128 .bf16)
    (w₁ w₂ w₃ : Vec Ideal S768x256 .bf16) (g : Vec Ideal S1x128 .f32) (s : Elt Ideal .f32) : FVec Ideal S1x256x128 .bf16 :=
  normed (diffMap lam (mapB (keepLo q) k₁ k₂ k₃ w₁ w₂ w₃) (mapB (keepHi q) k₁ k₂ k₃ w₁ w₂ w₃)) g s

/-- A head of the tile of the context rows. -/
def headA (lam : FVec Ideal S1x1 .f32) (q k : Vec Ideal S1x256x128 .bf16) (w : Vec Ideal S256x256 .bf16)
    (g : Vec Ideal S1x128 .f32) (s : Elt Ideal .f32) : FVec Ideal S1x256x128 .bf16 :=
  normed (diffMap lam (mapA (keepLo q) k w) (mapA (keepHi q) k w)) g s

/-! ## At an index -/

theorem lane_lt : ∀ l : Fin 128, IntOp.cmpi .slt (BitVec.ofNat 32 (l : ℕ)) 64#32 = if (l : ℕ) < 64 then 1#1 else 0#1 := by
  decide +kernel

theorem lane_ge : ∀ l : Fin 128, IntOp.cmpi .sge (BitVec.ofNat 32 (l : ℕ)) 64#32 = if (l : ℕ) < 64 then 0#1 else 1#1 := by
  decide +kernel

theorem keepLo_at (q : Vec Ideal S1x256x128 .bf16) (r : Fin 256) (l : Fin 128) :
    keepLo q (ix2 r l) = if (l : ℕ) < 64 then q (ix3 0 r l) else 0 := by
  pointwise [keepLo]
  rw [lane_lt]
  split <;> rfl

theorem keepHi_at (q : Vec Ideal S1x256x128 .bf16) (r : Fin 256) (l : Fin 128) :
    keepHi q (ix2 r l) = if (l : ℕ) < 64 then 0 else q (ix3 0 r l) := by
  pointwise [keepHi]
  rw [lane_ge]
  split <;> rfl

/-- Clearing the upper lanes of the queries leaves the score over the lower ones. -/
theorem sum_lo (q k : Fin 128 → EReal) : ∑ l : Fin 128, (if (l : ℕ) < 64 then q l else 0) * k l = scoreLo q k := by
  rw [Fin.sum_univ_tiles 2 64 rfl, Fin.sum_univ_two]
  have h : ∀ l : Fin 64, ¬ (64 + (l : ℕ) < 64) := fun l => by omega
  simp [scoreLo, h]

/-- Clearing the lower lanes of the queries leaves the score over the upper ones. -/
theorem sum_hi (q k : Fin 128 → EReal) : ∑ l : Fin 128, (if (l : ℕ) < 64 then 0 else q l) * k l = scoreHi q k := by
  rw [Fin.sum_univ_tiles 2 64 rfl, Fin.sum_univ_two]
  have h : ∀ l : Fin 64, ¬ (64 + (l : ℕ) < 64) := fun l => by omega
  simp [scoreHi, h]

theorem scoresB_at (q : FVec Ideal S256x128 .bf16) (k : Vec Ideal S1x768x128 .bf16) (r : Fin 256) (j : Fin 768) :
    scoresB q k (ix2 r j) = ∑ l : Fin 128, q (ix2 r l) * k (ix3 0 j l) := by
  pointwise [scoresB]

theorem topB_at (s : FVec Ideal S256x768 .f32) (r : Fin 256) : topB s (ix2 r 0) = rowMax fun j => s (ix2 r j) := by
  pointwise [topB]
  rfl

theorem addB_at (s : FVec Ideal S256x768 .f32) (m : FVec Ideal S256x1 .f32) (w : Vec Ideal S768x256 .bf16) (r c : Fin 256) :
    addB s m w (ix2 r c) = pv (fun j => s (ix2 r j)) (m (ix2 r 0)) (fun j => w (ix2 j c)) := by
  pointwise [addB]
  rfl

theorem moveB_at (a : FVec Ideal S256x256 .f32) (m m' : FVec Ideal S256x1 .f32) (r c : Fin 256) :
    moveB a m m' (ix2 r c) = a (ix2 r c) * Ideal.exp (m (ix2 r 0) - m' (ix2 r 0)) := by
  pointwise [moveB]

theorem quot_at (a : FVec Ideal S256x256 .f32) (r : Fin 256) (d : Fin 128) :
    quot a (ix2 r d) = Ideal.div (a (ix2 r ⟨d, by omega⟩)) (a (ix2 r ⟨128 + d, by omega⟩)) := by
  pointwise [quot]

theorem normed_at (o : FVec Ideal S256x128 .f32) (g : Vec Ideal S1x128 .f32) (s : Elt Ideal .f32) (r : Fin 256) (d : Fin 128) :
    normed o g s (ix3 0 r d) = normRow (fun d => o (ix2 r d)) (fun d => g (ix2 0 d)) s d := by
  pointwise [normed]
  rfl

theorem diffMap_at (lam : FVec Ideal S1x1 .f32) (a b : FVec Ideal S256x128 .f32) (r : Fin 256) (d : Fin 128) :
    diffMap lam a b (ix2 r d) = a (ix2 r d) - lam (ix2 0 0) * b (ix2 r d) := by
  pointwise [diffMap]

theorem scoresA_at (q : FVec Ideal S256x128 .bf16) (k : Vec Ideal S1x256x128 .bf16) (r j : Fin 256) :
    scoresA q k (ix2 r j) = ∑ l : Fin 128, q (ix2 r l) * k (ix3 0 j l) := by
  pointwise [scoresA]

theorem topA_at (s : FVec Ideal S256x256 .f32) (r : Fin 256) : topA s (ix2 r 0) = rowMax fun j => s (ix2 r j) := by
  pointwise [topA]
  rfl

theorem addA_at (s : FVec Ideal S256x256 .f32) (m : FVec Ideal S256x1 .f32) (w : Vec Ideal S256x256 .bf16) (r c : Fin 256) :
    addA s m w (ix2 r c) = pv (fun j => s (ix2 r j)) (m (ix2 r 0)) (fun j => w (ix2 j c)) := by
  pointwise [addA]
  rfl

theorem mapA_at (q : FVec Ideal S256x128 .bf16) (k : Vec Ideal S1x256x128 .bf16) (w : Vec Ideal S256x256 .bf16)
    (r : Fin 256) (d : Fin 128) :
    mapA q k w (ix2 r d) = row1 (fun j => ∑ l : Fin 128, q (ix2 r l) * k (ix3 0 j l)) (fun j => w (ix2 j ⟨d, by omega⟩))
      (fun j => w (ix2 j ⟨128 + d, by omega⟩)) := by
  unfold mapA row1
  simp only [quot_at, addA_at, topA_at, scoresA_at]

theorem maxV_at (a b : FVec Ideal S256x1 .f32) (r : Fin 256) :
    maximumf a b (ix2 r 0) = max (a (ix2 r 0)) (b (ix2 r 0)) := by
  pointwise

theorem addV_at (a b : FVec Ideal S256x256 .f32) (r c : Fin 256) : addf a b (ix2 r c) = a (ix2 r c) + b (ix2 r c) := by
  pointwise

theorem mapB_at (q : FVec Ideal S256x128 .bf16) (k₁ k₂ k₃ : Vec Ideal S1x768x128 .bf16) (w₁ w₂ w₃ : Vec Ideal S768x256 .bf16)
    (r : Fin 256) (d : Fin 128) :
    mapB q k₁ k₂ k₃ w₁ w₂ w₃ (ix2 r d)
      = row3 (fun j => ∑ l : Fin 128, q (ix2 r l) * k₁ (ix3 0 j l)) (fun j => ∑ l : Fin 128, q (ix2 r l) * k₂ (ix3 0 j l))
          (fun j => ∑ l : Fin 128, q (ix2 r l) * k₃ (ix3 0 j l)) (fun j => w₁ (ix2 j ⟨d, by omega⟩))
          (fun j => w₂ (ix2 j ⟨d, by omega⟩)) (fun j => w₃ (ix2 j ⟨d, by omega⟩)) (fun j => w₁ (ix2 j ⟨128 + d, by omega⟩))
          (fun j => w₂ (ix2 j ⟨128 + d, by omega⟩)) (fun j => w₃ (ix2 j ⟨128 + d, by omega⟩)) := by
  unfold mapB row3 acc3
  simp only [quot_at, addV_at, moveB_at, maxV_at, addB_at, topB_at, scoresB_at]

/-- A head of the context tile, read at a row and a lane. -/
theorem headA_at (lam : FVec Ideal S1x1 .f32) (q k : Vec Ideal S1x256x128 .bf16) (w : Vec Ideal S256x256 .bf16)
    (g : Vec Ideal S1x128 .f32) (s : Elt Ideal .f32) (r : Fin 256) (d : Fin 128) :
    headA lam q k w g s (ix3 0 r d)
      = normRow
          (fun d =>
            row1 (fun j => scoreLo (fun l => q (ix3 0 r l)) fun l => k (ix3 0 j l)) (fun j => w (ix2 j ⟨d, by omega⟩))
                (fun j => w (ix2 j ⟨128 + d, by omega⟩))
              - lam (ix2 0 0)
                * row1 (fun j => scoreHi (fun l => q (ix3 0 r l)) fun l => k (ix3 0 j l)) (fun j => w (ix2 j ⟨d, by omega⟩))
                  (fun j => w (ix2 j ⟨128 + d, by omega⟩)))
          (fun d => g (ix2 0 d)) s d := by
  unfold headA
  rw [normed_at]
  congr 1
  funext d
  simp only [diffMap_at, mapA_at, keepLo_at, keepHi_at]
  simp only [sum_lo (fun l => q (ix3 0 r l)), sum_hi (fun l => q (ix3 0 r l))]

/-- A head of a latent tile, read at a row and a lane. -/
theorem headB_at (lam : FVec Ideal S1x1 .f32) (q : Vec Ideal S1x256x128 .bf16) (k₁ k₂ k₃ : Vec Ideal S1x768x128 .bf16)
    (w₁ w₂ w₃ : Vec Ideal S768x256 .bf16) (g : Vec Ideal S1x128 .f32) (s : Elt Ideal .f32) (r : Fin 256) (d : Fin 128) :
    headB lam q k₁ k₂ k₃ w₁ w₂ w₃ g s (ix3 0 r d)
      = normRow
          (fun d =>
            row3 (fun j => scoreLo (fun l => q (ix3 0 r l)) fun l => k₁ (ix3 0 j l))
                (fun j => scoreLo (fun l => q (ix3 0 r l)) fun l => k₂ (ix3 0 j l))
                (fun j => scoreLo (fun l => q (ix3 0 r l)) fun l => k₃ (ix3 0 j l))
                (fun j => w₁ (ix2 j ⟨d, by omega⟩)) (fun j => w₂ (ix2 j ⟨d, by omega⟩)) (fun j => w₃ (ix2 j ⟨d, by omega⟩))
                (fun j => w₁ (ix2 j ⟨128 + d, by omega⟩)) (fun j => w₂ (ix2 j ⟨128 + d, by omega⟩))
                (fun j => w₃ (ix2 j ⟨128 + d, by omega⟩))
              - lam (ix2 0 0)
                * row3 (fun j => scoreHi (fun l => q (ix3 0 r l)) fun l => k₁ (ix3 0 j l))
                  (fun j => scoreHi (fun l => q (ix3 0 r l)) fun l => k₂ (ix3 0 j l))
                  (fun j => scoreHi (fun l => q (ix3 0 r l)) fun l => k₃ (ix3 0 j l))
                  (fun j => w₁ (ix2 j ⟨d, by omega⟩)) (fun j => w₂ (ix2 j ⟨d, by omega⟩)) (fun j => w₃ (ix2 j ⟨d, by omega⟩))
                  (fun j => w₁ (ix2 j ⟨128 + d, by omega⟩)) (fun j => w₂ (ix2 j ⟨128 + d, by omega⟩))
                  (fun j => w₃ (ix2 j ⟨128 + d, by omega⟩)))
          (fun d => g (ix2 0 d)) s d := by
  unfold headB
  rw [normed_at]
  congr 1
  funext d
  simp only [diffMap_at, mapB_at, keepLo_at, keepHi_at]
  simp only [sum_lo (fun l => q (ix3 0 r l)), sum_hi (fun l => q (ix3 0 r l))]

end Cert.Attn

end
-- ==== Proof.Pieces.lean ====
/-
  The payloads the kernel stores are the heads: what each of the four stores of a context tile and of a latent tile puts
  into the output block is `headA` respectively `headB` of the loads it is computed from.
-/
module

public import proofs.«01_k».proof.Proof.Head

@[expose] public section

set_option maxRecDepth 16384

noncomputable section

namespace Cert.Attn

open Idealize.ShloMosaic
open Cert.KernelIdeal
open Cert.KernelIdeal.Gen

theorem pieceA0 (x4 : Vec Ideal S4x64 .f32) (a : Elt Ideal .f32) (q k : Vec Ideal S1x256x128 .bf16)
    (w : Vec Ideal S256x256 .bf16) (g : Vec Ideal S1x128 .f32) (s : Elt Ideal .f32) :
    k0_pay15 (F := Ideal) (k0_pay1 (F := Ideal) x4 a) (k0_pay13 (F := Ideal) lanes q k w) (k0_pay14 (F := Ideal)
      lanes q k) w g s
      = headA (k0_pay1 x4 a) q k w g s := rfl

theorem pieceA1 (x4 : Vec Ideal S4x64 .f32) (a : Elt Ideal .f32) (q k : Vec Ideal S1x256x128 .bf16)
    (w : Vec Ideal S256x256 .bf16) (g : Vec Ideal S1x128 .f32) (s : Elt Ideal .f32) :
    k0_pay19 (F := Ideal) (k0_pay18 (F := Ideal) (k0_pay1 (F := Ideal) x4 a) lanes (k0_pay16 (F := Ideal) q)
      (k0_pay17 (F := Ideal) lanes q k) w k w) g s
      = headA (k0_pay1 x4 a) q k w g s := rfl

theorem pieceA2 (x4 : Vec Ideal S4x64 .f32) (a : Elt Ideal .f32) (q k : Vec Ideal S1x256x128 .bf16)
    (w : Vec Ideal S256x256 .bf16) (g : Vec Ideal S1x128 .f32) (s : Elt Ideal .f32) :
    k0_pay24 (F := Ideal) (k0_pay1 (F := Ideal) x4 a) (k0_pay20 (F := Ideal) q) (k0_pay21 (F := Ideal) lanes q k w)
      (k0_pay22 (F := Ideal)) (k0_pay23 lanes) k w g s
      = headA (k0_pay1 x4 a) q k w g s := rfl

theorem pieceA3 (x4 : Vec Ideal S4x64 .f32) (a : Elt Ideal .f32) (q k : Vec Ideal S1x256x128 .bf16)
    (w : Vec Ideal S256x256 .bf16) (g : Vec Ideal S1x128 .f32) (s : Elt Ideal .f32) :
    k0_pay4 (F := Ideal) x4 a (k0_pay26 (F := Ideal) lanes q k w) (k0_pay27 (F := Ideal) lanes q k w) (k0_pay28
      (F := Ideal) lanes q k w) g s
      = headA (k0_pay1 x4 a) q k w g s := rfl

theorem pieceB0 (x4 : Vec Ideal S4x64 .f32) (a : Elt Ideal .f32) (q : Vec Ideal S1x256x128 .bf16)
    (k₁ k₂ k₃ : Vec Ideal S1x768x128 .bf16) (w₁ w₂ w₃ : Vec Ideal S768x256 .bf16) (g : Vec Ideal S1x128 .f32)
    (s : Elt Ideal .f32) :
    k0_pay44 (F := Ideal) (k0_pay42 (F := Ideal) (k0_pay1 (F := Ideal) x4 a) (k0_pay36 (F := Ideal) (k0_pay30
      (F := Ideal) lanes q) (k0_pay34 (F := Ideal) lanes q k₁ k₂) (k0_pay35 (F := Ideal) lanes q k₁ w₁ k₂ w₂) k₃ w₃)
      (k0_pay37 (F := Ideal) lanes (k0_pay29 (F := Ideal) q)) (k0_pay39 (F := Ideal) lanes (k0_pay29 (F := Ideal) q)
      k₁) (k0_pay40 (F := Ideal) lanes (k0_pay29 (F := Ideal) q) k₁ w₁) (k0_pay41 (F := Ideal) lanes (k0_pay29
      (F := Ideal) q) k₂) w₂ k₃ w₃) (k0_pay43 (F := Ideal) (k0_pay1 (F := Ideal) x4 a) (k0_pay36 (F := Ideal)
      (k0_pay30 (F := Ideal) lanes q) (k0_pay34 (F := Ideal) lanes q k₁ k₂) (k0_pay35 (F := Ideal) lanes q k₁ w₁ k₂
      w₂) k₃ w₃) (k0_pay37 (F := Ideal) lanes (k0_pay29 (F := Ideal) q)) (k0_pay39 (F := Ideal) lanes (k0_pay29
      (F := Ideal) q) k₁) (k0_pay40 (F := Ideal) lanes (k0_pay29 (F := Ideal) q) k₁ w₁) (k0_pay41 (F := Ideal) lanes
      (k0_pay29 (F := Ideal) q) k₂) w₂ k₃ w₃) g s
      = headB (k0_pay1 x4 a) q k₁ k₂ k₃ w₁ w₂ w₃ g s := rfl

theorem pieceB1 (x4 : Vec Ideal S4x64 .f32) (a : Elt Ideal .f32) (q : Vec Ideal S1x256x128 .bf16)
    (k₁ k₂ k₃ : Vec Ideal S1x768x128 .bf16) (w₁ w₂ w₃ : Vec Ideal S768x256 .bf16) (g : Vec Ideal S1x128 .f32)
    (s : Elt Ideal .f32) :
    k0_pay62 (F := Ideal) (k0_pay1 (F := Ideal) x4 a) (k0_pay52 (F := Ideal) (k0_pay46 (F := Ideal) lanes q)
      (k0_pay48 (F := Ideal) lanes q k₁) (k0_pay49 (F := Ideal) lanes q k₁ w₁) (k0_pay50 (F := Ideal) lanes q k₂)
      (k0_pay51 (F := Ideal) lanes q k₂) w₂ k₃ w₃) (k0_pay60 (F := Ideal) (k0_pay53 (F := Ideal) lanes (k0_pay45
      (F := Ideal) q)) (k0_pay54 (F := Ideal) lanes (k0_pay45 (F := Ideal) q) k₁) k₂ k₃ w₃) (k0_pay61 (F := Ideal)
      (k0_pay53 (F := Ideal) lanes (k0_pay45 (F := Ideal) q)) (k0_pay54 (F := Ideal) lanes (k0_pay45 (F := Ideal) q)
      k₁) w₁ k₂ w₂ k₃) g s
      = headB (k0_pay1 x4 a) q k₁ k₂ k₃ w₁ w₂ w₃ g s := rfl

theorem pieceB2 (x4 : Vec Ideal S4x64 .f32) (a : Elt Ideal .f32) (q : Vec Ideal S1x256x128 .bf16)
    (k₁ k₂ k₃ : Vec Ideal S1x768x128 .bf16) (w₁ w₂ w₃ : Vec Ideal S768x256 .bf16) (g : Vec Ideal S1x128 .f32)
    (s : Elt Ideal .f32) :
    k0_pay76 (F := Ideal) (k0_pay1 (F := Ideal) x4 a) (k0_pay68 (F := Ideal) (k0_pay67 (F := Ideal) (k0_pay64
      (F := Ideal) lanes q) (k0_pay65 (F := Ideal) lanes q k₁) (k0_pay66 (F := Ideal) lanes q k₁) w₁ k₂ w₂ k₃ w₃))
      (k0_pay69 (F := Ideal) lanes (k0_pay63 (F := Ideal) q)) (k0_pay73 (F := Ideal) lanes (k0_pay63 (F := Ideal) q)
      k₁ k₂) (k0_pay74 (F := Ideal) lanes (k0_pay63 (F := Ideal) q) k₁ w₁ k₂ w₂) (k0_pay75 (F := Ideal) k₃) w₃ g s
      = headB (k0_pay1 x4 a) q k₁ k₂ k₃ w₁ w₂ w₃ g s := rfl

theorem pieceB3 (x4 : Vec Ideal S4x64 .f32) (a : Elt Ideal .f32) (q : Vec Ideal S1x256x128 .bf16)
    (k₁ k₂ k₃ : Vec Ideal S1x768x128 .bf16) (w₁ w₂ w₃ : Vec Ideal S768x256 .bf16) (g : Vec Ideal S1x128 .f32)
    (s : Elt Ideal .f32) :
    k0_pay5 (F := Ideal) (k0_pay92 (F := Ideal) (k0_pay1 (F := Ideal) x4 a) (k0_pay85 (F := Ideal) (k0_pay78
      (F := Ideal) lanes q) (k0_pay82 (F := Ideal) lanes q k₁ k₂) (k0_pay83 (F := Ideal) lanes q k₁ w₁ k₂ w₂)
      (k0_pay84 (F := Ideal) k₃) (constant S256x768 FTy.f32 0#32) w₃) (k0_pay86 (F := Ideal) lanes (k0_pay77
      (F := Ideal) q)) (k0_pay88 (F := Ideal) lanes (k0_pay77 (F := Ideal) q) k₁) (k0_pay89 (F := Ideal) lanes
      (k0_pay77 (F := Ideal) q) k₁ w₁) (k0_pay90 (F := Ideal) lanes (k0_pay77 (F := Ideal) q) k₂) (k0_pay91
      (F := Ideal) lanes (k0_pay77 (F := Ideal) q) k₁ k₂) w₂ k₃ w₃) g s
      = headB (k0_pay1 x4 a) q k₁ k₂ k₃ w₁ w₂ w₃ g s := rfl

end Cert.Attn

end
-- ==== Proof.Block.lean ====
/-
  What one grid point computes, read at an index: the scratch filled at a context tile (each head's 128 value lanes
  followed by 128 ones), the block of a context tile and the block of a latent tile.
-/
module

public import proofs.«01_k».proof.Proof.Pieces
public import Idealize.ShloMosaic.Lib.Pipeline.ValueKit
public import Idealize.ShloMosaic.Lib.ViewIndex

@[expose] public section

set_option maxRecDepth 16384

noncomputable section

namespace Cert.Attn

open Idealize.ShloMosaic Idealize.ShloMosaic.Shape
open Cert.KernelIdeal
open Cert.KernelIdeal.Gen

/-- Lane `l` of head `h` among 512 lanes. -/
def lane (h : Fin 4) (l : Fin 128) : Fin 512 := ⟨128 * h + l, by omega⟩

/-- Lane `l` of the head that holds lane `z`. -/
def mate (z : Fin 512) (l : Fin 128) : Fin 512 := ⟨(z : ℕ) / 128 * 128 + l, by omega⟩

/-- The place of lane `z` in its head. -/
def spot (z : Fin 512) : Fin 128 := ⟨(z : ℕ) % 128, by omega⟩

/-- The values extended by ones, at key `j` and lane `c`: head by head 128 lanes of values, then 128 ones. -/
def vextAt (x3 : Vec Ideal S1x2304x512 .bf16) (j : Fin 2304) (c : Fin 1024) : EReal :=
  if (c : ℕ) % 256 < 128 then x3 (ix3 0 j ⟨(c : ℕ) / 256 * 128 + (c : ℕ) % 256 % 128, by omega⟩) else 1

/-- The extended values as an array. -/
def vext (x3 : Vec Ideal S1x2304x512 .bf16) : Vec Ideal S2304x1024 .bf16 := fun y => vextAt x3 (y 0) (y 1)

/-- The coefficient of the second map, from the four vectors and the initial value. -/
def lamOf (x4 : Vec Ideal S4x64 .f32) (l : EReal) : EReal :=
  Ideal.exp (∑ k : Fin 64, x4 (ix2 0 k) * x4 (ix2 1 k)) - Ideal.exp (∑ k : Fin 64, x4 (ix2 2 k) * x4 (ix2 3 k)) + l

theorem lam_at (x4 : Vec Ideal S4x64 .f32) (l : Elt Ideal .f32) : k0_pay1 x4 l (ix2 0 0) = lamOf x4 l := by
  pointwise [k0_pay1]
  rfl

/-- The block of a context tile, at row `r` and lane `z`. -/
def rowA (x0 : Vec Ideal S2 .f32) (x1 : Vec Ideal S1x256x512 .bf16) (x2 x3 : Vec Ideal S1x2304x512 .bf16)
    (x4 : Vec Ideal S4x64 .f32) (x5 : Vec Ideal S1x128 .f32) (r : Fin 256) (z : Fin 512) : EReal :=
  normRow
    (headRow1 (fun l => x1 (ix3 0 r (mate z l))) (fun (j : Fin 256) l => x2 (ix3 0 ⟨j, by omega⟩ (mate z l)))
      (fun j l => x3 (ix3 0 ⟨j, by omega⟩ (mate z l))) (lamOf x4 (x0 (ix1 0))))
    (fun d => x5 (ix2 0 d)) (x0 (ix1 1)) (spot z)

/-- The block of a context tile. -/
def blkA (x0 : Vec Ideal S2 .f32) (x1 : Vec Ideal S1x256x512 .bf16) (x2 x3 : Vec Ideal S1x2304x512 .bf16)
    (x4 : Vec Ideal S4x64 .f32) (x5 : Vec Ideal S1x128 .f32) : Vec Ideal S1x256x512 .bf16 :=
  fun y => rowA x0 x1 x2 x3 x4 x5 (y 1) (y 2)

/-- The block of a latent tile, at row `r` and lane `z`. -/
def rowB (x0 : Vec Ideal S2 .f32) (x1 : Vec Ideal S1x256x512 .bf16) (x2 x3 : Vec Ideal S1x2304x512 .bf16)
    (x4 : Vec Ideal S4x64 .f32) (x5 : Vec Ideal S1x128 .f32) (r : Fin 256) (z : Fin 512) : EReal :=
  normRow
    (headRow3 (n := 768) (fun l => x1 (ix3 0 r (mate z l))) (fun j l => x2 (ix3 0 j (mate z l)))
      (fun j l => x3 (ix3 0 j (mate z l))) (lamOf x4 (x0 (ix1 0))))
    (fun d => x5 (ix2 0 d)) (x0 (ix1 1)) (spot z)

/-- The block of a latent tile. -/
def blkB (x0 : Vec Ideal S2 .f32) (x1 : Vec Ideal S1x256x512 .bf16) (x2 x3 : Vec Ideal S1x2304x512 .bf16)
    (x4 : Vec Ideal S4x64 .f32) (x5 : Vec Ideal S1x128 .f32) : Vec Ideal S1x256x512 .bf16 :=
  fun y => rowB x0 x1 x2 x3 x4 x5 (y 1) (y 2)

theorem vextAt_one (x3 : Vec Ideal S1x2304x512 .bf16) (j : Fin 2304) (c : Fin 1024) (h : ¬ (c : ℕ) % 256 < 128) :
    vextAt x3 j c = 1 := by
  unfold vextAt
  rw [if_neg h]

theorem vextAt_val (x3 : Vec Ideal S1x2304x512 .bf16) (j : Fin 2304) (c : Fin 1024) (z : Fin 512) (h : (c : ℕ) % 256 < 128)
    (hz : (z : ℕ) = (c : ℕ) / 256 * 128 + (c : ℕ) % 256 % 128) : vextAt x3 j c = x3 (ix3 0 j z) := by
  unfold vextAt
  rw [if_pos h]
  exact congrArg (fun z => x3 (ix3 0 j z)) (Fin.ext hz.symm)

theorem vext_one (x3 : Vec Ideal S1x2304x512 .bf16) (y : S2304x1024.Idx) (h : ¬ ((y 1 : Fin 1024) : ℕ) % 256 < 128) :
    vext x3 y = 1 := vextAt_one x3 (y 0) (y 1) h

theorem vext_val (x3 : Vec Ideal S1x2304x512 .bf16) (y : S2304x1024.Idx) (j : Fin 2304) (z : Fin 512)
    (h : ((y 1 : Fin 1024) : ℕ) % 256 < 128) (h1 : ((y 0 : Fin 2304) : ℕ) = (j : ℕ))
    (h2 : (z : ℕ) = ((y 1 : Fin 1024) : ℕ) / 256 * 128 + ((y 1 : Fin 1024) : ℕ) % 256 % 128) :
    vext x3 y = x3 (ix3 0 j z) := by
  obtain rfl : (y 0 : Fin 2304) = j := Fin.ext h1
  exact vextAt_val x3 (y 0) (y 1) z h h2

theorem vext_lo (x3 : Vec Ideal S1x2304x512 .bf16) (j : Fin 2304) (h : Fin 4) (d : Fin 128) :
    vext x3 (ix2 j ⟨256 * (h : ℕ) + (d : ℕ), by omega⟩) = x3 (ix3 0 j (lane h d)) :=
  vextAt_val x3 j ⟨256 * (h : ℕ) + (d : ℕ), by omega⟩ (lane h d) (by show (256 * (h : ℕ) + (d : ℕ)) % 256 < 128; omega)
    (by show 128 * (h : ℕ) + (d : ℕ) = (256 * (h : ℕ) + (d : ℕ)) / 256 * 128 + (256 * (h : ℕ) + (d : ℕ)) % 256 % 128; omega)

theorem vext_hi (x3 : Vec Ideal S1x2304x512 .bf16) (j : Fin 2304) (h : Fin 4) (d : Fin 128) :
    vext x3 (ix2 j ⟨256 * (h : ℕ) + (128 + (d : ℕ)), by omega⟩) = 1 :=
  vextAt_one x3 j ⟨256 * (h : ℕ) + (128 + (d : ℕ)), by omega⟩
    (by show ¬ (256 * (h : ℕ) + (128 + (d : ℕ))) % 256 < 128; omega)

theorem mate_eq (z : Fin 512) (h : Fin 4) (d : Fin 128) (e : (z : ℕ) = 128 * (h : ℕ) + (d : ℕ)) :
    mate z = lane h ∧ spot z = d := by
  refine ⟨funext fun l => Fin.ext ?_, Fin.ext ?_⟩
  · show (z : ℕ) / 128 * 128 + (l : ℕ) = 128 * (h : ℕ) + (l : ℕ)
    omega
  · show (z : ℕ) % 128 = d
    omega

/-- A head of a context tile is its part of the block. -/
theorem headA_blk (x0 : Vec Ideal S2 .f32) (x1 : Vec Ideal S1x256x512 .bf16) (x2 x3 : Vec Ideal S1x2304x512 .bf16)
    (x4 : Vec Ideal S4x64 .f32) (x5 : Vec Ideal S1x128 .f32) (h : Fin 4) (lam : FVec Ideal S1x1 .f32)
    (q k : Vec Ideal S1x256x128 .bf16) (w : Vec Ideal S256x256 .bf16) (s : Elt Ideal .f32)
    (hl : lam (ix2 0 0) = lamOf x4 (x0 (ix1 0))) (hs : s = x0 (ix1 1))
    (hq : ∀ (r : Fin 256) (l : Fin 128), q (ix3 0 r l) = x1 (ix3 0 r (lane h l)))
    (hk : ∀ (j : Fin 256) (l : Fin 128), k (ix3 0 j l) = x2 (ix3 0 ⟨j, by omega⟩ (lane h l)))
    (hw : ∀ j c : Fin 256, w (ix2 j c) = vext x3 (ix2 ⟨j, by omega⟩ ⟨256 * h + c, by omega⟩))
    (y : S1x256x512.Idx) (x : S1x256x128.Idx) (h1 : ((y 1 : Fin 256) : ℕ) = ((x 1 : Fin 256) : ℕ))
    (h2 : ((y 2 : Fin 512) : ℕ) = 128 * (h : ℕ) + ((x 2 : Fin 128) : ℕ)) :
    headA lam q k w x5 s x = blkA x0 x1 x2 x3 x4 x5 y := by
  obtain ⟨a, r, d, rfl⟩ : ∃ (a : Fin 1) (r : Fin 256) (d : Fin 128), x = ix3 a r d :=
    ⟨x 0, x 1, x 2, idx3_ext rfl rfl rfl⟩
  obtain ⟨e1, e2⟩ := mate_eq (y 2) h d h2
  have e0 : (y 1 : Fin 256) = r := Fin.ext h1
  obtain rfl : a = 0 := Subsingleton.elim _ _
  show _ = rowA x0 x1 x2 x3 x4 x5 (y 1) (y 2)
  rw [headA_at, e0]
  unfold rowA headRow1
  rw [e1, e2, hs, hl]
  simp only [hq, hk, hw]
  congr 1
  funext d
  simp only [vext_lo, vext_hi]

/-- A head of a latent tile is its part of the block. -/
theorem headB_blk (x0 : Vec Ideal S2 .f32) (x1 : Vec Ideal S1x256x512 .bf16) (x2 x3 : Vec Ideal S1x2304x512 .bf16)
    (x4 : Vec Ideal S4x64 .f32) (x5 : Vec Ideal S1x128 .f32) (h : Fin 4) (lam : FVec Ideal S1x1 .f32)
    (q : Vec Ideal S1x256x128 .bf16) (k₁ k₂ k₃ : Vec Ideal S1x768x128 .bf16) (w₁ w₂ w₃ : Vec Ideal S768x256 .bf16)
    (s : Elt Ideal .f32)
    (hl : lam (ix2 0 0) = lamOf x4 (x0 (ix1 0))) (hs : s = x0 (ix1 1))
    (hq : ∀ (r : Fin 256) (l : Fin 128), q (ix3 0 r l) = x1 (ix3 0 r (lane h l)))
    (hk₁ : ∀ (j : Fin 768) (l : Fin 128), k₁ (ix3 0 j l) = x2 (ix3 0 ⟨j, by omega⟩ (lane h l)))
    (hk₂ : ∀ (j : Fin 768) (l : Fin 128), k₂ (ix3 0 j l) = x2 (ix3 0 ⟨768 + j, by omega⟩ (lane h l)))
    (hk₃ : ∀ (j : Fin 768) (l : Fin 128), k₃ (ix3 0 j l) = x2 (ix3 0 ⟨2 * 768 + j, by omega⟩ (lane h l)))
    (hw₁ : ∀ (j : Fin 768) (c : Fin 256), w₁ (ix2 j c) = vext x3 (ix2 ⟨j, by omega⟩ ⟨256 * h + c, by omega⟩))
    (hw₂ : ∀ (j : Fin 768) (c : Fin 256), w₂ (ix2 j c) = vext x3 (ix2 ⟨768 + j, by omega⟩ ⟨256 * h + c, by omega⟩))
    (hw₃ : ∀ (j : Fin 768) (c : Fin 256), w₃ (ix2 j c) = vext x3 (ix2 ⟨2 * 768 + j, by omega⟩ ⟨256 * h + c, by omega⟩))
    (y : S1x256x512.Idx) (x : S1x256x128.Idx) (h1 : ((y 1 : Fin 256) : ℕ) = ((x 1 : Fin 256) : ℕ))
    (h2 : ((y 2 : Fin 512) : ℕ) = 128 * (h : ℕ) + ((x 2 : Fin 128) : ℕ)) :
    headB lam q k₁ k₂ k₃ w₁ w₂ w₃ x5 s x = blkB x0 x1 x2 x3 x4 x5 y := by
  obtain ⟨a, r, d, rfl⟩ : ∃ (a : Fin 1) (r : Fin 256) (d : Fin 128), x = ix3 a r d :=
    ⟨x 0, x 1, x 2, idx3_ext rfl rfl rfl⟩
  obtain ⟨e1, e2⟩ := mate_eq (y 2) h d h2
  have e0 : (y 1 : Fin 256) = r := Fin.ext h1
  obtain rfl : a = 0 := Subsingleton.elim _ _
  show _ = rowB x0 x1 x2 x3 x4 x5 (y 1) (y 2)
  rw [headB_at, e0]
  unfold rowB headRow3
  rw [e1, e2, hs, hl]
  simp only [hq, hk₁, hk₂, hk₃, hw₁, hw₂, hw₃]
  congr 1
  funext d
  simp only [vext_lo, vext_hi]

/-- The scratch a context tile fills. -/
theorem scr_A (c : Dev nD) (i : grid0.Coords) (arg3 : Memref sig .tc .smem S2 .f32) (harg3 : arg3.IsWhole)
    (arg4 : Memref sig .tc .vmem S1x256x512 .bf16) (harg4 : arg4.IsWhole) (arg5 : Memref sig .tc .vmem S1x2304x512 .bf16)
    (harg5 : arg5.IsWhole) (arg6 : Memref sig .tc .vmem S1x2304x512 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S1x256x512 .bf16) (harg9 : arg9.IsWhole) (arg10 : Memref sig .tc .vmem S2304x1024 .bf16)
    (harg10 : arg10.IsWhole)
    (hc0 : cond0_0 i) (hc1 : cond0_1 i) (hc2 : ¬cond0_2 i)
    (x0 : Vec Ideal S2 .f32) (x1 : Vec Ideal S1x256x512 .bf16) (x2 x3 : Vec Ideal S1x2304x512 .bf16)
    (x4 : Vec Ideal S4x64 .f32) (x5 : Vec Ideal S1x128 .f32) :
    sout0_A_0 c i arg3 harg3 arg4 harg4 arg5 harg5 arg6 harg6 arg7 harg7 arg8 harg8 arg9 harg9 arg10 harg10 hc0 hc1 hc2
      x0 x1 x2 x3 x4 x5 = vext x3 := by
  frame_out
  funext y
  canon_tiles x h
  case piece0 | piece2 | piece4 | piece6 =>
    rw [vext_one x3 y (by omega)]
    pointwise [k0_pay3, k0_pay7, k0_pay9, k0_pay11]
  case piece1 | piece3 | piece5 | piece7 =>
    pointwise [k0_pay2, k0_pay6, k0_pay8, k0_pay10]
    exact (vext_val x3 y _ _ (by omega) h0 (by simp only []; omega)).symm

theorem idx2_ext {d : Fin 2 → Nat} {x y : (⟨2, d⟩ : Shape).Idx} (h0 : (x 0).val = (y 0).val) (h1 : (x 1).val = (y 1).val) :
    x = y :=
  funext fun a => by
    match a with
    | ⟨0, _⟩ => exact Fin.ext h0
    | ⟨1, _⟩ => exact Fin.ext h1

/-- A load of a box of a block, read at an index. -/
theorem ld3_at {n m a b o₁ o₂ : ℕ} (X : Vec Ideal (⟨3, ![1, n, m]⟩ : Shape) .bf16)
    (inb : ∀ i, (![0, o₁, o₂] : Fin 3 → ℕ) i + (![1, a, b] : Fin 3 → ℕ) i ≤ (⟨3, ![1, n, m]⟩ : Shape).size i) (r : Fin a) (l : Fin b)
    (r' : Fin n) (l' : Fin m) (hr : (r' : ℕ) = o₁ + r) (hl : (l' : ℕ) = o₂ + l) :
    View.ld X (Rect.unit ![0, o₁, o₂] ![1, a, b] inb) (ix3 0 r l) = X (ix3 0 r' l') :=
  congrArg X (idx3_ext rfl (by show o₁ + 1 * (r : ℕ) = r'; omega)
    (by show o₂ + 1 * (l : ℕ) = l'; omega))

/-- A load of a box of the scratch, read at an index. -/
theorem ld2_at {n m a b o₁ o₂ : ℕ} (X : Vec Ideal (⟨2, ![n, m]⟩ : Shape) .bf16)
    (inb : ∀ i, (![o₁, o₂] : Fin 2 → ℕ) i + (![a, b] : Fin 2 → ℕ) i ≤ (⟨2, ![n, m]⟩ : Shape).size i) (r : Fin a) (l : Fin b)
    (r' : Fin n) (l' : Fin m) (hr : (r' : ℕ) = o₁ + r) (hl : (l' : ℕ) = o₂ + l) :
    View.ld X (Rect.unit ![o₁, o₂] ![a, b] inb) (ix2 r l) = X (ix2 r' l') :=
  congrArg X (idx2_ext (by show o₁ + 1 * (r : ℕ) = r'; omega)
    (by show o₂ + 1 * (l : ℕ) = l'; omega))

/-- A load of one word. -/
theorem ld1_at (X : Vec Ideal S2 .f32) (o : ℕ) (inb : ∀ i, (![o] : Fin 1 → ℕ) i + (![1] : Fin 1 → ℕ) i ≤ S2.size i)
    (h : 0 < (Rect.unit (s := S2) ![o] ![1] inb).shape.numel) (z : Fin 2) (hz : (z : ℕ) = o) :
    View.ld X (Rect.unit ![o] ![1] inb) (Shape.Idx.first h) = X (ix1 z) :=
  congrArg X (idx1_ext (by show o + 1 * 0 = (z : ℕ); omega))

/-- What a context tile leaves in the output block. -/
theorem out_A (c : Dev nD) (i : grid0.Coords) (arg3 : Memref sig .tc .smem S2 .f32) (harg3 : arg3.IsWhole)
    (arg4 : Memref sig .tc .vmem S1x256x512 .bf16) (harg4 : arg4.IsWhole) (arg5 : Memref sig .tc .vmem S1x2304x512 .bf16)
    (harg5 : arg5.IsWhole) (arg6 : Memref sig .tc .vmem S1x2304x512 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S1x256x512 .bf16) (harg9 : arg9.IsWhole) (arg10 : Memref sig .tc .vmem S2304x1024 .bf16)
    (harg10 : arg10.IsWhole)
    (hc0 : cond0_0 i) (hc1 : cond0_1 i) (hc2 : ¬cond0_2 i)
    (x0 : Vec Ideal S2 .f32) (x1 : Vec Ideal S1x256x512 .bf16) (x2 x3 : Vec Ideal S1x2304x512 .bf16)
    (x4 : Vec Ideal S4x64 .f32) (x5 : Vec Ideal S1x128 .f32) :
    out0_A_6 c i arg3 harg3 arg4 harg4 arg5 harg5 arg6 harg6 arg7 harg7 arg8 harg8 arg9 harg9 arg10 harg10 hc0 hc1 hc2
      x0 x1 x2 x3 x4 x5 = blkA x0 x1 x2 x3 x4 x5 := by
  have e := scr_A c i arg3 harg3 arg4 harg4 arg5 harg5 arg6 harg6 arg7 harg7 arg8 harg8 arg9 harg9 arg10 harg10 hc0 hc1 hc2
      x0 x1 x2 x3 x4 x5
  rw [show sout0_A_0 c i arg3 harg3 arg4 harg4 arg5 harg5 arg6 harg6 arg7 harg7 arg8 harg8 arg9 harg9 arg10 harg10 hc0 hc1 hc2
      x0 x1 x2 x3 x4 x5 = _ from (by frame_out; rfl)] at e
  frame_out
  simp only [View.readCov_eq_canon', e]
  clear e
  funext y
  canon_tiles x h
  case piece0 =>
    rw [pieceA3]
    exact headA_blk x0 x1 x2 x3 x4 x5 3 _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j c => ld2_at (vext x3) _ j c _ _ (by simp) (by simp))
      y x (by omega) (by simp only []; omega)
  case piece1 =>
    rw [pieceA2]
    exact headA_blk x0 x1 x2 x3 x4 x5 2 _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j c => ld2_at (vext x3) _ j c _ _ (by simp) (by simp))
      y x (by omega) (by simp only []; omega)
  case piece2 =>
    rw [pieceA1]
    exact headA_blk x0 x1 x2 x3 x4 x5 1 _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j c => ld2_at (vext x3) _ j c _ _ (by simp) (by simp))
      y x (by omega) (by simp only []; omega)
  case piece3 =>
    rw [pieceA0]
    exact headA_blk x0 x1 x2 x3 x4 x5 0 _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j c => ld2_at (vext x3) _ j c _ _ (by simp) (by simp))
      y x (by omega) (by simp only []; omega)

/-- What a latent tile over the scratch of its run leaves in the output block. -/
theorem out_B (c : Dev nD) (i : grid0.Coords) (arg3 : Memref sig .tc .smem S2 .f32) (harg3 : arg3.IsWhole)
    (arg4 : Memref sig .tc .vmem S1x256x512 .bf16) (harg4 : arg4.IsWhole) (arg5 : Memref sig .tc .vmem S1x2304x512 .bf16)
    (harg5 : arg5.IsWhole) (arg6 : Memref sig .tc .vmem S1x2304x512 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S1x256x512 .bf16) (harg9 : arg9.IsWhole) (arg10 : Memref sig .tc .vmem S2304x1024 .bf16)
    (harg10 : arg10.IsWhole)
    (hc0 : ¬cond0_0 i) (hc1 : ¬cond0_1 i) (hc2 : cond0_2 i)
    (x0 : Vec Ideal S2 .f32) (x1 : Vec Ideal S1x256x512 .bf16) (x2 x3 : Vec Ideal S1x2304x512 .bf16)
    (x4 : Vec Ideal S4x64 .f32) (x5 : Vec Ideal S1x128 .f32) :
    out0_B_6 c i arg3 harg3 arg4 harg4 arg5 harg5 arg6 harg6 arg7 harg7 arg8 harg8 arg9 harg9 arg10 harg10 hc0 hc1 hc2
      x0 x1 x2 x3 x4 x5 (vext x3) = blkB x0 x1 x2 x3 x4 x5 := by
  frame_out
  funext y
  canon_tiles x h
  case piece0 =>
    rw [pieceB3]
    exact headB_blk x0 x1 x2 x3 x4 x5 3 _ _ _ _ _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j l => ld3_at x2 _ j l _ _ (by simp) (by simp [lane]))
      (fun j l => ld3_at x2 _ j l _ _ (by simp) (by simp [lane]))
      (fun j c => ld2_at (vext x3) _ j c _ _ (by simp) (by simp))
      (fun j c => ld2_at (vext x3) _ j c _ _ (by simp) (by simp))
      (fun j c => ld2_at (vext x3) _ j c _ _ (by simp) (by simp))
      y x (by omega) (by simp only []; omega)
  case piece1 =>
    rw [pieceB2]
    exact headB_blk x0 x1 x2 x3 x4 x5 2 _ _ _ _ _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j l => ld3_at x2 _ j l _ _ (by simp) (by simp [lane]))
      (fun j l => ld3_at x2 _ j l _ _ (by simp) (by simp [lane]))
      (fun j c => ld2_at (vext x3) _ j c _ _ (by simp) (by simp))
      (fun j c => ld2_at (vext x3) _ j c _ _ (by simp) (by simp))
      (fun j c => ld2_at (vext x3) _ j c _ _ (by simp) (by simp))
      y x (by omega) (by simp only []; omega)
  case piece2 =>
    rw [pieceB1]
    exact headB_blk x0 x1 x2 x3 x4 x5 1 _ _ _ _ _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j l => ld3_at x2 _ j l _ _ (by simp) (by simp [lane]))
      (fun j l => ld3_at x2 _ j l _ _ (by simp) (by simp [lane]))
      (fun j c => ld2_at (vext x3) _ j c _ _ (by simp) (by simp))
      (fun j c => ld2_at (vext x3) _ j c _ _ (by simp) (by simp))
      (fun j c => ld2_at (vext x3) _ j c _ _ (by simp) (by simp))
      y x (by omega) (by simp only []; omega)
  case piece3 =>
    rw [pieceB0]
    exact headB_blk x0 x1 x2 x3 x4 x5 0 _ _ _ _ _ _ _ _ _ ((lam_at _ _).trans (congrArg (lamOf x4) (ld1_at x0 0 _ _ 0 rfl)))
      (ld1_at x0 1 _ _ 1 rfl) (fun r l => ld3_at x1 _ r l _ _ (by simp) (by simp [lane]))
      (fun j l => ld3_at x2 _ j l _ _ (by simp) (by simp [lane]))
      (fun j l => ld3_at x2 _ j l _ _ (by simp) (by simp [lane]))
      (fun j l => ld3_at x2 _ j l _ _ (by simp) (by simp [lane]))
      (fun j c => ld2_at (vext x3) _ j c _ _ (by simp) (by simp))
      (fun j c => ld2_at (vext x3) _ j c _ _ (by simp) (by simp))
      (fun j c => ld2_at (vext x3) _ j c _ _ (by simp) (by simp))
      y x (by omega) (by simp only []; omega)

end Cert.Attn

end
-- ==== Proof.Array.lean ====
/-
  What the kernel's output array holds after the run, at an index: the blocks of the 144 grid points put together.
-/
module

public import proofs.«01_k».proof.Proof.Block

@[expose] public section

set_option maxRecDepth 16384

noncomputable section

namespace Cert.Attn

open Idealize.ShloMosaic Idealize.ShloMosaic.Shape Idealize.ShloMosaic.TcCoe
open Cert.KernelIdeal
open Cert.KernelIdeal.Gen

/-- Column `z` of the part of the projection that starts at column `o`. -/
def col (o : ℕ) (h : o + 512 ≤ 8192) (z : Fin 512) : Fin 8192 := ⟨o + z, by omega⟩

/-- The kernel's result at batch `b`, row `n` and lane `z`. -/
def kerAt (L : Vec Ideal S1 .f32) (P : Vec Ideal S16x2304x8192 .bf16) (A : Vec Ideal S4x64 .f32) (g : Vec Ideal S128 .f32)
    (b : Fin 16) (n : Fin 2304) (z : Fin 512) : EReal :=
  normRow
    (fun d =>
      if (n : ℕ) < 256 then
        headRow1 (fun l => P (ix3 b n (col 6144 (by omega) (mate z l))))
          (fun (j : Fin 256) l => P (ix3 b ⟨j, by omega⟩ (col 6656 (by omega) (mate z l))))
          (fun j l => P (ix3 b ⟨j, by omega⟩ (col 7168 (by omega) (mate z l)))) (lamOf A (L (ix1 0))) d
      else
        headRow3 (n := 768) (fun l => P (ix3 b n (col 6144 (by omega) (mate z l))))
          (fun j l => P (ix3 b j (col 6656 (by omega) (mate z l))))
          (fun j l => P (ix3 b j (col 7168 (by omega) (mate z l)))) (lamOf A (L (ix1 0))) d)
    (fun d => g (ix1 d)) (1 - L (ix1 0)) (spot z)

variable (m : (ℓ : Loc nD τ sig) → Buf (Elt Ideal) ℓ)

theorem idx : ∀ t : Fin cfg0.N, win0_0.index t = ![0] ∧ win0_1.index t = ![t.val / 9, t.val % 9, 12]
    ∧ win0_2.index t = ![t.val / 9, 0, 13] ∧ win0_3.index t = ![t.val / 9, 0, 14] ∧ win0_4.index t = ![0, 0]
    ∧ win0_5.index t = ![0, 0] ∧ win0_6.index t = ![t.val / 9, t.val % 9, 0] :=
  (by decide +kernel : ∀ t : Fin grid0.N, _)

/-- A run's points stage the same values. -/
theorem vals_step (c : Dev nD) (t t' : Fin cfg0.N) (h : t.val / 9 = t'.val / 9) : iblk m c 3 t = iblk m c 3 t' := by
  funext y
  blk_ext [iblk, V, idx t, idx t']

/-- The scalars the host code packs: the weight and one minus the weight. -/
def packed (L : Vec Ideal S1 .f32) : Vec Ideal S2 .f32 :=
  concatenate S2 0 [⟨S1, L⟩,
    ⟨S1, (subf (broadcastInDim S1 ![] bcast_S_S1 (constant S_ .f32 0x3F800000#32 : FVec Ideal S_ .f32) : FVec Ideal S1 .f32) L : FVec Ideal S1 .f32)⟩]
    concatenates_S1_S1_S2_d0

theorem scal_val (c : Dev nD) : V m c main_v2 = packed (m ((c : Thread nD τ).loc main_arg0)) := by
  unfold_abbrev_sides
  after_results
  rfl

theorem gain_val (c : Dev nD) : V m c main_v3
    = (shapeCast S1x128 (m ((c : Thread nD τ).loc main_arg3) : Vec Ideal S128 .f32) shapeCasts_S128_S1x128 : Vec Ideal S1x128 .f32) := by
  unfold_abbrev_sides
  after_results
  rfl

theorem packed_at0 (L : Vec Ideal S1 .f32) : packed L (ix1 0) = L (ix1 0) := by
  pointwise [packed]

theorem packed_at1 (L : Vec Ideal S1 .f32) : packed L (ix1 1) = 1 - L (ix1 0) := by
  pointwise [packed]

theorem scal_at0 (c : Dev nD) (t : Fin cfg0.N) : iblk m c 0 t (ix1 0) = m ((c : Thread nD τ).loc main_arg0) (ix1 0) := by
  have e : iblk m c 0 t (ix1 0) = (V m c main_v2 : Vec Ideal S2 .f32) (ix1 0) := by blk_ext [iblk, idx t]
  rw [e, scal_val]
  exact packed_at0 _

theorem scal_at1 (c : Dev nD) (t : Fin cfg0.N) : iblk m c 0 t (ix1 1) = (1 : EReal) - m ((c : Thread nD τ).loc main_arg0) (ix1 0) := by
  have e : iblk m c 0 t (ix1 1) = (V m c main_v2 : Vec Ideal S2 .f32) (ix1 1) := by blk_ext [iblk, idx t]
  rw [e, scal_val]
  exact packed_at1 _

theorem gain_at (c : Dev nD) (t : Fin cfg0.N) (d : Fin 128) : iblk m c 5 t (ix2 0 d) = m ((c : Thread nD τ).loc main_arg3) (ix1 d) := by
  have e : iblk m c 5 t (ix2 0 d) = (V m c main_v3 : Vec Ideal S1x128 .f32) (ix2 0 d) := by blk_ext [iblk, idx t]
  rw [e, gain_val]
  pointwise

theorem lam_blk (c : Dev nD) (t : Fin cfg0.N) : iblk m c 4 t = m ((c : Thread nD τ).loc main_arg2) := by
  funext y
  blk_ext [iblk, V, idx t]

theorem q_at (c : Dev nD) (t : Fin cfg0.N) (r : Fin 256) (z : Fin 512) (b : Fin 16) (n : Fin 2304) (hb : (b : ℕ) = t.val / 9)
    (hn : (n : ℕ) = t.val % 9 * 256 + r) :
    iblk m c 1 t (ix3 0 r z) = m ((c : Thread nD τ).loc main_arg1) (ix3 b n (col 6144 (by omega) z)) := by
  blk_ext [iblk, V, idx t, col]

theorem k_at (c : Dev nD) (t : Fin cfg0.N) (j : Fin 2304) (z : Fin 512) (b : Fin 16) (hb : (b : ℕ) = t.val / 9) :
    iblk m c 2 t (ix3 0 j z) = m ((c : Thread nD τ).loc main_arg1) (ix3 b j (col 6656 (by omega) z)) := by
  blk_ext [iblk, V, idx t, col]

theorem v_at (c : Dev nD) (t : Fin cfg0.N) (j : Fin 2304) (z : Fin 512) (b : Fin 16) (hb : (b : ℕ) = t.val / 9) :
    iblk m c 3 t (ix3 0 j z) = m ((c : Thread nD τ).loc main_arg1) (ix3 b j (col 7168 (by omega) z)) := by
  blk_ext [iblk, V, idx t, col]

/-- A context tile fills the scratch with its batch's values. -/
theorem fill (c : Dev nD) (t : Fin cfg0.N) (h0 : t.val % 9 = 0) : (outsAt0 m c t.val t.isLt).2 = vext (iblk m c 3 t) := by
  refine (congrArg Prod.snd (outsAt0_A m c t h0 h0 (by omega))).trans ?_
  dsimp only
  exact scr_A c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) scM0_0 (Memref.isWhole_whole _) _ _ _ _ _ _ _ _ _

/-- The scratch holds the values of the point's own batch, at every point. -/
theorem scratch (c : Dev nD) : ∀ (n : ℕ) (h : n < cfg0.N), (outsAt0 m c n h).2 = vext (iblk m c 3 ⟨n, h⟩) := by
  intro n
  induction n with
  | zero => exact fun h => fill m c ⟨0, h⟩ rfl
  | succ n ih =>
    intro h
    by_cases h0 : (n + 1) % 9 = 0
    · exact fill m c ⟨n + 1, h⟩ h0
    · rw [outsAt0_B m c ⟨n + 1, h⟩ h0 h0 (by simp only []; omega)]
      refine (ih (by omega)).trans (congrArg vext (vals_step m c _ _ ?_))
      simp only []
      omega

/-- The block each point leaves. -/
theorem block (c : Dev nD) (t : Fin cfg0.N) : (outsAt0 m c t.val t.isLt).1
    = if t.val % 9 = 0 then blkA (iblk m c 0 t) (iblk m c 1 t) (iblk m c 2 t) (iblk m c 3 t) (iblk m c 4 t) (iblk m c 5 t)
      else blkB (iblk m c 0 t) (iblk m c 1 t) (iblk m c 2 t) (iblk m c 3 t) (iblk m c 4 t) (iblk m c 5 t) := by
  split
  · rename_i h0
    refine (congrArg Prod.fst (outsAt0_A m c t h0 h0 (by omega))).trans ?_
    dsimp only
    exact out_A c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) scM0_0 (Memref.isWhole_whole _) _ _ _ _ _ _ _ _ _
  · rename_i h0
    refine (congrArg Prod.fst (outsAt0_B m c t h0 h0 (by omega))).trans ?_
    dsimp only
    have e : (outsAt0 m c (t.val - 1) (Nat.lt_of_le_of_lt (Nat.sub_le _ _) t.isLt)).2 = vext (iblk m c 3 t) :=
      (scratch m c _ _).trans (congrArg vext (vals_step m c _ _ (by simp only []; omega)))
    rw [e]
    exact out_B c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) scM0_0 (Memref.isWhole_whole _) _ _ _ _ _ _ _ _ _

/-- One row of the block at point `t` is the row of the array. -/
theorem row_at (c : Dev nD) (t : Fin cfg0.N) (r : Fin 256) (z : Fin 512) (b : Fin 16) (n : Fin 2304) (hb : (b : ℕ) = t.val / 9)
    (hn : (n : ℕ) = t.val % 9 * 256 + r) : (outsAt0 m c t.val t.isLt).1 (ix3 0 r z)
    = kerAt (m ((c : Thread nD τ).loc main_arg0)) (m ((c : Thread nD τ).loc main_arg1)) (m ((c : Thread nD τ).loc main_arg2))
        (m ((c : Thread nD τ).loc main_arg3)) b n z := by
  rw [block]
  unfold kerAt
  split
  · rename_i h0
    have hlt : (n : ℕ) < 256 := by omega
    show rowA (iblk m c 0 t) (iblk m c 1 t) (iblk m c 2 t) (iblk m c 3 t) (iblk m c 4 t) (iblk m c 5 t) r z = _
    simp only [rowA, if_pos hlt, scal_at0, scal_at1, gain_at, lam_blk, q_at m c t r _ b n hb hn, k_at m c t _ _ b hb, v_at m c t _ _ b hb]
  · rename_i h0
    have hlt : ¬ (n : ℕ) < 256 := by omega
    show rowB (iblk m c 0 t) (iblk m c 1 t) (iblk m c 2 t) (iblk m c 3 t) (iblk m c 4 t) (iblk m c 5 t) r z = _
    simp only [rowB, if_neg hlt, scal_at0, scal_at1, gain_at, lam_blk, q_at m c t r _ b n hb hn, k_at m c t _ _ b hb, v_at m c t _ _ b hb]

/-- The output array after the run. -/
theorem final (c : Dev nD) : (dats m 0 c).arrAt 6 cfg0.N
    = (fun i => kerAt (m ((c : Thread nD τ).loc main_arg0)) (m ((c : Thread nD τ).loc main_arg1)) (m ((c : Thread nD τ).loc main_arg2))
        (m ((c : Thread nD τ).loc main_arg3)) (i 0) (i 1) (i 2) : Vec Ideal S16x2304x512 .bf16) := by
  refine Pipeline.Dat.arrAt_eq_of_covers _ 6 _ (by decide +kernel) fun t hf y => ?_
  obtain ⟨a, r, z, rfl⟩ : ∃ (a : Fin 1) (r : Fin 256) (z : Fin 512), y = ix3 a r z := ⟨y 0, y 1, y 2, idx3_ext rfl rfl rfl⟩
  obtain rfl : a = 0 := Subsingleton.elim _ _
  blk_simp [idx t]
  rw [after0_6]
  have hN : t.val < 144 := t.isLt
  have e : ∀ X : S16x2304x512.Idx → EReal, X ((win0_6.blk t).view.emb (ix3 0 r z))
      = X (ix3 ⟨t.val / 9, by omega⟩ ⟨t.val % 9 * 256 + r, by omega⟩ z) := by
    intro X
    blk_ext [idx t]
  refine (row_at m c t r z ⟨t.val / 9, by omega⟩ ⟨t.val % 9 * 256 + r, by omega⟩ rfl rfl).trans ?_
  exact (e fun i => kerAt (m ((c : Thread nD τ).loc main_arg0)) (m ((c : Thread nD τ).loc main_arg1))
    (m ((c : Thread nD τ).loc main_arg2)) (m ((c : Thread nD τ).loc main_arg3)) (i 0) (i 1) (i 2)).symm

end Cert.Attn

end
-- ==== Proof.RefOps.lean ====
/-
  The arrays the reference computes on the way to its result, each read at an index: the parts of the projection, the
  coefficient, and for the context tokens and for the latent tokens the scores, the two maps, their difference, the
  product with the values and its normalisation.
-/
module

public import proofs.«01_k».proof.Proof.Rows
public import proofs.«01_k».proof.Proof.Gen.ReferenceIdeal.Run
public import Idealize.ShloMosaic.Lib.Pointwise

@[expose] public section

set_option maxRecDepth 16384

noncomputable section

namespace Cert.Attn.Ref

open Idealize.ShloMosaic Idealize.ShloMosaic.Shape
open Cert.ReferenceIdeal Cert.ReferenceIdeal.Gen

/-- The largest entry along the last of five axes. -/
theorem hostMax_at {n₀ n₁ n₂ n₃ n₄ : ℕ} (h : (⟨5, ![n₀, n₁, n₂, n₃, n₄]⟩ : Shape).ReducesTo [4] ⟨4, ![n₀, n₁, n₂, n₃]⟩)
    (x : FVec Ideal ⟨5, ![n₀, n₁, n₂, n₃, n₄]⟩ .f32) (hu : 0 < S_.numel) (b : Fin n₀) (s : Fin n₁) (e : Fin n₂) (i : Fin n₃) :
    Host.reduce FloatOps.maximumf x (constant S_ .f32 0xFF800000#32) h hu (ix4 b s e i) = rowMax fun j => x (ix5 b s e i j) := by
  pointwise
  rfl

/-- The queries, by head, half and lane. -/
def qs (P : FVec Ideal S16x2304x8192 .bf16) : FVec Ideal S16x2304x4x2x64 .f32 :=
  shapeCast _ (extractStridedSlice S16x2304x512 ![0, 0, 6144] (extf .f32 P bitsLt_bf16_f32)
    slices_S16x2304x8192_S16x2304x512_0_0_6144) shapeCasts_S16x2304x512_S16x2304x4x2x64

/-- The keys, by head, half and lane. -/
def ks (P : FVec Ideal S16x2304x8192 .bf16) : FVec Ideal S16x2304x4x2x64 .f32 :=
  shapeCast _ (extractStridedSlice S16x2304x512 ![0, 0, 6656] (extf .f32 P bitsLt_bf16_f32)
    slices_S16x2304x8192_S16x2304x512_0_0_6656) shapeCasts_S16x2304x512_S16x2304x4x2x64

/-- The values, by head and lane. -/
def vs (P : FVec Ideal S16x2304x8192 .bf16) : FVec Ideal S16x2304x4x128 .f32 :=
  shapeCast _ (extractStridedSlice S16x2304x512 ![0, 0, 7168] (extf .f32 P bitsLt_bf16_f32)
    slices_S16x2304x8192_S16x2304x512_0_0_7168) shapeCasts_S16x2304x512_S16x2304x4x128

theorem qs_at (P : FVec Ideal S16x2304x8192 .bf16) (b : Fin 16) (i : Fin 2304) (h : Fin 4) (s : Fin 2) (l : Fin 64) :
    qs P (ix5 b i h s l) = P (ix3 b i ⟨6144 + (128 * h + 64 * s + l), by omega⟩) := by
  pointwise [qs]
  exact congrArg (fun z => P (ix3 b i z)) (Fin.ext (by simp only []; omega))

theorem ks_at (P : FVec Ideal S16x2304x8192 .bf16) (b : Fin 16) (i : Fin 2304) (h : Fin 4) (s : Fin 2) (l : Fin 64) :
    ks P (ix5 b i h s l) = P (ix3 b i ⟨6656 + (128 * h + 64 * s + l), by omega⟩) := by
  pointwise [ks]
  exact congrArg (fun z => P (ix3 b i z)) (Fin.ext (by simp only []; omega))

theorem vs_at (P : FVec Ideal S16x2304x8192 .bf16) (b : Fin 16) (i : Fin 2304) (h : Fin 4) (d : Fin 128) :
    vs P (ix4 b i h d) = P (ix3 b i ⟨7168 + (128 * h + d), by omega⟩) := by
  pointwise [vs]
  exact congrArg (fun z => P (ix3 b i z)) (Fin.ext (by simp only []; omega))

/-- The coefficient of the second map. -/
def coef (L : FVec Ideal S1 .f32) (A : FVec Ideal S4x64 .f32) : FVec Ideal S_ .f32 :=
  addf (subf
    (Host.exp (Host.reduceAdd (mulf (shapeCast S64 (extractStridedSlice S1x64 ![0, 0] A slices_S4x64_S1x64_0_0) shapeCasts_S1x64_S64)
      (shapeCast S64 (extractStridedSlice S1x64 ![1, 0] A slices_S4x64_S1x64_1_0) shapeCasts_S1x64_S64))
      (constant S_ .f32 0x00000000#32) reducesTo_S64_S_d0 h_S_))
    (Host.exp (Host.reduceAdd (mulf (shapeCast S64 (extractStridedSlice S1x64 ![2, 0] A slices_S4x64_S1x64_2_0) shapeCasts_S1x64_S64)
      (shapeCast S64 (extractStridedSlice S1x64 ![3, 0] A slices_S4x64_S1x64_3_0) shapeCasts_S1x64_S64))
      (constant S_ .f32 0x00000000#32) reducesTo_S64_S_d0 h_S_)))
    (shapeCast S_ L shapeCasts_S1_S_)

theorem coef_at (L : FVec Ideal S1 .f32) (A : FVec Ideal S4x64 .f32) (e : S_.Idx) : coef L A e
    = Ideal.exp (∑ k : Fin 64, A (ix2 0 k) * A (ix2 1 k)) - Ideal.exp (∑ k : Fin 64, A (ix2 2 k) * A (ix2 3 k)) + L (ix1 0) := by
  pointwise [coef]

/-! ## The context tokens -/

/-- The scores of the context tokens. -/
def scoreC (q : FVec Ideal S16x256x4x2x64 .f32) (k : FVec Ideal S16x256x4x2x64 .f32) : FVec Ideal S16x2x4x256x256 .f32 :=
  Host.dotGeneral dot_S16x256x4x2x64_S16x256x4x2x64_S16x2x4x256x256_4_4_1_1_032_032 none q k

theorem scoreC_at (q : FVec Ideal S16x256x4x2x64 .f32) (k : FVec Ideal S16x256x4x2x64 .f32) (b : Fin 16) (s : Fin 2) (h : Fin 4)
    (i : Fin 256) (j : Fin 256) :
    scoreC q k (ix5 b s h i j) = ∑ l : Fin 64, q (ix5 b i h s l) * k (ix5 b j h s l) := by
  pointwise [scoreC]

/-- Each row's largest score. -/
def topC (s : FVec Ideal S16x2x4x256x256 .f32) : FVec Ideal S16x2x4x256 .f32 :=
  Host.reduce FloatOps.maximumf s (constant S_ .f32 0xFF800000#32) reducesTo_S16x2x4x256x256_S16x2x4x256_d4 h_S_

theorem topC_at (x : FVec Ideal S16x2x4x256x256 .f32) (b : Fin 16) (s : Fin 2) (h : Fin 4) (i : Fin 256) :
    topC x (ix4 b s h i) = rowMax fun j => x (ix5 b s h i j) :=
  hostMax_at _ x _ b s h i

/-- The largest score, not below −∞. -/
def clampC (t : FVec Ideal S16x2x4x256 .f32) : FVec Ideal S16x2x4x256 .f32 :=
  maximumf (broadcastInDim S16x2x4x256 ![] bcast_S_S16x2x4x256 (constant S_ .f32 0xFF800000#32)) t

theorem clampC_at (t : FVec Ideal S16x2x4x256 .f32) (b : Fin 16) (s : Fin 2) (h : Fin 4) (i : Fin 256) :
    clampC t (ix4 b s h i) = t (ix4 b s h i) := by
  pointwise [clampC]
  rw [ofBits_negInf, max_eq_right bot_le]

/-- The exponentials of the scores less their row's shift. -/
def lessC (s : FVec Ideal S16x2x4x256x256 .f32) (t : FVec Ideal S16x2x4x256 .f32) : FVec Ideal S16x2x4x256x256 .f32 :=
  Host.exp (subf s (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3 t)))

theorem lessC_at (x : FVec Ideal S16x2x4x256x256 .f32) (t : FVec Ideal S16x2x4x256 .f32) (b : Fin 16) (s : Fin 2) (h : Fin 4)
    (i : Fin 256) (j : Fin 256) :
    lessC x t (ix5 b s h i j) = Ideal.exp (x (ix5 b s h i j) - t (ix4 b s h i)) := by
  pointwise [lessC]

/-- The exponentials of the scores less their row's largest. -/
def exC (s : FVec Ideal S16x2x4x256x256 .f32) : FVec Ideal S16x2x4x256x256 .f32 := lessC s (clampC (topC s))

theorem exC_at (x : FVec Ideal S16x2x4x256x256 .f32) (b : Fin 16) (s : Fin 2) (h : Fin 4) (i : Fin 256) (j : Fin 256) :
    exC x (ix5 b s h i j) = Ideal.exp (x (ix5 b s h i j) - rowMax fun j => x (ix5 b s h i j)) := by
  unfold exC
  rw [lessC_at, clampC_at, topC_at]

/-- The two maps. -/
def mapC (s : FVec Ideal S16x2x4x256x256 .f32) : FVec Ideal S16x2x4x256x256 .f32 :=
  Host.divf (exC s) (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3
      (Host.reduceAdd (exC s) (constant S_ .f32 0x00000000#32) reducesTo_S16x2x4x256x256_S16x2x4x256_d4 h_S_)))

theorem mapC_at (x : FVec Ideal S16x2x4x256x256 .f32) (b : Fin 16) (s : Fin 2) (h : Fin 4) (i : Fin 256) (j : Fin 256) :
    mapC x (ix5 b s h i j) = soft (fun j => x (ix5 b s h i j)) (rowMax fun j => x (ix5 b s h i j)) j := by
  pointwise [mapC, exC_at]
  rfl

/-- The first map less the coefficient times the second. -/
def diffC (p : FVec Ideal S16x2x4x256x256 .f32) (lam : FVec Ideal S_ .f32) : FVec Ideal S16x4x256x256 .f32 :=
  subf (shapeCast S16x4x256x256 (extractStridedSlice S16x1x4x256x256 ![0, 0, 0, 0, 0] p slices_S16x2x4x256x256_S16x1x4x256x256_0_0_0_0_0)
      shapeCasts_S16x1x4x256x256_S16x4x256x256)
    (mulf (broadcastInDim S16x4x256x256 ![] bcast_S_S16x4x256x256 lam)
      (shapeCast S16x4x256x256 (extractStridedSlice S16x1x4x256x256 ![0, 1, 0, 0, 0] p slices_S16x2x4x256x256_S16x1x4x256x256_0_1_0_0_0)
        shapeCasts_S16x1x4x256x256_S16x4x256x256))

theorem diffC_at (p : FVec Ideal S16x2x4x256x256 .f32) (lam : FVec Ideal S_ .f32) (b : Fin 16) (h : Fin 4) (i : Fin 256) (j : Fin 256) :
    diffC p lam (ix4 b h i j) = p (ix5 b 0 h i j) - lam ix0 * p (ix5 b 1 h i j) := by
  pointwise [diffC]

/-- The values weighed. -/
def valC (v : FVec Ideal S16x256x4x128 .f32) (a : FVec Ideal S16x4x256x256 .f32) : FVec Ideal S16x256x4x128 .f32 :=
  transpose S16x256x4x128 [0, 3, 1, 2] (Host.dotGeneral dot_S16x256x4x128_S16x4x256x256_S16x4x128x256_1_3_3_2_02_01 none v a)
    transposes_S16x4x128x256_S16x256x4x128_0_3_1_2

theorem valC_at (v : FVec Ideal S16x256x4x128 .f32) (a : FVec Ideal S16x4x256x256 .f32) (b : Fin 16) (i : Fin 256) (h : Fin 4)
    (d : Fin 128) : valC v a (ix4 b i h d) = ∑ j : Fin 256, v (ix4 b j h d) * a (ix4 b h i j) := by
  pointwise [valC]

/-- The heads normalised and scaled. -/
def normC (o : FVec Ideal S16x256x4x128 .f32) (g : FVec Ideal S128 .f32) (L : FVec Ideal S1 .f32) : FVec Ideal S16x256x4x128 .f32 :=
  mulf (mulf (mulf o (broadcastInDim S16x256x4x128 ![0, 1, 2, 3] bcast_S16x256x4x1_S16x256x4x128_0_1_2_3
      (Host.rsqrt (addf (Host.divf
        (broadcastInDim S16x256x4x1 ![0, 1, 2] bcast_S16x256x4_S16x256x4x1_0_1_2
          (Host.reduceAdd (mulf o o) (constant S_ .f32 0x00000000#32) reducesTo_S16x256x4x128_S16x256x4_d3 h_S_))
        (broadcastInDim S16x256x4x1 ![] bcast_S_S16x256x4x1 (constant S_ .f32 0x43000000#32)))
        (broadcastInDim S16x256x4x1 ![] bcast_S_S16x256x4x1 (constant S_ .f32 0x358637BD#32))))))
    (broadcastInDim S16x256x4x128 ![0, 1, 2, 3] bcast_S1x1x1x128_S16x256x4x128_0_1_2_3
      (broadcastInDim S1x1x1x128 ![3] bcast_S128_S1x1x1x128_3 g)))
    (broadcastInDim S16x256x4x128 ![] bcast_S_S16x256x4x128 (subf (constant S_ .f32 0x3F800000#32) (shapeCast S_ L shapeCasts_S1_S_)))

theorem normC_at (o : FVec Ideal S16x256x4x128 .f32) (g : FVec Ideal S128 .f32) (L : FVec Ideal S1 .f32) (b : Fin 16) (i : Fin 256)
    (h : Fin 4) (d : Fin 128) :
    normC o g L (ix4 b i h d) = normRow (fun d => o (ix4 b i h d)) (fun d => g (ix1 d)) (1 - L (ix1 0)) d := by
  pointwise [normC]
  rfl

/-! ## The latent tokens -/

/-- The scores of the latent tokens. -/
def scoreL (q : FVec Ideal S16x2048x4x2x64 .f32) (k : FVec Ideal S16x2304x4x2x64 .f32) : FVec Ideal S16x2x4x2048x2304 .f32 :=
  Host.dotGeneral dot_S16x2048x4x2x64_S16x2304x4x2x64_S16x2x4x2048x2304_4_4_1_1_032_032 none q k

theorem scoreL_at (q : FVec Ideal S16x2048x4x2x64 .f32) (k : FVec Ideal S16x2304x4x2x64 .f32) (b : Fin 16) (s : Fin 2) (h : Fin 4)
    (i : Fin 2048) (j : Fin 2304) :
    scoreL q k (ix5 b s h i j) = ∑ l : Fin 64, q (ix5 b i h s l) * k (ix5 b j h s l) := by
  pointwise [scoreL]

/-- Each row's largest score. -/
def topL (s : FVec Ideal S16x2x4x2048x2304 .f32) : FVec Ideal S16x2x4x2048 .f32 :=
  Host.reduce FloatOps.maximumf s (constant S_ .f32 0xFF800000#32) reducesTo_S16x2x4x2048x2304_S16x2x4x2048_d4 h_S_

theorem topL_at (x : FVec Ideal S16x2x4x2048x2304 .f32) (b : Fin 16) (s : Fin 2) (h : Fin 4) (i : Fin 2048) :
    topL x (ix4 b s h i) = rowMax fun j => x (ix5 b s h i j) :=
  hostMax_at _ x _ b s h i

/-- The largest score, not below −∞. -/
def clampL (t : FVec Ideal S16x2x4x2048 .f32) : FVec Ideal S16x2x4x2048 .f32 :=
  maximumf (broadcastInDim S16x2x4x2048 ![] bcast_S_S16x2x4x2048 (constant S_ .f32 0xFF800000#32)) t

theorem clampL_at (t : FVec Ideal S16x2x4x2048 .f32) (b : Fin 16) (s : Fin 2) (h : Fin 4) (i : Fin 2048) :
    clampL t (ix4 b s h i) = t (ix4 b s h i) := by
  pointwise [clampL]
  rw [ofBits_negInf, max_eq_right bot_le]

/-- The exponentials of the scores less their row's shift. -/
def lessL (s : FVec Ideal S16x2x4x2048x2304 .f32) (t : FVec Ideal S16x2x4x2048 .f32) : FVec Ideal S16x2x4x2048x2304 .f32 :=
  Host.exp (subf s (broadcastInDim S16x2x4x2048x2304 ![0, 1, 2, 3, 4] bcast_S16x2x4x2048x1_S16x2x4x2048x2304_0_1_2_3_4
    (broadcastInDim S16x2x4x2048x1 ![0, 1, 2, 3] bcast_S16x2x4x2048_S16x2x4x2048x1_0_1_2_3 t)))

theorem lessL_at (x : FVec Ideal S16x2x4x2048x2304 .f32) (t : FVec Ideal S16x2x4x2048 .f32) (b : Fin 16) (s : Fin 2) (h : Fin 4)
    (i : Fin 2048) (j : Fin 2304) :
    lessL x t (ix5 b s h i j) = Ideal.exp (x (ix5 b s h i j) - t (ix4 b s h i)) := by
  pointwise [lessL]

/-- The exponentials of the scores less their row's largest. -/
def exL (s : FVec Ideal S16x2x4x2048x2304 .f32) : FVec Ideal S16x2x4x2048x2304 .f32 := lessL s (clampL (topL s))

theorem exL_at (x : FVec Ideal S16x2x4x2048x2304 .f32) (b : Fin 16) (s : Fin 2) (h : Fin 4) (i : Fin 2048) (j : Fin 2304) :
    exL x (ix5 b s h i j) = Ideal.exp (x (ix5 b s h i j) - rowMax fun j => x (ix5 b s h i j)) := by
  unfold exL
  rw [lessL_at, clampL_at, topL_at]

/-- The two maps. -/
def mapL (s : FVec Ideal S16x2x4x2048x2304 .f32) : FVec Ideal S16x2x4x2048x2304 .f32 :=
  Host.divf (exL s) (broadcastInDim S16x2x4x2048x2304 ![0, 1, 2, 3, 4] bcast_S16x2x4x2048x1_S16x2x4x2048x2304_0_1_2_3_4
    (broadcastInDim S16x2x4x2048x1 ![0, 1, 2, 3] bcast_S16x2x4x2048_S16x2x4x2048x1_0_1_2_3
      (Host.reduceAdd (exL s) (constant S_ .f32 0x00000000#32) reducesTo_S16x2x4x2048x2304_S16x2x4x2048_d4 h_S_)))

theorem mapL_at (x : FVec Ideal S16x2x4x2048x2304 .f32) (b : Fin 16) (s : Fin 2) (h : Fin 4) (i : Fin 2048) (j : Fin 2304) :
    mapL x (ix5 b s h i j) = soft (fun j => x (ix5 b s h i j)) (rowMax fun j => x (ix5 b s h i j)) j := by
  pointwise [mapL, exL_at]
  rfl

/-- The first map less the coefficient times the second. -/
def diffL (p : FVec Ideal S16x2x4x2048x2304 .f32) (lam : FVec Ideal S_ .f32) : FVec Ideal S16x4x2048x2304 .f32 :=
  subf (shapeCast S16x4x2048x2304 (extractStridedSlice S16x1x4x2048x2304 ![0, 0, 0, 0, 0] p slices_S16x2x4x2048x2304_S16x1x4x2048x2304_0_0_0_0_0)
      shapeCasts_S16x1x4x2048x2304_S16x4x2048x2304)
    (mulf (broadcastInDim S16x4x2048x2304 ![] bcast_S_S16x4x2048x2304 lam)
      (shapeCast S16x4x2048x2304 (extractStridedSlice S16x1x4x2048x2304 ![0, 1, 0, 0, 0] p slices_S16x2x4x2048x2304_S16x1x4x2048x2304_0_1_0_0_0)
        shapeCasts_S16x1x4x2048x2304_S16x4x2048x2304))

theorem diffL_at (p : FVec Ideal S16x2x4x2048x2304 .f32) (lam : FVec Ideal S_ .f32) (b : Fin 16) (h : Fin 4) (i : Fin 2048) (j : Fin 2304) :
    diffL p lam (ix4 b h i j) = p (ix5 b 0 h i j) - lam ix0 * p (ix5 b 1 h i j) := by
  pointwise [diffL]

/-- The values weighed. -/
def valL (v : FVec Ideal S16x2304x4x128 .f32) (a : FVec Ideal S16x4x2048x2304 .f32) : FVec Ideal S16x2048x4x128 .f32 :=
  transpose S16x2048x4x128 [0, 3, 1, 2] (Host.dotGeneral dot_S16x2304x4x128_S16x4x2048x2304_S16x4x128x2048_1_3_3_2_02_01 none v a)
    transposes_S16x4x128x2048_S16x2048x4x128_0_3_1_2

theorem valL_at (v : FVec Ideal S16x2304x4x128 .f32) (a : FVec Ideal S16x4x2048x2304 .f32) (b : Fin 16) (i : Fin 2048) (h : Fin 4)
    (d : Fin 128) : valL v a (ix4 b i h d) = ∑ j : Fin 2304, v (ix4 b j h d) * a (ix4 b h i j) := by
  pointwise [valL]

/-- The heads normalised and scaled. -/
def normL (o : FVec Ideal S16x2048x4x128 .f32) (g : FVec Ideal S128 .f32) (L : FVec Ideal S1 .f32) : FVec Ideal S16x2048x4x128 .f32 :=
  mulf (mulf (mulf o (broadcastInDim S16x2048x4x128 ![0, 1, 2, 3] bcast_S16x2048x4x1_S16x2048x4x128_0_1_2_3
      (Host.rsqrt (addf (Host.divf
        (broadcastInDim S16x2048x4x1 ![0, 1, 2] bcast_S16x2048x4_S16x2048x4x1_0_1_2
          (Host.reduceAdd (mulf o o) (constant S_ .f32 0x00000000#32) reducesTo_S16x2048x4x128_S16x2048x4_d3 h_S_))
        (broadcastInDim S16x2048x4x1 ![] bcast_S_S16x2048x4x1 (constant S_ .f32 0x43000000#32)))
        (broadcastInDim S16x2048x4x1 ![] bcast_S_S16x2048x4x1 (constant S_ .f32 0x358637BD#32))))))
    (broadcastInDim S16x2048x4x128 ![0, 1, 2, 3] bcast_S1x1x1x128_S16x2048x4x128_0_1_2_3
      (broadcastInDim S1x1x1x128 ![3] bcast_S128_S1x1x1x128_3 g)))
    (broadcastInDim S16x2048x4x128 ![] bcast_S_S16x2048x4x128 (subf (constant S_ .f32 0x3F800000#32) (shapeCast S_ L shapeCasts_S1_S_)))

theorem normL_at (o : FVec Ideal S16x2048x4x128 .f32) (g : FVec Ideal S128 .f32) (L : FVec Ideal S1 .f32) (b : Fin 16) (i : Fin 2048)
    (h : Fin 4) (d : Fin 128) :
    normL o g L (ix4 b i h d) = normRow (fun d => o (ix4 b i h d)) (fun d => g (ix1 d)) (1 - L (ix1 0)) d := by
  pointwise [normL]
  rfl

end Cert.Attn.Ref

end
-- ==== Proof.RefRead.lean ====
/-
  The reference's result at an index: a row of a head, normalised, over the context tokens or over every token.
-/
module

public import proofs.«01_k».proof.Proof.Array
public import proofs.«01_k».proof.Proof.RefOps

@[expose] public section

set_option maxRecDepth 16384

noncomputable section

namespace Cert.Attn.Ref

open Idealize.ShloMosaic Idealize.ShloMosaic.Shape
open Cert.ReferenceIdeal Cert.ReferenceIdeal.Gen

/-- The reference's result at batch `b`, row `n` and lane `z`. -/
def refAt (L : FVec Ideal S1 .f32) (P : FVec Ideal S16x2304x8192 .bf16) (A : FVec Ideal S4x64 .f32) (g : FVec Ideal S128 .f32)
    (b : Fin 16) (n : Fin 2304) (z : Fin 512) : EReal :=
  normRow
    (fun d =>
      if (n : ℕ) < 256 then
        headRow (fun l => P (ix3 b n (col 6144 (by omega) (mate z l))))
          (fun (j : Fin 256) l => P (ix3 b ⟨j, by omega⟩ (col 6656 (by omega) (mate z l))))
          (fun j l => P (ix3 b ⟨j, by omega⟩ (col 7168 (by omega) (mate z l)))) (lamOf A (L (ix1 0))) d
      else
        headRow (fun l => P (ix3 b n (col 6144 (by omega) (mate z l))))
          (fun (j : Fin 2304) l => P (ix3 b j (col 6656 (by omega) (mate z l))))
          (fun j l => P (ix3 b j (col 7168 (by omega) (mate z l)))) (lamOf A (L (ix1 0))) d)
    (fun d => g (ix1 d)) (1 - L (ix1 0)) (spot z)

theorem lane_eq (h : Fin 4) (l : Fin 128) (a : ℕ) (ha : a = 128 * (h : ℕ) + l) (hb : a < 512) : (⟨a, hb⟩ : Fin 512) = lane h l :=
  Fin.ext ha

variable (P : FVec Ideal S16x2304x8192 .bf16) (L : FVec Ideal S1 .f32) (A : FVec Ideal S4x64 .f32) (g : FVec Ideal S128 .f32)

theorem q_lo (b : Fin 16) (i : Fin 2304) (h : Fin 4) (l : Fin 64) :
    qs P (ix5 b i h 0 l) = P (ix3 b i (col 6144 (by omega) (lane h ⟨l, by omega⟩))) := by
  rw [qs_at]
  exact congrArg (fun z => P (ix3 b i z)) (Fin.ext (by simp [col, lane]))

theorem q_hi (b : Fin 16) (i : Fin 2304) (h : Fin 4) (l : Fin 64) :
    qs P (ix5 b i h 1 l) = P (ix3 b i (col 6144 (by omega) (lane h ⟨64 + l, by omega⟩))) := by
  rw [qs_at]
  exact congrArg (fun z => P (ix3 b i z)) (Fin.ext (by simp [col, lane]; try omega))

theorem k_lo (b : Fin 16) (i : Fin 2304) (h : Fin 4) (l : Fin 64) :
    ks P (ix5 b i h 0 l) = P (ix3 b i (col 6656 (by omega) (lane h ⟨l, by omega⟩))) := by
  rw [ks_at]
  exact congrArg (fun z => P (ix3 b i z)) (Fin.ext (by simp [col, lane]))

theorem k_hi (b : Fin 16) (i : Fin 2304) (h : Fin 4) (l : Fin 64) :
    ks P (ix5 b i h 1 l) = P (ix3 b i (col 6656 (by omega) (lane h ⟨64 + l, by omega⟩))) := by
  rw [ks_at]
  exact congrArg (fun z => P (ix3 b i z)) (Fin.ext (by simp [col, lane]; try omega))

theorem v_read (b : Fin 16) (i : Fin 2304) (h : Fin 4) (d : Fin 128) :
    vs P (ix4 b i h d) = P (ix3 b i (col 7168 (by omega) (lane h d))) := by
  rw [vs_at]
  exact congrArg (fun z => P (ix3 b i z)) (Fin.ext (by simp [col, lane]))

theorem coef_read : coef L A ix0 = lamOf A (L (ix1 0)) := coef_at L A ix0

/-! ## The context tokens -/

def qC : FVec Ideal S16x256x4x2x64 .f32 := extractStridedSlice S16x256x4x2x64 ![0, 0, 0, 0, 0] (qs P) slices_S16x2304x4x2x64_S16x256x4x2x64_0_0_0_0_0

theorem qC_at (b : Fin 16) (i : Fin 256) (h : Fin 4) (s : Fin 2) (l : Fin 64) : qC P (ix5 b i h s l) = qs P (ix5 b ⟨i, by omega⟩ h s l) := by
  pointwise [qC]

def kC : FVec Ideal S16x256x4x2x64 .f32 := extractStridedSlice S16x256x4x2x64 ![0, 0, 0, 0, 0] (ks P) slices_S16x2304x4x2x64_S16x256x4x2x64_0_0_0_0_0

theorem kC_at (b : Fin 16) (i : Fin 256) (h : Fin 4) (s : Fin 2) (l : Fin 64) : kC P (ix5 b i h s l) = ks P (ix5 b ⟨i, by omega⟩ h s l) := by
  pointwise [kC]

def vC : FVec Ideal S16x256x4x128 .f32 := extractStridedSlice S16x256x4x128 ![0, 0, 0, 0] (vs P) slices_S16x2304x4x128_S16x256x4x128_0_0_0_0

theorem vC_at (b : Fin 16) (i : Fin 256) (h : Fin 4) (d : Fin 128) : vC P (ix4 b i h d) = vs P (ix4 b ⟨i, by omega⟩ h d) := by
  pointwise [vC]

/-- The context tokens' rows. -/
def outC : FVec Ideal S16x256x4x128 .f32 :=
  normC (valC (vC P) (diffC (mapC (scoreC (qC P) (kC P))) (coef L A))) g L

theorem outC_at (b : Fin 16) (i : Fin 256) (h : Fin 4) (d : Fin 128) : outC P L A g (ix4 b i h d)
    = normRow (headRow (fun l => P (ix3 b ⟨i, by omega⟩ (col 6144 (by omega) (lane h l))))
        (fun (j : Fin 256) l => P (ix3 b ⟨j, by omega⟩ (col 6656 (by omega) (lane h l))))
        (fun j l => P (ix3 b ⟨j, by omega⟩ (col 7168 (by omega) (lane h l)))) (lamOf A (L (ix1 0))))
      (fun d => g (ix1 d)) (1 - L (ix1 0)) d := by
  unfold outC
  rw [normC_at]
  congr 1
  funext d
  rw [valC_at]
  unfold headRow refRow
  refine Finset.sum_congr rfl fun j _ => ?_
  rw [diffC_at, mapC_at, mapC_at]
  simp only [scoreC_at, qC_at, kC_at, vC_at, q_lo, q_hi, k_lo, k_hi, v_read, coef_read]
  rfl

/-! ## The latent tokens -/

def qL : FVec Ideal S16x2048x4x2x64 .f32 := extractStridedSlice S16x2048x4x2x64 ![0, 256, 0, 0, 0] (qs P) slices_S16x2304x4x2x64_S16x2048x4x2x64_0_256_0_0_0

theorem qL_at (b : Fin 16) (i : Fin 2048) (h : Fin 4) (s : Fin 2) (l : Fin 64) : qL P (ix5 b i h s l) = qs P (ix5 b ⟨256 + i, by omega⟩ h s l) := by
  pointwise [qL]

/-- The latent tokens' rows. -/
def outL : FVec Ideal S16x2048x4x128 .f32 :=
  normL (valL (vs P) (diffL (mapL (scoreL (qL P) (ks P))) (coef L A))) g L

theorem outL_at (b : Fin 16) (i : Fin 2048) (h : Fin 4) (d : Fin 128) : outL P L A g (ix4 b i h d)
    = normRow (headRow (fun l => P (ix3 b ⟨256 + i, by omega⟩ (col 6144 (by omega) (lane h l))))
        (fun (j : Fin 2304) l => P (ix3 b j (col 6656 (by omega) (lane h l))))
        (fun j l => P (ix3 b j (col 7168 (by omega) (lane h l)))) (lamOf A (L (ix1 0))))
      (fun d => g (ix1 d)) (1 - L (ix1 0)) d := by
  unfold outL
  rw [normL_at]
  congr 1
  funext d
  rw [valL_at]
  unfold headRow refRow
  refine Finset.sum_congr rfl fun j _ => ?_
  rw [diffL_at, mapL_at, mapL_at]
  simp only [scoreL_at, qL_at, q_lo, q_hi, k_lo, k_hi, v_read, coef_read]
  rfl

/-! ## The result -/

/-- The reference's result as one array. -/
def outs : FVec Ideal S16x2304x512 .bf16 :=
  truncf .bf16 (concatenate S16x2304x512 1 [⟨S16x256x512, (shapeCast S16x256x512 (outC P L A g) shapeCasts_S16x256x4x128_S16x256x512)⟩,
    ⟨S16x2048x512, (shapeCast S16x2048x512 (outL P L A g) shapeCasts_S16x2048x4x128_S16x2048x512)⟩]
    concatenates_S16x256x512_S16x2048x512_S16x2304x512_d1) bitsLt_bf16_f32

theorem outs_at (b : Fin 16) (n : Fin 2304) (z : Fin 512) : outs P L A g (ix3 b n z) = refAt L P A g b n z := by
  obtain ⟨e1, e2⟩ := mate_eq z ⟨(z : ℕ) / 128, by omega⟩ ⟨(z : ℕ) % 128, by omega⟩ (by simp only []; omega)
  unfold refAt
  rw [e1, e2]
  pointwise [outs]
  split
  · rename_i h
    rw [outC_at]
  · rename_i h
    rw [outL_at]
    have e : (⟨256 + (((⟨(n : ℕ) - 256, by omega⟩ : Fin 2048) : ℕ)), by simp only []; omega⟩ : Fin 2304) = n := Fin.ext (by simp only []; omega)
    rw [e]

theorem res_eq (m : (ℓ : Loc nD τ sig) → Buf (Elt Ideal) ℓ) (c : Dev nD) :
    Cert.ReferenceIdeal.Value.res_out0 m c = outs (m ((c.tc : Thread nD τ).loc main_arg1)) (m ((c.tc : Thread nD τ).loc main_arg0))
      (m ((c.tc : Thread nD τ).loc main_arg2)) (m ((c.tc : Thread nD τ).loc main_arg3)) := by
  unfold Cert.ReferenceIdeal.Value.res_out0 Cert.ReferenceIdeal.Value.res_main_v107
  rfl

end Cert.Attn.Ref

end
-- ==== Proof.Equation.lean ====
/-
  The equation of the two programs: on finite inputs the kernel's output array and the reference's agree at every index.
-/
module

public import proofs.«01_k».proof.Proof.RefRead
public import proofs.«01_k».proof.Proof.Gen.Pre_finite
public import proofs.«01_k».proof.Defs

@[expose] public section

set_option maxRecDepth 16384

noncomputable section

namespace Cert.Attn

open Idealize.ShloMosaic Idealize.ShloMosaic.Shape
open Cert.KernelIdeal

/-- A comparison of an absolute value with +∞ that holds says the value is a real number. -/
theorem isReal_of_cmp (x : EReal) (h : BitVec.ofBool (decide (max x (-x) < Ideal.ofBits .f32 0x7F800000#32)) = 1#1) :
    IsReal x := by
  refine isReal_of_abs_lt ?_
  rw [ofBits_posInf] at h
  by_contra hx
  rw [decide_eq_false hx] at h
  exact absurd h (by decide)

variable (L : FVec Ideal S1 .f32) (P : FVec Ideal S16x2304x8192 .bf16) (A : FVec Ideal S4x64 .f32) (g : FVec Ideal S128 .f32)

/-- The precondition's reading: the three parts of the projection, the four vectors and the weight are real numbers. -/
structure Finite : Prop where
  proj : ∀ (b : Fin 16) (n : Fin 2304) (z : Fin 8192), 6144 ≤ (z : ℕ) → (z : ℕ) < 7680 → IsReal (P (ix3 b n z))
  vecs : ∀ (i : Fin 4) (k : Fin 64), IsReal (A (ix2 i k))
  init : IsReal (L (ix1 0))

theorem finite_of (h1 : (Cert.Pre_finite.fn (F := Ideal) L P A g).1 = fun _ => 1#1)
    (h2 : (Cert.Pre_finite.fn (F := Ideal) L P A g).2.1 = fun _ => 1#1)
    (h3 : (Cert.Pre_finite.fn (F := Ideal) L P A g).2.2 = fun _ => 1#1) : Finite L P A := by
  dsimp only [Cert.Pre_finite.fn] at h1 h2 h3
  refine ⟨fun b n z hlo hhi => ?_, fun i k => ?_, ?_⟩
  · have h := congrFun h1 (ix3 b n ⟨(z : ℕ) - 6144, by omega⟩)
    refine isReal_of_cmp _ (Eq.trans ?_ h)
    have e : (⟨6144 + ((z : ℕ) - 6144), by omega⟩ : Fin 8192) = z := Fin.ext (by simp only []; omega)
    pointwise
    rw [e]
    rfl
  · have h := congrFun h2 (ix2 i k)
    refine isReal_of_cmp _ (Eq.trans ?_ h)
    pointwise
    rfl
  · have h := congrFun h3 (ix1 0)
    refine isReal_of_cmp _ (Eq.trans ?_ h)
    pointwise
    rfl

variable {L P A}

theorem Finite.col (hf : Finite L P A) (b : Fin 16) (n : Fin 2304) (o : ℕ) (ho : o + 512 ≤ 8192) (h1 : 6144 ≤ o) (h2 : o + 512 ≤ 7680)
    (z : Fin 512) : IsReal (P (ix3 b n (col o ho z))) :=
  hf.proj b n _ (by simp only [Attn.col]; omega) (by simp only [Attn.col]; omega)

theorem Finite.lam (hf : Finite L P A) : IsReal (lamOf A (L (ix1 0))) :=
  ((IsReal.sum _ fun k => (hf.vecs 0 k).mul (hf.vecs 1 k)).exp.sub (IsReal.sum _ fun k => (hf.vecs 2 k).mul (hf.vecs 3 k)).exp).add hf.init

/-- The two results agree at every index. -/
theorem equation (hf : Finite L P A) (b : Fin 16) (n : Fin 2304) (z : Fin 512) : kerAt L P A g b n z = Ref.refAt L P A g b n z := by
  unfold kerAt Ref.refAt
  congr 1
  funext d
  split
  · exact headRow1_eq (by omega) (fun l => hf.col _ _ _ _ (by omega) (by omega) _) (fun j l => hf.col _ _ _ _ (by omega) (by omega) _)
      (fun j l => hf.col _ _ _ _ (by omega) (by omega) _) hf.lam d
  · exact headRow3_eq (n := 768) (by omega) (fun l => hf.col _ _ _ _ (by omega) (by omega) _) (fun j l => hf.col _ _ _ _ (by omega) (by omega) _)
      (fun j l => hf.col _ _ _ _ (by omega) (by omega) _) hf.lam d

end Cert.Attn

end
-- ==== Proof.MergeRow.lean ====
/-
  The merge of one token, as a function of its row: the tanh form of GELU, the gated linear unit over it, a branch's
  product with its gate path and its output weights, the sum of the three gated branches, and the residual.
-/
module

public import Idealize.ShloMosaic.PureOps
public import Idealize.ShloMosaic.Lib.Pointwise

@[expose] public section

noncomputable section

namespace Cert.Merge

open Idealize.ShloMosaic Idealize.ShloMosaic.Shape

/-- GELU in its tanh form, with the constants as 32-bit floats. -/
def gelu (y : EReal) : EReal :=
  Ideal.ofBits .f32 0x3F000000#32 * y * (1
    + Ideal.tanh (Ideal.ofBits .f32 0x3F4C422A#32 * (y + Ideal.ofBits .f32 0x3D372713#32 * (y * y * y))))

/-- The gated linear unit's first product at column `k`. -/
def lin (u : Fin 512 → EReal) (w : Fin 512 → Fin 1024 → EReal) (b : Fin 1024 → EReal) (k : Fin 1024) : EReal :=
  ∑ j, gelu (u j) * w j k + b k

/-- The state-space branch: the first half times the logistic function of the second. -/
def glu (u : Fin 512 → EReal) (w : Fin 512 → Fin 1024 → EReal) (b : Fin 1024 → EReal) (k : Fin 512) : EReal :=
  lin u w b ⟨k, by omega⟩ * Ideal.logistic (lin u w b ⟨512 + k, by omega⟩)

/-- A branch times its gate path, through its output weights. -/
def part (y z : Fin 512 → EReal) (w : Fin 512 → Fin 1024 → EReal) (e : Fin 1024) : EReal :=
  ∑ k, y k * z k * w k e

/-- The three branches, each times its merge gate. -/
def mix (g : Fin 3072 → EReal) (pa pb pc : Fin 1024 → EReal) (e : Fin 1024) : EReal :=
  g ⟨e, by omega⟩ * pa e + g ⟨1024 + e, by omega⟩ * pb e + g ⟨2048 + e, by omega⟩ * pc e

/-- The output projection, times its gate, added to the stream. -/
def resid (x gt : EReal) (m : Fin 1024 → EReal) (w : Fin 1024 → EReal) : EReal :=
  x + gt * ∑ e, m e * w e

/-- Channel `k` of token `n`, wherever it lies in the slabs. -/
def slab (Y : Shape.Idx ⟨5, ![4, 144, 16, 16, 128]⟩ → EReal) (b : Fin 16) (n : Fin 2304) (k : Fin 512) : EReal :=
  Y (ix5 ⟨k / 128, by omega⟩ ⟨n / 16, by omega⟩ b ⟨n % 16, by omega⟩ ⟨k % 128, by omega⟩)

/-- The result at batch `b`, latent token `n` and channel `d`, from the arguments. -/
def mergeAt (X : Shape.Idx ⟨3, ![16, 2304, 1024]⟩ → EReal) (M : Shape.Idx ⟨2, ![24, 3072]⟩ → EReal)
    (Y : Shape.Idx ⟨5, ![4, 144, 16, 16, 128]⟩ → EReal) (H O : Shape.Idx ⟨3, ![16, 2304, 512]⟩ → EReal)
    (P : Shape.Idx ⟨3, ![16, 2304, 8192]⟩ → EReal) (gw : Shape.Idx ⟨2, ![512, 1024]⟩ → EReal)
    (gb : Shape.Idx ⟨1, ![1024]⟩ → EReal) (wa wb wc : Shape.Idx ⟨2, ![512, 1024]⟩ → EReal)
    (wo : Shape.Idx ⟨2, ![1024, 1024]⟩ → EReal) (b : Fin 16) (n : Fin 2048) (d : Fin 1024) : EReal :=
  resid (X (ix3 b ⟨256 + n, by omega⟩ d)) (M (ix2 ⟨b, by omega⟩ ⟨2048 + d, by omega⟩))
    (mix (fun k => P (ix3 b ⟨256 + n, by omega⟩ ⟨k, by omega⟩))
      (part (glu (slab Y b ⟨256 + n, by omega⟩) (fun j k => gw (ix2 j k)) (fun k => gb (ix1 k)))
        (fun k => P (ix3 b ⟨256 + n, by omega⟩ ⟨3072 + k, by omega⟩)) (fun k e => wa (ix2 k e)))
      (part (fun k => H (ix3 b ⟨256 + n, by omega⟩ k)) (fun k => P (ix3 b ⟨256 + n, by omega⟩ ⟨5632 + k, by omega⟩))
        (fun k e => wb (ix2 k e)))
      (part (fun k => O (ix3 b ⟨256 + n, by omega⟩ k)) (fun k => P (ix3 b ⟨256 + n, by omega⟩ ⟨7680 + k, by omega⟩))
        (fun k e => wc (ix2 k e))))
    (fun e => wo (ix2 e d))

end Cert.Merge

end
-- ==== Proof.MergeBlock.lean ====
/-
  The merge kernel's block at one grid point, at an index: every row is the merge of one token.
-/
module

public import proofs.«01_k».proof.Proof.MergeRow
public import proofs.«01_k».proof.Proof.Gen.Kernel2Ideal.Value
public import Idealize.ShloMosaic.Lib.ViewIndex
public import Idealize.ShloMosaic.Lib.Pipeline.ValueKit

@[expose] public section

set_option maxRecDepth 16384

noncomputable section

namespace Cert.Merge.Ker

open Idealize.ShloMosaic Idealize.ShloMosaic.Shape Idealize.ShloMosaic.TcCoe
open Cert.Kernel2Ideal
open Cert.Kernel2Ideal.Gen

/-- A slab's rows. -/
def rows (v : FVec Ideal S1x16x1x16x128 .bf16) : FVec Ideal S256x128 .bf16 :=
  shapeCast S256x128 (shapeCast S16x16x128 v shapeCasts_S1x16x1x16x128_S16x16x128 : FVec Ideal S16x16x128 .bf16)
    shapeCasts_S16x16x128_S256x128

theorem rows_at (v : FVec Ideal S1x16x1x16x128 .bf16) (r : Fin 256) (k : Fin 128) :
    rows v (ix2 r k) = v (ix5 0 ⟨r / 16, by omega⟩ 0 ⟨r % 16, by omega⟩ k) := by
  pointwise [rows]

/-- The four slabs side by side. -/
def cat (v0 v1 v2 v3 : FVec Ideal S1x16x1x16x128 .bf16) : FVec Ideal S256x512 .bf16 :=
  concatenate S256x512 1 [⟨S256x128, rows v0⟩, ⟨S256x128, rows v1⟩, ⟨S256x128, rows v2⟩, ⟨S256x128, rows v3⟩]
    concatenates_S256x128_S256x128_S256x128_S256x128_S256x512_d1

/-- The slabs side by side hold the slabs' channels in order. -/
theorem cat_at (Y : Fin 4 → Fin 256 → Fin 128 → EReal) (v0 v1 v2 v3 : FVec Ideal S1x16x1x16x128 .bf16)
    (h0 : ∀ r k, rows v0 (ix2 r k) = Y 0 r k) (h1 : ∀ r k, rows v1 (ix2 r k) = Y 1 r k)
    (h2 : ∀ r k, rows v2 (ix2 r k) = Y 2 r k) (h3 : ∀ r k, rows v3 (ix2 r k) = Y 3 r k) (r : Fin 256) (k : Fin 512) :
    cat v0 v1 v2 v3 (ix2 r k) = Y ⟨k / 128, by omega⟩ r ⟨k % 128, by omega⟩ := by
  have key : ∀ (s s' : Fin 4) (d d' : Fin 128), (s : ℕ) = s' → (d : ℕ) = d' → Y s r d = Y s' r d' := by
    intro s s' d d' hs hd
    rw [Fin.ext hs, Fin.ext hd]
  pointwise [cat, h0, h1, h2, h3]
  split
  · exact key _ _ _ _ (by simp only [Fin.val_zero]; omega) (by simp only []; omega)
  · split
    · exact key _ _ _ _ (by simp only [Fin.val_one]; omega) (by simp only []; omega)
    · split
      · exact key _ _ _ _ (by simp only [Fin.val_two]; omega) (by simp only []; omega)
      · exact key _ _ _ _ (by show 3 = _; simp only []; omega) (by simp only []; omega)

/-- GELU of a block. -/
def act (v : FVec Ideal S256x512 .bf16) : FVec Ideal S256x512 .bf16 :=
  have v13 : FVec Ideal S256x512 .f32 := extf .f32 v bitsLt_bf16_f32
  truncf .bf16 (mulf (mulf (broadcast S256x512 (Scalar.ofBits .f32 0x3F000000#32 : Ideal .f32) : FVec Ideal S256x512 .f32) v13)
    (addf (broadcast S256x512 (Scalar.ofBits .f32 0x3F800000#32 : Ideal .f32) : FVec Ideal S256x512 .f32)
      (tanh (mulf (broadcast S256x512 (Scalar.ofBits .f32 0x3F4C422A#32 : Ideal .f32) : FVec Ideal S256x512 .f32)
        (addf v13 (mulf (broadcast S256x512 (Scalar.ofBits .f32 0x3D372713#32 : Ideal .f32) : FVec Ideal S256x512 .f32)
          (mulf (mulf v13 v13) v13)))))) : FVec Ideal S256x512 .f32) bitsLt_bf16_f32

theorem act_at (v : FVec Ideal S256x512 .bf16) (r : Fin 256) (k : Fin 512) : act v (ix2 r k) = gelu (v (ix2 r k)) := by
  pointwise [act]
  rfl

theorem pay2_eq (v0 v1 v2 v3 : FVec Ideal S1x16x1x16x128 .bf16) (w : FVec Ideal S512x1024 .bf16) : k0_pay2 v0 v1 v2 v3 w
    = matmul dot_S256x512_S512x1024_S256x1024_1_0_0_1_n_n none (act (cat v0 v1 v2 v3))
        (shapeCast S512x1024 w shapeCasts_S512x1024_S512x1024 : FVec Ideal S512x1024 .bf16)
        (constant S256x1024 .f32 0x00000000#32 : FVec Ideal S256x1024 .f32) := rfl

theorem dot_at (a : FVec Ideal S256x512 .bf16) (w : FVec Ideal S512x1024 .bf16) (r : Fin 256) (e : Fin 1024) :
    (matmul dot_S256x512_S512x1024_S256x1024_1_0_0_1_n_n none a
        (shapeCast S512x1024 w shapeCasts_S512x1024_S512x1024 : FVec Ideal S512x1024 .bf16)
        (constant S256x1024 .f32 0x00000000#32 : FVec Ideal S256x1024 .f32) : FVec Ideal S256x1024 .f32) (ix2 r e)
      = ∑ k, a (ix2 r k) * w (ix2 k e) := by
  pointwise

/-- The gated linear unit times its gate path. -/
def gated (v30 : FVec Ideal S256x1024 .f32) (gb : Vec Ideal S1x1024 .f32) (z : Vec Ideal S1x256x512 .bf16) : FVec Ideal S256x512 .bf16 :=
  have v34 : FVec Ideal S256x1024 .f32 := addf v30 (broadcastTo S256x1024 (shapeCast S1x1024 gb shapeCasts_S1x1024_S1x1024 : FVec Ideal S1x1024 .f32) broadcasts_S1x1024_S256x1024)
  truncf .bf16 (mulf (mulf (extractStridedSlice S256x512 ![0, 0] v34 slices_S256x1024_o0_0_S256x512)
      (logistic (extractStridedSlice S256x512 ![0, 512] v34 slices_S256x1024_o0_512_S256x512)))
    (extf .f32 (shapeCast S256x512 z shapeCasts_S1x256x512_S256x512 : FVec Ideal S256x512 .bf16) bitsLt_bf16_f32) : FVec Ideal S256x512 .f32) bitsLt_bf16_f32

theorem pay3_eq (v30 : FVec Ideal S256x1024 .f32) (gb : Vec Ideal S1x1024 .f32) (z : Vec Ideal S1x256x512 .bf16)
    (w : Vec Ideal S512x1024 .bf16) : k0_pay3 v30 gb z w
    = matmul dot_S256x512_S512x1024_S256x1024_1_0_0_1_n_n none (gated v30 gb z)
        (shapeCast S512x1024 w shapeCasts_S512x1024_S512x1024 : FVec Ideal S512x1024 .bf16)
        (constant S256x1024 .f32 0x00000000#32 : FVec Ideal S256x1024 .f32) := rfl

theorem gated_at (v30 : FVec Ideal S256x1024 .f32) (gb : Vec Ideal S1x1024 .f32) (z : Vec Ideal S1x256x512 .bf16) (r : Fin 256)
    (k : Fin 512) : gated v30 gb z (ix2 r k)
    = (v30 (ix2 r ⟨k, by omega⟩) + gb (ix2 0 ⟨k, by omega⟩))
        * Ideal.logistic (v30 (ix2 r ⟨512 + k, by omega⟩) + gb (ix2 0 ⟨512 + k, by omega⟩)) * z (ix3 0 r k) := by
  pointwise [gated]

theorem pay5_at (y z : Vec Ideal S1x256x512 .bf16) (r : Fin 256) (k : Fin 512) :
    k0_pay5 y z (ix2 r k) = y (ix3 0 r k) * z (ix3 0 r k) := by
  pointwise [k0_pay5]

theorem pay4_eq (y z : Vec Ideal S1x256x512 .bf16) (w : Vec Ideal S512x1024 .bf16) : k0_pay4 y z w
    = matmul dot_S256x512_S512x1024_S256x1024_1_0_0_1_n_n none (k0_pay5 y z)
        (shapeCast S512x1024 w shapeCasts_S512x1024_S512x1024 : FVec Ideal S512x1024 .bf16)
        (constant S256x1024 .f32 0x00000000#32 : FVec Ideal S256x1024 .f32) := rfl

/-- The sum of the gated branches. -/
def mixed (g : Vec Ideal S1x256x3072 .bf16) (a b c : FVec Ideal S256x1024 .f32) : FVec Ideal S256x1024 .bf16 :=
  have v71 : FVec Ideal S256x3072 .f32 := extf .f32 (shapeCast S256x3072 g shapeCasts_S1x256x3072_S256x3072 : FVec Ideal S256x3072 .bf16) bitsLt_bf16_f32
  truncf .bf16 (addf (addf (mulf (extractStridedSlice S256x1024 ![0, 0] v71 slices_S256x3072_o0_0_S256x1024) a)
      (mulf (extractStridedSlice S256x1024 ![0, 1024] v71 slices_S256x3072_o0_1024_S256x1024) b))
    (mulf (extractStridedSlice S256x1024 ![0, 2048] v71 slices_S256x3072_o0_2048_S256x1024) c) : FVec Ideal S256x1024 .f32) bitsLt_bf16_f32

theorem mixed_at (g : Vec Ideal S1x256x3072 .bf16) (a b c : FVec Ideal S256x1024 .f32) (r : Fin 256) (e : Fin 1024) :
    mixed g a b c (ix2 r e) = mix (fun k => g (ix3 0 r k)) (fun e => a (ix2 r e)) (fun e => b (ix2 r e)) (fun e => c (ix2 r e)) e := by
  pointwise [mixed]
  rfl

/-- The output projection with the residual. -/
def last (v : FVec Ideal S256x1024 .bf16) (wo : Vec Ideal S1024x1024 .bf16) (x : Vec Ideal S1x256x1024 .f32)
    (gt : Vec Ideal S1x1x1024 .f32) : FVec Ideal S1x256x1024 .f32 :=
  shapeCast S1x256x1024 (addf (shapeCast S256x1024 x shapeCasts_S1x256x1024_S256x1024 : FVec Ideal S256x1024 .f32)
    (mulf (broadcastTo S256x1024 (shapeCast S1x1024 gt shapeCasts_S1x1x1024_S1x1024 : FVec Ideal S1x1024 .f32) broadcasts_S1x1024_S256x1024)
      (matmul dot_S256x1024_S1024x1024_S256x1024_1_0_0_1_n_n none v
        (shapeCast S1024x1024 wo shapeCasts_S1024x1024_S1024x1024 : FVec Ideal S1024x1024 .bf16)
        (constant S256x1024 .f32 0x00000000#32 : FVec Ideal S256x1024 .f32))) : FVec Ideal S256x1024 .f32) shapeCasts_S256x1024_S1x256x1024

theorem pay1_eq (a b : FVec Ideal S256x1024 .f32) (v65 : FVec Ideal S256x512 .bf16) (wc : Vec Ideal S512x1024 .bf16)
    (g : Vec Ideal S1x256x3072 .bf16) (wo : Vec Ideal S1024x1024 .bf16) (x : Vec Ideal S1x256x1024 .f32)
    (gt : Vec Ideal S1x1x1024 .f32) : k0_pay1 a b v65 wc g wo x gt
    = last (mixed g a b (matmul dot_S256x512_S512x1024_S256x1024_1_0_0_1_n_n none v65
        (shapeCast S512x1024 wc shapeCasts_S512x1024_S512x1024 : FVec Ideal S512x1024 .bf16)
        (constant S256x1024 .f32 0x00000000#32 : FVec Ideal S256x1024 .f32))) wo x gt := rfl

theorem last_at (v : FVec Ideal S256x1024 .bf16) (wo : Vec Ideal S1024x1024 .bf16) (x : Vec Ideal S1x256x1024 .f32)
    (gt : Vec Ideal S1x1x1024 .f32) (r : Fin 256) (d : Fin 1024) : last v wo x gt (ix3 0 r d)
    = resid (x (ix3 0 r d)) (gt (ix3 0 0 d)) (fun e => v (ix2 r e)) (fun e => wo (ix2 e d)) := by
  pointwise [last]
  rfl

/-- One row of a block. -/
def blkAt (x0 : Vec Ideal S1x256x1024 .f32) (x1 : Vec Ideal S1x1x3072 .f32) (x2 : Vec Ideal S4x16x1x16x128 .bf16)
    (x3 x4 x5 x6 x7 : Vec Ideal S1x256x512 .bf16) (x8 : Vec Ideal S1x256x3072 .bf16) (x9 : Vec Ideal S512x1024 .bf16)
    (x10 : Vec Ideal S1x1024 .f32) (x11 x12 x13 : Vec Ideal S512x1024 .bf16) (x14 : Vec Ideal S1024x1024 .bf16) (r : Fin 256)
    (d : Fin 1024) : EReal :=
  resid (x0 (ix3 0 r d)) (x1 (ix3 0 0 ⟨2048 + d, by omega⟩))
    (mix (fun k => x8 (ix3 0 r k))
      (part (glu (fun k => x2 (ix5 ⟨k / 128, by omega⟩ ⟨r / 16, by omega⟩ 0 ⟨r % 16, by omega⟩ ⟨k % 128, by omega⟩))
          (fun j k => x9 (ix2 j k)) (fun k => x10 (ix2 0 k)))
        (fun k => x3 (ix3 0 r k)) (fun k e => x11 (ix2 k e)))
      (part (fun k => x4 (ix3 0 r k)) (fun k => x5 (ix3 0 r k)) (fun k e => x12 (ix2 k e)))
      (part (fun k => x6 (ix3 0 r k)) (fun k => x7 (ix3 0 r k)) (fun k e => x13 (ix2 k e))))
    (fun e => x14 (ix2 e d))

/-- The stored value, at an index. -/
theorem pay_at (x0 : Vec Ideal S1x256x1024 .f32) (x1 : Vec Ideal S1x1x3072 .f32) (x2 : Vec Ideal S4x16x1x16x128 .bf16)
    (x3 x4 x5 x6 x7 : Vec Ideal S1x256x512 .bf16) (x8 : Vec Ideal S1x256x3072 .bf16) (x9 : Vec Ideal S512x1024 .bf16)
    (x10 : Vec Ideal S1x1024 .f32) (x11 x12 x13 : Vec Ideal S512x1024 .bf16) (x14 : Vec Ideal S1024x1024 .bf16)
    (y0 y1 y2 y3 : Vec Ideal S1x16x1x16x128 .bf16) (gt : Vec Ideal S1x1x1024 .f32)
    (h0 : ∀ a c k, y0 (ix5 0 a 0 c k) = x2 (ix5 0 a 0 c k)) (h1 : ∀ a c k, y1 (ix5 0 a 0 c k) = x2 (ix5 1 a 0 c k))
    (h2 : ∀ a c k, y2 (ix5 0 a 0 c k) = x2 (ix5 2 a 0 c k)) (h3 : ∀ a c k, y3 (ix5 0 a 0 c k) = x2 (ix5 3 a 0 c k))
    (hg : ∀ d : Fin 1024, gt (ix3 0 0 d) = x1 (ix3 0 0 ⟨2048 + d, by omega⟩)) (r : Fin 256) (d : Fin 1024) :
    k0_pay1 (k0_pay3 (k0_pay2 y0 y1 y2 y3 x9) x10 x3 x11) (k0_pay4 x4 x5 x12) (k0_pay5 x6 x7) x13 x8 x14 x0 gt (ix3 0 r d)
      = blkAt x0 x1 x2 x3 x4 x5 x6 x7 x8 x9 x10 x11 x12 x13 x14 r d := by
  rw [pay1_eq, last_at, hg]
  unfold blkAt
  congr 1
  funext e
  rw [mixed_at]
  congr 1
  · funext e
    rw [pay3_eq, dot_at]
    unfold part
    refine Finset.sum_congr rfl fun k _ => ?_
    rw [gated_at, pay2_eq, dot_at, dot_at]
    have hc : ∀ j : Fin 512, cat y0 y1 y2 y3 (ix2 r j)
        = x2 (ix5 ⟨j / 128, by omega⟩ ⟨r / 16, by omega⟩ 0 ⟨r % 16, by omega⟩ ⟨j % 128, by omega⟩) := fun j =>
      cat_at (fun s r k => x2 (ix5 s ⟨r / 16, by omega⟩ 0 ⟨r % 16, by omega⟩ k)) y0 y1 y2 y3
        (fun r k => (rows_at y0 r k).trans (h0 _ _ _)) (fun r k => (rows_at y1 r k).trans (h1 _ _ _))
        (fun r k => (rows_at y2 r k).trans (h2 _ _ _)) (fun r k => (rows_at y3 r k).trans (h3 _ _ _)) r j
    simp only [act_at, hc]
    rfl
  · funext e
    rw [pay4_eq, dot_at]
    simp only [pay5_at]
    rfl
  · funext e
    rw [dot_at]
    simp only [pay5_at]
    rfl

end Cert.Merge.Ker

end
-- ==== Proof.MergeArray.lean ====
/-
  What the merge kernel's output array holds after the run, at an index: the blocks of the 128 grid points put together.
-/
module

public import proofs.«01_k».proof.Proof.MergeBlock

@[expose] public section

set_option maxRecDepth 16384

noncomputable section

namespace Cert.Merge.Ker

open Idealize.ShloMosaic Idealize.ShloMosaic.Shape Idealize.ShloMosaic.TcCoe
open Cert.Kernel2Ideal
open Cert.Kernel2Ideal.Gen

/-- A load of one slab of the block of slabs, read at an index. -/
theorem ld5_at (X : Vec Ideal S4x16x1x16x128 .bf16) (o : ℕ)
    (inb : ∀ i, (![o, 0, 0, 0, 0] : Fin 5 → ℕ) i + (![1, 16, 1, 16, 128] : Fin 5 → ℕ) i ≤ S4x16x1x16x128.size i) (s : Fin 4)
    (hs : (s : ℕ) = o) (a : Fin 16) (b : Fin 16) (k : Fin 128) :
    View.ld X (Rect.unit ![o, 0, 0, 0, 0] ![1, 16, 1, 16, 128] inb) (ix5 0 a 0 b k) = X (ix5 s a 0 b k) := by
  refine congrArg X (funext fun i => Fin.ext ?_)
  match i with
  | 0 => show o + 1 * 0 = (s : ℕ); omega
  | 1 => show 0 + 1 * (a : ℕ) = a; omega
  | 2 => rfl
  | 3 => show 0 + 1 * (b : ℕ) = b; omega
  | 4 => show 0 + 1 * (k : ℕ) = k; omega

/-- A load of the gate part of the modulation row, read at an index. -/
theorem ldg_at (X : Vec Ideal S1x1x3072 .f32)
    (inb : ∀ i, (![0, 0, 2048] : Fin 3 → ℕ) i + (![1, 1, 1024] : Fin 3 → ℕ) i ≤ S1x1x3072.size i) (d : Fin 1024) :
    View.ld X (Rect.unit ![0, 0, 2048] ![1, 1, 1024] inb) (ix3 0 0 d) = X (ix3 0 0 ⟨2048 + d, by omega⟩) :=
  congrArg X (idx3_ext rfl rfl (by show 2048 + 1 * (d : ℕ) = 2048 + d; omega))

/-- What the body leaves in the output block. -/
theorem out_A (c : Dev nD) (i : grid0.Coords)
    (arg2 : Memref sig .tc .vmem S1x256x1024 .f32) (harg2 : arg2.IsWhole)
    (arg3 : Memref sig .tc .vmem S1x1x3072 .f32) (harg3 : arg3.IsWhole)
    (arg4 : Memref sig .tc .vmem S4x16x1x16x128 .bf16) (harg4 : arg4.IsWhole)
    (arg5 : Memref sig .tc .vmem S1x256x512 .bf16) (harg5 : arg5.IsWhole)
    (arg6 : Memref sig .tc .vmem S1x256x512 .bf16) (harg6 : arg6.IsWhole)
    (arg7 : Memref sig .tc .vmem S1x256x512 .bf16) (harg7 : arg7.IsWhole)
    (arg8 : Memref sig .tc .vmem S1x256x512 .bf16) (harg8 : arg8.IsWhole)
    (arg9 : Memref sig .tc .vmem S1x256x512 .bf16) (harg9 : arg9.IsWhole)
    (arg10 : Memref sig .tc .vmem S1x256x3072 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S512x1024 .bf16) (harg13 : arg13.IsWhole)
    (arg14 : Memref sig .tc .vmem S512x1024 .bf16) (harg14 : arg14.IsWhole)
    (arg15 : Memref sig .tc .vmem S512x1024 .bf16) (harg15 : arg15.IsWhole)
    (arg16 : Memref sig .tc .vmem S1024x1024 .bf16) (harg16 : arg16.IsWhole)
    (arg17 : Memref sig .tc .vmem S1x256x1024 .f32) (harg17 : arg17.IsWhole)
    (x0 : Vec Ideal S1x256x1024 .f32) (x1 : Vec Ideal S1x1x3072 .f32) (x2 : Vec Ideal S4x16x1x16x128 .bf16)
    (x3 x4 x5 x6 x7 : Vec Ideal S1x256x512 .bf16) (x8 : Vec Ideal S1x256x3072 .bf16) (x9 : Vec Ideal S512x1024 .bf16)
    (x10 : Vec Ideal S1x1024 .f32) (x11 x12 x13 : Vec Ideal S512x1024 .bf16) (x14 : Vec Ideal S1024x1024 .bf16) (r : Fin 256) (d : Fin 1024) :
    out0_A_15 c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17
      x0 x1 x2 x3 x4 x5 x6 x7 x8 x9 x10 x11 x12 x13 x14 (ix3 0 r d) = blkAt x0 x1 x2 x3 x4 x5 x6 x7 x8 x9 x10 x11 x12 x13 x14 r d := by
  frame_out
  exact pay_at x0 x1 x2 x3 x4 x5 x6 x7 x8 x9 x10 x11 x12 x13 x14 _ _ _ _ _
    (fun a b k => ld5_at x2 0 _ 0 rfl a b k) (fun a b k => ld5_at x2 1 _ 1 rfl a b k)
    (fun a b k => ld5_at x2 2 _ 2 rfl a b k) (fun a b k => ld5_at x2 3 _ 3 rfl a b k) (fun d => ldg_at x1 _ d) r d

variable (m : (ℓ : Loc nD τ sig) → Buf (Elt Ideal) ℓ)

theorem idx : ∀ t : Fin cfg0.N, win0_0.index t = ![t.val / 8, t.val % 8 + 1, 0] ∧ win0_1.index t = ![t.val / 8, 0, 0]
    ∧ win0_2.index t = ![0, t.val % 8 + 1, t.val / 8, 0, 0] ∧ win0_3.index t = ![t.val / 8, t.val % 8 + 1, 6]
    ∧ win0_4.index t = ![t.val / 8, t.val % 8 + 1, 0] ∧ win0_5.index t = ![t.val / 8, t.val % 8 + 1, 11]
    ∧ win0_6.index t = ![t.val / 8, t.val % 8 + 1, 0] ∧ win0_7.index t = ![t.val / 8, t.val % 8 + 1, 15]
    ∧ win0_8.index t = ![t.val / 8, t.val % 8 + 1, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val / 8, t.val % 8, 0] :=
  (by decide +kernel : ∀ t : Fin grid0.N, _)

/-! The arrays the host code prepares. -/

theorem mod_val (c : Dev nD) : V m c main_v0
    = (shapeCast S24x1x3072 (m ((c : Thread nD τ).loc main_arg1) : Vec Ideal S24x3072 .f32) shapeCasts_S24x3072_S24x1x3072 : Vec Ideal S24x1x3072 .f32) := by
  unfold_abbrev_sides
  after_results
  rfl

theorem gb_val (c : Dev nD) : V m c main_v2
    = (shapeCast S1x1024 (m ((c : Thread nD τ).loc main_arg7) : Vec Ideal S1024 .f32) shapeCasts_S1024_S1x1024 : Vec Ideal S1x1024 .f32) := by
  unfold_abbrev_sides
  after_results
  rfl

theorem gw_val (c : Dev nD) : V m c main_v1
    = (truncf .bf16 (m ((c : Thread nD τ).loc main_arg6) : FVec Ideal S512x1024 .f32) bitsLt_bf16_f32 : FVec Ideal S512x1024 .bf16) := by
  unfold_abbrev_sides
  after_results

theorem wa_val (c : Dev nD) : V m c main_v3
    = (truncf .bf16 (m ((c : Thread nD τ).loc main_arg8) : FVec Ideal S512x1024 .f32) bitsLt_bf16_f32 : FVec Ideal S512x1024 .bf16) := by
  unfold_abbrev_sides
  after_results

theorem wb_val (c : Dev nD) : V m c main_v4
    = (truncf .bf16 (m ((c : Thread nD τ).loc main_arg9) : FVec Ideal S512x1024 .f32) bitsLt_bf16_f32 : FVec Ideal S512x1024 .bf16) := by
  unfold_abbrev_sides
  after_results

theorem wc_val (c : Dev nD) : V m c main_v5
    = (truncf .bf16 (m ((c : Thread nD τ).loc main_arg10) : FVec Ideal S512x1024 .f32) bitsLt_bf16_f32 : FVec Ideal S512x1024 .bf16) := by
  unfold_abbrev_sides
  after_results

theorem wo_val (c : Dev nD) : V m c main_v6
    = (truncf .bf16 (m ((c : Thread nD τ).loc main_arg11) : FVec Ideal S1024x1024 .f32) bitsLt_bf16_f32 : FVec Ideal S1024x1024 .bf16) := by
  unfold_abbrev_sides
  after_results

/-! The staged blocks, at an index. -/

theorem mod_at (c : Dev nD) (t : Fin cfg0.N) (z : Fin 3072) (b : Fin 16) (hb : (b : ℕ) = t.val / 8) :
    iblk m c 1 t (ix3 0 0 z) = m ((c : Thread nD τ).loc main_arg1) (ix2 ⟨b, by omega⟩ z) := by
  have e : iblk m c 1 t (ix3 0 0 z) = (V m c main_v0 : Vec Ideal S24x1x3072 .f32) (ix3 ⟨b, by omega⟩ 0 z) := by blk_ext [iblk, idx t]
  rw [e, mod_val]
  pointwise

theorem gb_at (c : Dev nD) (t : Fin cfg0.N) (k : Fin 1024) : iblk m c 10 t (ix2 0 k) = m ((c : Thread nD τ).loc main_arg7) (ix1 k) := by
  have e : iblk m c 10 t (ix2 0 k) = (V m c main_v2 : Vec Ideal S1x1024 .f32) (ix2 0 k) := by blk_ext [iblk, idx t]
  rw [e, gb_val]
  pointwise

theorem gw_at (c : Dev nD) (t : Fin cfg0.N) (j : Fin 512) (k : Fin 1024) :
    iblk m c 9 t (ix2 j k) = m ((c : Thread nD τ).loc main_arg6) (ix2 j k) := by
  have e : iblk m c 9 t (ix2 j k) = (V m c main_v1 : Vec Ideal S512x1024 .bf16) (ix2 j k) := by blk_ext [iblk, idx t]
  rw [e, gw_val]
  pointwise

theorem wa_at (c : Dev nD) (t : Fin cfg0.N) (j : Fin 512) (k : Fin 1024) :
    iblk m c 11 t (ix2 j k) = m ((c : Thread nD τ).loc main_arg8) (ix2 j k) := by
  have e : iblk m c 11 t (ix2 j k) = (V m c main_v3 : Vec Ideal S512x1024 .bf16) (ix2 j k) := by blk_ext [iblk, idx t]
  rw [e, wa_val]
  pointwise

theorem wb_at (c : Dev nD) (t : Fin cfg0.N) (j : Fin 512) (k : Fin 1024) :
    iblk m c 12 t (ix2 j k) = m ((c : Thread nD τ).loc main_arg9) (ix2 j k) := by
  have e : iblk m c 12 t (ix2 j k) = (V m c main_v4 : Vec Ideal S512x1024 .bf16) (ix2 j k) := by blk_ext [iblk, idx t]
  rw [e, wb_val]
  pointwise

theorem wc_at (c : Dev nD) (t : Fin cfg0.N) (j : Fin 512) (k : Fin 1024) :
    iblk m c 13 t (ix2 j k) = m ((c : Thread nD τ).loc main_arg10) (ix2 j k) := by
  have e : iblk m c 13 t (ix2 j k) = (V m c main_v5 : Vec Ideal S512x1024 .bf16) (ix2 j k) := by blk_ext [iblk, idx t]
  rw [e, wc_val]
  pointwise

theorem wo_at (c : Dev nD) (t : Fin cfg0.N) (j : Fin 1024) (k : Fin 1024) :
    iblk m c 14 t (ix2 j k) = m ((c : Thread nD τ).loc main_arg11) (ix2 j k) := by
  have e : iblk m c 14 t (ix2 j k) = (V m c main_v6 : Vec Ideal S1024x1024 .bf16) (ix2 j k) := by blk_ext [iblk, idx t]
  rw [e, wo_val]
  pointwise

theorem x_at (c : Dev nD) (t : Fin cfg0.N) (r : Fin 256) (d : Fin 1024) (b : Fin 16) (n : Fin 2304) (hb : (b : ℕ) = t.val / 8)
    (hn : (n : ℕ) = (t.val % 8 + 1) * 256 + r) : iblk m c 0 t (ix3 0 r d) = m ((c : Thread nD τ).loc main_arg0) (ix3 b n d) := by
  blk_ext [iblk, V, idx t]

theorem y_at (c : Dev nD) (t : Fin cfg0.N) (s : Fin 4) (a q : Fin 16) (k : Fin 128) (b : Fin 16) (n : Fin 144)
    (hb : (b : ℕ) = t.val / 8) (hn : (n : ℕ) = (t.val % 8 + 1) * 16 + a) :
    iblk m c 2 t (ix5 s a 0 q k) = m ((c : Thread nD τ).loc main_arg2) (ix5 s n b q k) := by
  blk_ext [iblk, V, idx t]

theorem sz_at (c : Dev nD) (t : Fin cfg0.N) (r : Fin 256) (k : Fin 512) (b : Fin 16) (n : Fin 2304) (hb : (b : ℕ) = t.val / 8)
    (hn : (n : ℕ) = (t.val % 8 + 1) * 256 + r) : iblk m c 3 t (ix3 0 r k) = m ((c : Thread nD τ).loc main_arg5) (ix3 b n ⟨3072 + k, by omega⟩) := by
  blk_ext [iblk, V, idx t]

theorem hb_at (c : Dev nD) (t : Fin cfg0.N) (r : Fin 256) (k : Fin 512) (b : Fin 16) (n : Fin 2304) (hb : (b : ℕ) = t.val / 8)
    (hn : (n : ℕ) = (t.val % 8 + 1) * 256 + r) : iblk m c 4 t (ix3 0 r k) = m ((c : Thread nD τ).loc main_arg3) (ix3 b n k) := by
  blk_ext [iblk, V, idx t]

theorem mz_at (c : Dev nD) (t : Fin cfg0.N) (r : Fin 256) (k : Fin 512) (b : Fin 16) (n : Fin 2304) (hb : (b : ℕ) = t.val / 8)
    (hn : (n : ℕ) = (t.val % 8 + 1) * 256 + r) : iblk m c 5 t (ix3 0 r k) = m ((c : Thread nD τ).loc main_arg5) (ix3 b n ⟨5632 + k, by omega⟩) := by
  blk_ext [iblk, V, idx t]

theorem oc_at (c : Dev nD) (t : Fin cfg0.N) (r : Fin 256) (k : Fin 512) (b : Fin 16) (n : Fin 2304) (hb : (b : ℕ) = t.val / 8)
    (hn : (n : ℕ) = (t.val % 8 + 1) * 256 + r) : iblk m c 6 t (ix3 0 r k) = m ((c : Thread nD τ).loc main_arg4) (ix3 b n k) := by
  blk_ext [iblk, V, idx t]

theorem dz_at (c : Dev nD) (t : Fin cfg0.N) (r : Fin 256) (k : Fin 512) (b : Fin 16) (n : Fin 2304) (hb : (b : ℕ) = t.val / 8)
    (hn : (n : ℕ) = (t.val % 8 + 1) * 256 + r) : iblk m c 7 t (ix3 0 r k) = m ((c : Thread nD τ).loc main_arg5) (ix3 b n ⟨7680 + k, by omega⟩) := by
  blk_ext [iblk, V, idx t]

theorem gl_at (c : Dev nD) (t : Fin cfg0.N) (r : Fin 256) (k : Fin 3072) (b : Fin 16) (n : Fin 2304) (hb : (b : ℕ) = t.val / 8)
    (hn : (n : ℕ) = (t.val % 8 + 1) * 256 + r) :
    X0_8 m c t (ix3 0 r k) = m ((c : Thread nD τ).loc main_arg5) (ix3 b n ⟨k, by omega⟩) := by
  unfold X0_8 Pipeline.Window.fill
  rw [dif_pos (moved0_8 t (ix3 0 r k))]
  blk_ext [iblk, V, idx t]

/-- One row of the block at point `t` is the merge of one token. -/
theorem row_at (c : Dev nD) (t : Fin cfg0.N) (r : Fin 256) (d : Fin 1024) (b : Fin 16) (n : Fin 2048) (hb : (b : ℕ) = t.val / 8)
    (hn : (n : ℕ) = t.val % 8 * 256 + r) : outsAt0 m c t (ix3 0 r d)
    = mergeAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) b n d := by
  unfold outsAt0
  refine (out_A c (grid0.coords t)
      (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t) (ms0_14 t) (hs0_14 t) (ms0_15 t) (hs0_15 t)
      _ _ _ _ _ _ _ _ _ _ _ _ _ _ _ r d).trans ?_
  have hn' : ((⟨256 + n, by omega⟩ : Fin 2304) : ℕ) = (t.val % 8 + 1) * 256 + r := by simp only []; omega
  unfold blkAt mergeAt
  simp only [mod_at m c t _ b hb, gb_at, gw_at, wa_at, wb_at, wc_at, wo_at, x_at m c t r _ b _ hb hn', sz_at m c t r _ b _ hb hn',
    hb_at m c t r _ b _ hb hn', mz_at m c t r _ b _ hb hn', oc_at m c t r _ b _ hb hn', dz_at m c t r _ b _ hb hn',
    gl_at m c t r _ b _ hb hn']
  have hy : ∀ k : Fin 512, iblk m c 2 t (ix5 ⟨k / 128, by omega⟩ ⟨r / 16, by omega⟩ 0 ⟨r % 16, by omega⟩ ⟨k % 128, by omega⟩)
      = slab (m ((c : Thread nD τ).loc main_arg2)) b ⟨256 + n, by omega⟩ k := by
    intro k
    refine (y_at m c t _ _ _ _ b ⟨(256 + n) / 16, by omega⟩ hb (by simp only []; omega)).trans ?_
    unfold slab
    exact congrArg (fun q => m ((c : Thread nD τ).loc main_arg2) (ix5 _ _ _ q _)) (Fin.ext (by simp only []; omega))
  simp only [hy]

/-- The output array after the run. -/
theorem final (c : Dev nD) : (dats m 0 c).arrAt 15 cfg0.N
    = (fun i => mergeAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (i 0) (i 1) (i 2) : Vec Ideal S16x2048x1024 .f32) := by
  refine Pipeline.Dat.arrAt_eq_of_covers _ 15 _ (by decide +kernel) fun t hf y => ?_
  obtain ⟨a, r, z, rfl⟩ : ∃ (a : Fin 1) (r : Fin 256) (z : Fin 1024), y = ix3 a r z := ⟨y 0, y 1, y 2, idx3_ext rfl rfl rfl⟩
  obtain rfl : a = 0 := Subsingleton.elim _ _
  blk_simp [idx t]
  rw [after0_15]
  have hN : t.val < 128 := t.isLt
  have e : ∀ X : S16x2048x1024.Idx → EReal, X ((win0_15.blk t).view.emb (ix3 0 r z))
      = X (ix3 ⟨t.val / 8, by omega⟩ ⟨t.val % 8 * 256 + r, by omega⟩ z) := by
    intro X
    blk_ext [idx t]
  refine (row_at m c t r z ⟨t.val / 8, by omega⟩ ⟨t.val % 8 * 256 + r, by omega⟩ rfl rfl).trans ?_
  exact (e fun i => mergeAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (i 0) (i 1) (i 2)).symm

end Cert.Merge.Ker

end
-- ==== Proof.MergeRef.lean ====
/-
  The reference of the merge, read at an index: each array it computes on the way, and its result.
-/
module

public import proofs.«01_k».proof.Proof.MergeRow
public import proofs.«01_k».proof.Proof.Gen.Reference2Ideal.Run

@[expose] public section

set_option maxRecDepth 16384

noncomputable section

namespace Cert.Merge.Ref

open Idealize.ShloMosaic Idealize.ShloMosaic.Shape
open Cert.Reference2Ideal Cert.Reference2Ideal.Gen

/-- The state-space branch's array by token and channel, latent tokens only. -/
def tok (Y : FVec Ideal S4x144x16x16x128 .bf16) : FVec Ideal S16x2048x512 .f32 :=
  extractStridedSlice S16x2048x512 ![0, 256, 0] (shapeCast S16x2304x512 (transpose S16x144x16x4x128 [2, 1, 3, 0, 4]
    (extf .f32 Y bitsLt_bf16_f32) transposes_S4x144x16x16x128_S16x144x16x4x128_2_1_3_0_4)
    shapeCasts_S16x144x16x4x128_S16x2304x512) slices_S16x2304x512_S16x2048x512_0_256_0

theorem tok_at (Y : FVec Ideal S4x144x16x16x128 .bf16) (b : Fin 16) (n : Fin 2048) (k : Fin 512) :
    tok Y (ix3 b n k) = slab Y b ⟨256 + n, by omega⟩ k := by
  pointwise [tok]
  rfl

/-- GELU of every entry. -/
def act (y : FVec Ideal S16x2048x512 .f32) : FVec Ideal S16x2048x512 .f32 :=
  mulf y (mulf (broadcastInDim S16x2048x512 ![] bcast_S_S16x2048x512 (constant S_ .f32 0x3F000000#32))
    (addf (broadcastInDim S16x2048x512 ![] bcast_S_S16x2048x512 (constant S_ .f32 0x3F800000#32))
      (Host.tanh (mulf (broadcastInDim S16x2048x512 ![] bcast_S_S16x2048x512 (constant S_ .f32 0x3F4C422A#32))
        (addf y (mulf (broadcastInDim S16x2048x512 ![] bcast_S_S16x2048x512 (constant S_ .f32 0x3D372713#32))
          (mulf (mulf y y) y)))))))

theorem act_at (y : FVec Ideal S16x2048x512 .f32) (b : Fin 16) (n : Fin 2048) (k : Fin 512) :
    act y (ix3 b n k) = gelu (y (ix3 b n k)) := by
  pointwise [act]
  unfold gelu
  rw [mul_comm (Ideal.ofBits .f32 0x3F000000#32) (y (ix3 b n k))]
  exact (mul_assoc _ _ _).symm

/-- The logistic function as the quotient the host code computes. -/
def lgs (y : FVec Ideal S16x2048x512 .f32) : FVec Ideal S16x2048x512 .f32 :=
  Host.divf (broadcastInDim S16x2048x512 ![] bcast_S_S16x2048x512 (constant S_ .f32 0x3F800000#32))
    (addf (broadcastInDim S16x2048x512 ![] bcast_S_S16x2048x512 (constant S_ .f32 0x3F800000#32)) (Host.exp (Host.negf y)))

theorem lgs_at (y : FVec Ideal S16x2048x512 .f32) (b : Fin 16) (n : Fin 2048) (k : Fin 512) :
    lgs y (ix3 b n k) = Ideal.logistic (y (ix3 b n k)) := by
  pointwise [lgs]
  rfl

/-- The first product of the gated linear unit. -/
def lins (a : FVec Ideal S16x2048x512 .f32) (w : FVec Ideal S512x1024 .f32) (g : FVec Ideal S1024 .f32) : FVec Ideal S16x2048x1024 .f32 :=
  addf (Host.dotGeneral dot_S16x2048x512_S512x1024_S16x2048x1024_2_0_01_1_n_n none a w)
    (broadcastInDim S16x2048x1024 ![0, 1, 2] bcast_S1x1x1024_S16x2048x1024_0_1_2 (broadcastInDim S1x1x1024 ![2] bcast_S1024_S1x1x1024_2 g))

theorem lins_at (a : FVec Ideal S16x2048x512 .f32) (w : FVec Ideal S512x1024 .f32) (g : FVec Ideal S1024 .f32) (b : Fin 16)
    (n : Fin 2048) (k : Fin 1024) : lins a w g (ix3 b n k) = ∑ j, a (ix3 b n j) * w (ix2 j k) + g (ix1 k) := by
  pointwise [lins]

/-- The gated linear unit. -/
def glus (t : FVec Ideal S16x2048x1024 .f32) : FVec Ideal S16x2048x512 .f32 :=
  mulf (extractStridedSlice S16x2048x512 ![0, 0, 0] t slices_S16x2048x1024_S16x2048x512_0_0_0)
    (lgs (extractStridedSlice S16x2048x512 ![0, 0, 512] t slices_S16x2048x1024_S16x2048x512_0_0_512))

theorem glus_at (t : FVec Ideal S16x2048x1024 .f32) (b : Fin 16) (n : Fin 2048) (k : Fin 512) :
    glus t (ix3 b n k) = t (ix3 b n ⟨k, by omega⟩) * Ideal.logistic (t (ix3 b n ⟨512 + k, by omega⟩)) := by
  pointwise [glus, lgs_at]

/-- The latent tokens' rows of the projection. -/
def late (P : FVec Ideal S16x2304x8192 .bf16) : FVec Ideal S16x2048x8192 .f32 :=
  extf .f32 (extractStridedSlice S16x2048x8192 ![0, 256, 0] P slices_S16x2304x8192_S16x2048x8192_0_256_0) bitsLt_bf16_f32

theorem late_at (P : FVec Ideal S16x2304x8192 .bf16) (b : Fin 16) (n : Fin 2048) (k : Fin 8192) :
    late P (ix3 b n k) = P (ix3 b ⟨256 + n, by omega⟩ k) := by
  pointwise [late]

/-- A branch through its output weights. -/
def prod (y z : FVec Ideal S16x2048x512 .f32) (w : FVec Ideal S512x1024 .f32) : FVec Ideal S16x2048x1024 .f32 :=
  Host.dotGeneral dot_S16x2048x512_S512x1024_S16x2048x1024_2_0_01_1_n_n none (mulf y z) w

theorem prod_at (y z : FVec Ideal S16x2048x512 .f32) (w : FVec Ideal S512x1024 .f32) (b : Fin 16) (n : Fin 2048) (e : Fin 1024) :
    prod y z w (ix3 b n e) = part (fun k => y (ix3 b n k)) (fun k => z (ix3 b n k)) (fun k e => w (ix2 k e)) e := by
  pointwise [prod]
  rfl

/-- The three gated branches, summed. -/
def mixes (p : FVec Ideal S16x2048x8192 .f32) (pa pb pc : FVec Ideal S16x2048x1024 .f32) : FVec Ideal S16x2048x1024 .f32 :=
  addf (addf (addf (broadcastInDim S16x2048x1024 ![] bcast_S_S16x2048x1024 (constant S_ .f32 0x00000000#32))
    (mulf (extractStridedSlice S16x2048x1024 ![0, 0, 0] (extractStridedSlice S16x2048x3072 ![0, 0, 0] p slices_S16x2048x8192_S16x2048x3072_0_0_0)
      slices_S16x2048x3072_S16x2048x1024_0_0_0) pa))
    (mulf (extractStridedSlice S16x2048x1024 ![0, 0, 1024] (extractStridedSlice S16x2048x3072 ![0, 0, 0] p slices_S16x2048x8192_S16x2048x3072_0_0_0)
      slices_S16x2048x3072_S16x2048x1024_0_0_1024) pb))
    (mulf (extractStridedSlice S16x2048x1024 ![0, 0, 2048] (extractStridedSlice S16x2048x3072 ![0, 0, 0] p slices_S16x2048x8192_S16x2048x3072_0_0_0)
      slices_S16x2048x3072_S16x2048x1024_0_0_2048) pc)

theorem mixes_at (p : FVec Ideal S16x2048x8192 .f32) (pa pb pc : FVec Ideal S16x2048x1024 .f32) (b : Fin 16) (n : Fin 2048) (e : Fin 1024) :
    mixes p pa pb pc (ix3 b n e) = mix (fun k => p (ix3 b n ⟨k, by omega⟩)) (fun e => pa (ix3 b n e)) (fun e => pb (ix3 b n e))
      (fun e => pc (ix3 b n e)) e := by
  pointwise [mixes]
  rfl

/-- The output projection, its gate and the residual. -/
def outs (X : FVec Ideal S16x2304x1024 .f32) (M : FVec Ideal S24x3072 .f32) (s : FVec Ideal S16x2048x1024 .f32)
    (w : FVec Ideal S1024x1024 .f32) : FVec Ideal S16x2048x1024 .f32 :=
  addf (extractStridedSlice S16x2048x1024 ![0, 256, 0] X slices_S16x2304x1024_S16x2048x1024_0_256_0)
    (mulf (broadcastInDim S16x2048x1024 ![0, 1, 2] bcast_S16x1x1024_S16x2048x1024_0_1_2
      (broadcastInDim S16x1x1024 ![0, 2] bcast_S16x1024_S16x1x1024_0_2 (extractStridedSlice S16x1024 ![0, 2048] M slices_S24x3072_S16x1024_0_2048)))
      (Host.dotGeneral dot_S16x2048x1024_S1024x1024_S16x2048x1024_2_0_01_1_n_n none s w))

theorem outs_at (X : FVec Ideal S16x2304x1024 .f32) (M : FVec Ideal S24x3072 .f32) (s : FVec Ideal S16x2048x1024 .f32)
    (w : FVec Ideal S1024x1024 .f32) (b : Fin 16) (n : Fin 2048) (d : Fin 1024) :
    outs X M s w (ix3 b n d) = resid (X (ix3 b ⟨256 + n, by omega⟩ d)) (M (ix2 ⟨b, by omega⟩ ⟨2048 + d, by omega⟩))
      (fun e => s (ix3 b n e)) (fun e => w (ix2 e d)) := by
  pointwise [outs]
  rfl

/-- The reference's result from its arguments. -/
def full (X : FVec Ideal S16x2304x1024 .f32) (M : FVec Ideal S24x3072 .f32) (Y : FVec Ideal S4x144x16x16x128 .bf16)
    (H O : FVec Ideal S16x2304x512 .bf16) (P : FVec Ideal S16x2304x8192 .bf16) (gw : FVec Ideal S512x1024 .f32)
    (gb : FVec Ideal S1024 .f32) (wa wb wc : FVec Ideal S512x1024 .f32) (wo : FVec Ideal S1024x1024 .f32) :
    FVec Ideal S16x2048x1024 .f32 :=
  outs X M (mixes (late P)
    (prod (glus (lins (act (tok Y)) gw gb)) (extractStridedSlice S16x2048x512 ![0, 0, 3072] (late P) slices_S16x2048x8192_S16x2048x512_0_0_3072) wa)
    (prod (extf .f32 (extractStridedSlice S16x2048x512 ![0, 256, 0] H slices_S16x2304x512_S16x2048x512_0_256_0) bitsLt_bf16_f32)
      (extractStridedSlice S16x2048x512 ![0, 0, 5632] (late P) slices_S16x2048x8192_S16x2048x512_0_0_5632) wb)
    (prod (extf .f32 (extractStridedSlice S16x2048x512 ![0, 256, 0] O slices_S16x2304x512_S16x2048x512_0_256_0) bitsLt_bf16_f32)
      (extractStridedSlice S16x2048x512 ![0, 0, 7680] (late P) slices_S16x2048x8192_S16x2048x512_0_0_7680) wc)) wo

theorem res_eq (m : (ℓ : Loc nD τ sig) → Buf (Elt Ideal) ℓ) (c : Dev nD) : Cert.Reference2Ideal.Value.res_out0 m c
    = full (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  unfold Cert.Reference2Ideal.Value.res_out0 Cert.Reference2Ideal.Value.res_main_v62
  rfl

theorem cut_at (A : FVec Ideal S16x2304x512 .bf16) (b : Fin 16) (n : Fin 2048) (k : Fin 512) :
    (extf .f32 (extractStridedSlice S16x2048x512 ![0, 256, 0] A slices_S16x2304x512_S16x2048x512_0_256_0) bitsLt_bf16_f32
      : FVec Ideal S16x2048x512 .f32) (ix3 b n k) = A (ix3 b ⟨256 + n, by omega⟩ k) := by
  pointwise

theorem gate_at (P : FVec Ideal S16x2304x8192 .bf16) (o : ℕ) (ho : o + 512 ≤ 8192)
    (h : S16x2048x8192.Slices ![0, 0, o] S16x2048x512) (b : Fin 16) (n : Fin 2048) (k : Fin 512) :
    (extractStridedSlice S16x2048x512 ![0, 0, o] (late P) h : FVec Ideal S16x2048x512 .f32) (ix3 b n k)
      = P (ix3 b ⟨256 + n, by omega⟩ ⟨o + k, by omega⟩) := by
  pointwise [late_at]

theorem full_at (X : FVec Ideal S16x2304x1024 .f32) (M : FVec Ideal S24x3072 .f32) (Y : FVec Ideal S4x144x16x16x128 .bf16)
    (H O : FVec Ideal S16x2304x512 .bf16) (P : FVec Ideal S16x2304x8192 .bf16) (gw : FVec Ideal S512x1024 .f32)
    (gb : FVec Ideal S1024 .f32) (wa wb wc : FVec Ideal S512x1024 .f32) (wo : FVec Ideal S1024x1024 .f32) (b : Fin 16) (n : Fin 2048)
    (d : Fin 1024) : full X M Y H O P gw gb wa wb wc wo (ix3 b n d) = mergeAt X M Y H O P gw gb wa wb wc wo b n d := by
  unfold full mergeAt
  rw [outs_at]
  congr 1
  funext e
  rw [mixes_at]
  congr 1
  · funext k
    exact late_at P b n _
  · funext e
    rw [prod_at]
    congr 1
    · funext k
      rw [glus_at, lins_at, lins_at]
      simp only [act_at, tok_at]
      rfl
    · funext k
      exact gate_at P 3072 (by omega) _ b n k
  · funext e
    rw [prod_at]
    congr 1
    · funext k
      exact cut_at H b n k
    · funext k
      exact gate_at P 5632 (by omega) _ b n k
  · funext e
    rw [prod_at]
    congr 1
    · funext k
      exact cut_at O b n k
    · funext k
      exact gate_at P 7680 (by omega) _ b n k

end Cert.Merge.Ref

end
-- ==== Proof.InRow.lean ====
/-
  One token of the input projection: the row that is normalised and modulated, its product with a column, the normalised
  heads of q and k and their rotation, in the order of the kernel and in the order of the reference.
-/
module

public import Idealize.ShloMosaic.Lib.Pointwise
public import Idealize.ShloMosaic.Lib.ViewIndex

@[expose] public section

noncomputable section

namespace Cert.Inp

open Idealize.ShloMosaic Idealize.ShloMosaic.Shape

/-- The row normalised by its root mean square, times the gain, modulated. -/
def hid (x g sh sc : Fin 1024 → EReal) (k : Fin 1024) : EReal :=
  x k * Ideal.rsqrt (Ideal.div (∑ k, x k * x k) (Ideal.ofBits FTy.f32 0x44800000#32) + Ideal.ofBits FTy.f32 0x358637BD#32)
    * g k * (1 + sc k) + sh k

/-- A row times a column. -/
def pcol (h w : Fin 1024 → EReal) : EReal := ∑ k, h k * w k

/-- The column of the weights that stands at place `z` of the packed projection. -/
def col (z : Fin 8192) : Fin 8720 :=
  if h : (z : ℕ) < 3072 then ⟨5648 + z, by omega⟩ else if (z : ℕ) < 6144 then ⟨z - 2560, by omega⟩ else ⟨z - 2544, by omega⟩

/-- The activations of the packed projection: `P` holds the products, `q` and `k` the finished heads. -/
def chunks (P : Fin 8192 → EReal) (q k : Fin 512 → EReal) (z : Fin 8192) : EReal :=
  if (z : ℕ) < 3072 then Ideal.logistic (P z)
  else if (z : ℕ) < 3584 then P z * Ideal.logistic (P z)
  else if (z : ℕ) < 5120 then P z
  else if (z : ℕ) < 5632 then Ideal.logistic (P z)
  else if (z : ℕ) < 6144 then P z * Ideal.logistic (P z)
  else if h : (z : ℕ) < 6656 then q ⟨z - 6144, by omega⟩
  else if h : (z : ℕ) < 7168 then k ⟨z - 6656, by omega⟩
  else if (z : ℕ) < 7680 then P z
  else P z * Ideal.logistic (P z)

/-- The head's normalisation, as the reference takes it. -/
def rnorm (p : Fin 512 → EReal) (g : Fin 64 → EReal) (z : Fin 512) : EReal :=
  p z * Ideal.rsqrt (Ideal.div (∑ l : Fin 64, p ⟨(z : ℕ) / 64 * 64 + l, by omega⟩ * p ⟨(z : ℕ) / 64 * 64 + l, by omega⟩)
    (Ideal.ofBits FTy.f32 0x42800000#32) + Ideal.ofBits FTy.f32 0x358637BD#32) * g ⟨(z : ℕ) % 64, by omega⟩

/-- The sum of squares over lane `z`'s head, as the kernel takes it: 256 lanes against a matrix of ones and zeros, the squares
    in two parts. -/
def ksum (p : Fin 512 → EReal) (ones : Fin 256 → Fin 256 → EReal) (z : Fin 512) : EReal :=
  (∑ k : Fin 256, p ⟨(z : ℕ) / 256 * 256 + k, by omega⟩ * p ⟨(z : ℕ) / 256 * 256 + k, by omega⟩ * ones k ⟨(z : ℕ) % 256, by omega⟩)
  + ∑ k : Fin 256, (p ⟨(z : ℕ) / 256 * 256 + k, by omega⟩ * p ⟨(z : ℕ) / 256 * 256 + k, by omega⟩
      - p ⟨(z : ℕ) / 256 * 256 + k, by omega⟩ * p ⟨(z : ℕ) / 256 * 256 + k, by omega⟩) * ones k ⟨(z : ℕ) % 256, by omega⟩

/-- The head's normalisation, as the kernel takes it. -/
def knorm (p : Fin 512 → EReal) (ones : Fin 256 → Fin 256 → EReal) (g : Fin 512 → EReal) (z : Fin 512) : EReal :=
  p z * Ideal.rsqrt (ksum p ones z * Ideal.ofBits FTy.f32 0x3C800000#32 + Ideal.ofBits FTy.f32 0x358637BD#32) * g z

/-- The lane that lane `z` is rotated with. -/
def partner (z : Fin 512) : Fin 512 :=
  if (z : ℕ) / 16 % 2 = 0 then ⟨(z : ℕ) / 128 * 128 + ((z : ℕ) % 128 + 16) % 128, by omega⟩
  else ⟨(z : ℕ) / 128 * 128 + ((z : ℕ) % 128 + 112) % 128, by omega⟩

/-- The rotation, as the kernel takes it: the sign of the sine lies in its table. -/
def krope (y : Fin 512 → EReal) (c s : Fin 128 → EReal) (z : Fin 512) : EReal :=
  y z * c ⟨(z : ℕ) % 128, by omega⟩ + y (partner z) * s ⟨(z : ℕ) % 128, by omega⟩

/-- The angle at coordinate `p` of frequency `f`. -/
def angle (p : ℕ) (f : Fin 16) : EReal :=
  FloatOps.sitofp (F := Ideal) FTy.f32 (BitVec.ofNat 32 p) * Ideal.pow (Ideal.ofBits FTy.f32 0x461C4000#32)
    (Ideal.div (-(Ideal.ofBits FTy.f32 0x40000000#32 * FloatOps.sitofp (F := Ideal) FTy.f32 (BitVec.ofNat 32 f))) (Ideal.ofBits FTy.f32 0x42000000#32))

/-- A table's row: four parts of 16 lanes, twice. -/
def tab (a b c d : Fin 16 → EReal) (l : Fin 128) : EReal :=
  if (l : ℕ) % 64 < 16 then a ⟨(l : ℕ) % 16, by omega⟩ else if (l : ℕ) % 64 < 32 then b ⟨(l : ℕ) % 16, by omega⟩
  else if (l : ℕ) % 64 < 48 then c ⟨(l : ℕ) % 16, by omega⟩ else d ⟨(l : ℕ) % 16, by omega⟩

/-- The kernel's table of cosines: one on the context. -/
def cosAt (n : Fin 2304) (l : Fin 128) : EReal :=
  if h : (n : ℕ) < 256 then 1
  else tab (fun f => Ideal.cos (angle ((n - 256 : ℕ) / 64) f)) (fun f => Ideal.cos (angle ((n - 256 : ℕ) / 64) f))
    (fun f => Ideal.cos (angle ((n - 256 : ℕ) % 64) f)) (fun f => Ideal.cos (angle ((n - 256 : ℕ) % 64) f)) l

/-- The kernel's table of signed sines: zero on the context. -/
def sinAt (n : Fin 2304) (l : Fin 128) : EReal :=
  if h : (n : ℕ) < 256 then 0
  else tab (fun f => -Ideal.sin (angle ((n - 256 : ℕ) / 64) f)) (fun f => Ideal.sin (angle ((n - 256 : ℕ) / 64) f))
    (fun f => -Ideal.sin (angle ((n - 256 : ℕ) % 64) f)) (fun f => Ideal.sin (angle ((n - 256 : ℕ) % 64) f)) l

/-- A token of the joined sequence: the context first, then the latent. -/
def tok (X : Shape.Idx ⟨3, ![16, 2048, 1024]⟩ → EReal) (C : Shape.Idx ⟨3, ![16, 256, 1024]⟩ → EReal) (b : Fin 16) (n : Fin 2304)
    (k : Fin 1024) : EReal :=
  if h : (n : ℕ) < 256 then C (ix3 b ⟨n, h⟩ k) else X (ix3 b ⟨n - 256, by omega⟩ k)

/-- The modulation's row of a token: row 16 on the context. -/
def mrow (b : Fin 16) (n : Fin 2304) : Fin 24 := if (n : ℕ) < 256 then 16 else ⟨b, by omega⟩

/-- The projection: token `n` of batch `b`, column `j`. -/
def projAt (X : Shape.Idx ⟨3, ![16, 2048, 1024]⟩ → EReal) (C : Shape.Idx ⟨3, ![16, 256, 1024]⟩ → EReal)
    (M : Shape.Idx ⟨2, ![24, 3072]⟩ → EReal) (G : Shape.Idx ⟨1, ![1024]⟩ → EReal) (W : Shape.Idx ⟨2, ![1024, 8720]⟩ → EReal)
    (b : Fin 16) (n : Fin 2304) (j : Fin 8720) : EReal :=
  pcol (hid (tok X C b n) (fun k => G (ix1 k)) (fun k => M (ix2 (mrow b n) ⟨k, by omega⟩)) (fun k => M (ix2 (mrow b n) ⟨1024 + k, by omega⟩)))
    (fun k => W (ix2 k j))

/-- The block matrix of ones: one within a head. -/
def onesAt (k j : Fin 256) : EReal := if (k : ℕ) / 64 = (j : ℕ) / 64 then 1 else 0

/-- The head's normalisation and rotation as the kernel takes them, on token `n`. -/
def kerHead (p : Fin 512 → EReal) (g : Fin 64 → EReal) (n : Fin 2304) (u : Fin 512) : EReal :=
  krope (knorm p onesAt (fun u => g ⟨(u : ℕ) % 64, by omega⟩)) (cosAt n) (sinAt n) u

/-- The packed projection, as the kernel takes it. -/
def kerProj (X : Shape.Idx ⟨3, ![16, 2048, 1024]⟩ → EReal) (C : Shape.Idx ⟨3, ![16, 256, 1024]⟩ → EReal)
    (M : Shape.Idx ⟨2, ![24, 3072]⟩ → EReal) (G : Shape.Idx ⟨1, ![1024]⟩ → EReal) (W : Shape.Idx ⟨2, ![1024, 8720]⟩ → EReal)
    (Q K : Shape.Idx ⟨1, ![64]⟩ → EReal) (b : Fin 16) (n : Fin 2304) (z : Fin 8192) : EReal :=
  chunks (fun z => projAt X C M G W b n (col z))
    (fun u => kerHead (fun u => projAt X C M G W b n (col ⟨6144 + u, by omega⟩)) (fun l => Q (ix1 l)) n u * Ideal.ofBits FTy.f32 0x3E000000#32)
    (kerHead (fun u => projAt X C M G W b n (col ⟨6656 + u, by omega⟩)) (fun l => K (ix1 l)) n) z

/-- The token of round `a` and lane `q`. -/
def tokOf (a : Fin 144) (q : Fin 16) : Fin 2304 := ⟨a * 16 + q, by omega⟩

/-- The column of channel `k` of slab `s`. -/
def chanOf (s : Fin 4) (k : Fin 128) : Fin 8720 := ⟨128 * s + k, by omega⟩

/-- The column of gate `g`. -/
def gateOf (g : Fin 16) : Fin 8720 := ⟨3584 + g, by omega⟩

end Cert.Inp

end
-- ==== Proof.InPay.lean ====
/-
  The input projection's chunks at an index: every payload of the kernel's body as the row functions.
-/
module

public import proofs.«01_k».proof.Proof.InRow
public import proofs.«01_k».proof.Proof.Gen.Kernel3Ideal.Value
public import Idealize.ShloMosaic.Lib.ViewIndex
public import Idealize.ShloMosaic.Lib.Pipeline.ValueKit

@[expose] public section

set_option maxRecDepth 16384

noncomputable section

namespace Cert.Inp.Ker

open Idealize.ShloMosaic Idealize.ShloMosaic.Shape Idealize.ShloMosaic.TcCoe
open Cert.Kernel3Ideal
open Cert.Kernel3Ideal.Gen

theorem pay2_at (v0 : Vec Ideal S1x256x1024 .f32) (v12 : Vec Ideal S1x1024 .f32) (v16 v18 : Vec Ideal S1x1x1024 .f32)
    (r : Fin 256) (k : Fin 1024) : k0_pay2 v0 v12 v16 v18 (ix2 r k)
    = hid (fun k => v0 (ix3 0 r k)) (fun k => v12 (ix2 0 k)) (fun k => v16 (ix3 0 0 k)) (fun k => v18 (ix3 0 0 k)) k := by
  pointwise [k0_pay2]
  rfl

theorem dot_at (h : FVec Ideal S256x1024 .bf16) (w : Vec Ideal S1024x512 .bf16) (r : Fin 256) (d : Fin 512) :
    k0_pay15 h w (ix2 r d) = pcol (fun k => h (ix2 r k)) (fun k => w (ix2 k d)) := by
  pointwise [k0_pay15]
  rfl

/-- A product put through the logistic function. -/
theorem sig_at (h : FVec Ideal S256x1024 .bf16) (w : Vec Ideal S1024x512 .bf16) (r : Fin 256) (d : Fin 512) :
    k0_pay4 h w (ix3 0 r d) = Ideal.logistic (pcol (fun k => h (ix2 r k)) (fun k => w (ix2 k d))) := by
  pointwise [k0_pay4]
  rfl

/-- A product times its logistic. -/
theorem silu_at (h : FVec Ideal S256x1024 .bf16) (w : Vec Ideal S1024x512 .bf16) (r : Fin 256) (d : Fin 512) :
    k0_pay9 h w (ix3 0 r d) = pcol (fun k => h (ix2 r k)) (fun k => w (ix2 k d))
      * Ideal.logistic (pcol (fun k => h (ix2 r k)) (fun k => w (ix2 k d))) := by
  pointwise [k0_pay9]
  rfl

/-- A product as it is. -/
theorem plain_at (h : FVec Ideal S256x1024 .bf16) (w : Vec Ideal S1024x512 .bf16) (r : Fin 256) (d : Fin 512) :
    k0_pay10 h w (ix3 0 r d) = pcol (fun k => h (ix2 r k)) (fun k => w (ix2 k d)) := by
  pointwise [k0_pay10]
  rfl

/-- The norm of the heads. -/
theorem norm_at (a : FVec Ideal S256x512 .f32) (g : FVec Ideal S1x512 .f32) (ones : Vec Ideal S256x256 .bf16) (r : Fin 256)
    (z : Fin 512) : k0_pay19 a g ones (ix2 r z)
    = knorm (fun u => a (ix2 r u)) (fun k j => ones (ix2 k j)) (fun u => g (ix2 0 u)) z := by
  unfold knorm ksum
  pointwise [k0_pay19]
  have key : ∀ x : Fin 256, ∀ v v' : Fin 512, ∀ j j' : Fin 256, (v : ℕ) = v' → (j : ℕ) = j' →
      a (ix2 r v) * a (ix2 r v) * ones (ix2 x j) = a (ix2 r v') * a (ix2 r v') * ones (ix2 x j')
      ∧ (a (ix2 r v) * a (ix2 r v) - a (ix2 r v) * a (ix2 r v)) * ones (ix2 x j)
        = (a (ix2 r v') * a (ix2 r v') - a (ix2 r v') * a (ix2 r v')) * ones (ix2 x j') := by
    intro x v v' j j' hv hj
    rw [Fin.ext hv, Fin.ext hj]
    exact ⟨rfl, rfl⟩
  refine congrArg (fun S => a (ix2 r z) * Ideal.rsqrt (S * Ideal.ofBits FTy.f32 0x3C800000#32 + Ideal.ofBits FTy.f32 0x358637BD#32) * g (ix2 0 z)) ?_
  split
  · exact congrArg₂ (· + ·) (Finset.sum_congr rfl fun x _ => (key x _ _ _ _ (by simp only []; omega) (by simp only []; omega)).1)
      (Finset.sum_congr rfl fun x _ => (key x _ _ _ _ (by simp only []; omega) (by simp only []; omega)).2)
  · exact congrArg₂ (· + ·) (Finset.sum_congr rfl fun x _ => (key x _ _ _ _ (by simp only []; omega) (by simp only []; omega)).1)
      (Finset.sum_congr rfl fun x _ => (key x _ _ _ _ (by simp only []; omega) (by simp only []; omega)).2)

/-- The first mask is the lanes' parity. -/
theorem mask_q (l : Fin 128) : k0_pay22 (iota .tc S1x128 32 [1] iota_S1x128_d1_w32) 16#32 k0_pay20 k0_pay21
    (Scalar.subi (Scalar.extui (Scalar.cmpi .sgt 16#32 0#32)) (Scalar.extui (Scalar.cmpi .slt 16#32 0#32))) (ix2 0 l)
    = if (l : ℕ) / 16 % 2 = 0 then 1#1 else 0#1 := by
  pointwise [k0_pay22, k0_pay20, k0_pay21]
  revert l
  decide +kernel

/-- The second mask is the lanes' parity. -/
theorem mask_k (l : Fin 128) : k0_pay39 k0_pay36 k0_pay37 k0_pay38 (ix2 0 l)
    = if (l : ℕ) / 16 % 2 = 0 then 1#1 else 0#1 := by
  pointwise [k0_pay39, k0_pay36, k0_pay37, k0_pay38]
  revert l
  decide +kernel

/-- One slice of the rotation. -/
theorem arm (y : Fin 512 → EReal) (c s : Fin 128 → EReal) (z u a b : Fin 512) (l : Fin 128) (M : BitVec 1)
    (hM : M = if (l : ℕ) / 16 % 2 = 0 then 1#1 else 0#1)
    (hu : (u : ℕ) = z) (hl : (l : ℕ) = (z : ℕ) % 128) (ha : (a : ℕ) = (z : ℕ) / 128 * 128 + ((z : ℕ) % 128 + 16) % 128)
    (hb : (b : ℕ) = (z : ℕ) / 128 * 128 + ((z : ℕ) % 128 + 112) % 128) :
    y u * c l + Scalar.select M (y a) (y b) * s l = krope y c s z := by
  subst hM
  obtain rfl : u = z := Fin.ext hu
  have el : l = ⟨(u : ℕ) % 128, by omega⟩ := Fin.ext hl
  have ea : a = ⟨(u : ℕ) / 128 * 128 + ((u : ℕ) % 128 + 16) % 128, by omega⟩ := Fin.ext ha
  have eb : b = ⟨(u : ℕ) / 128 * 128 + ((u : ℕ) % 128 + 112) % 128, by omega⟩ := Fin.ext hb
  have hp : ((l : ℕ) / 16 % 2 = 0) ↔ ((u : ℕ) / 16 % 2 = 0) := by omega
  unfold krope partner
  by_cases h : (u : ℕ) / 16 % 2 = 0
  · rw [if_pos h, if_pos (hp.mpr h), ea]
    exact congrArg (fun l => y u * c l + y _ * s l) el
  · rw [if_neg h, if_neg (fun k => h (hp.mp k)), eb]
    exact congrArg (fun l => y u * c l + y _ * s l) el

/-- The mask of the lanes whose partner lies above them. -/
abbrev maskQ : IVec S1x128 1 := k0_pay22 (iota .tc S1x128 32 [1] iota_S1x128_d1_w32) 16#32 k0_pay20 k0_pay21
    (Scalar.subi (Scalar.extui (Scalar.cmpi .sgt 16#32 0#32)) (Scalar.extui (Scalar.cmpi .slt 16#32 0#32)))

/-- The rotation of q, with its scale. -/
theorem rope_q (y : FVec Ideal S256x512 .f32) (c s : FVec Ideal S256x128 .f32) (r : Fin 256) (z : Fin 512) :
    k0_pay26 c s y maskQ (k0_pay23 c s y (iota .tc S1x128 32 [1] iota_S1x128_d1_w32) 16#32 k0_pay20 k0_pay21
    (Scalar.subi (Scalar.extui (Scalar.cmpi .sgt 16#32 0#32)) (Scalar.extui (Scalar.cmpi .slt 16#32 0#32))))
     (k0_pay24 c s y (iota .tc S1x128 32 [1] iota_S1x128_d1_w32) 16#32 k0_pay20 k0_pay21
    (Scalar.subi (Scalar.extui (Scalar.cmpi .sgt 16#32 0#32)) (Scalar.extui (Scalar.cmpi .slt 16#32 0#32))))
     (k0_pay25 y) (ix3 0 r z) = krope (fun u => y (ix2 r u)) (fun l => c (ix2 r l)) (fun l => s (ix2 r l)) z
      * Ideal.ofBits FTy.f32 0x3E000000#32 := by
  pointwise [k0_pay26, k0_pay23, k0_pay24, k0_pay25]
  refine congrArg (· * Ideal.ofBits FTy.f32 0x3E000000#32) ?_
  split
  · refine arm (fun u => y (ix2 r u)) (fun l => c (ix2 r l)) (fun l => s (ix2 r l)) z _ _ _ _ _ (mask_q _) ?_ ?_ ?_ ?_ <;> simp only [] <;> omega
  · split
    · refine arm (fun u => y (ix2 r u)) (fun l => c (ix2 r l)) (fun l => s (ix2 r l)) z _ _ _ _ _ (mask_q _) ?_ ?_ ?_ ?_ <;> simp only [] <;> omega
    · split
      · refine arm (fun u => y (ix2 r u)) (fun l => c (ix2 r l)) (fun l => s (ix2 r l)) z _ _ _ _ _ (mask_q _) ?_ ?_ ?_ ?_ <;> simp only [] <;> omega
      · refine arm (fun u => y (ix2 r u)) (fun l => c (ix2 r l)) (fun l => s (ix2 r l)) z _ _ _ _ _ (mask_q _) ?_ ?_ ?_ ?_ <;> simp only [] <;> omega

/-- The rotation of k. -/
theorem rope_k (y : FVec Ideal S256x512 .f32) (c s : FVec Ideal S256x128 .f32) (r : Fin 256) (z : Fin 512) :
    k0_pay43 c s y (k0_pay39 k0_pay36 k0_pay37 k0_pay38) (k0_pay40 c s y k0_pay36 k0_pay37 k0_pay38)
      (k0_pay41 c s y k0_pay36 k0_pay37 k0_pay38) (k0_pay42 c s y k0_pay36 k0_pay37 k0_pay38) (ix3 0 r z)
      = krope (fun u => y (ix2 r u)) (fun l => c (ix2 r l)) (fun l => s (ix2 r l)) z := by
  pointwise [k0_pay43, k0_pay40, k0_pay41, k0_pay42]
  split
  · refine arm (fun u => y (ix2 r u)) (fun l => c (ix2 r l)) (fun l => s (ix2 r l)) z _ _ _ _ _ (mask_k _) ?_ ?_ ?_ ?_ <;> simp only [] <;> omega
  · split
    · refine arm (fun u => y (ix2 r u)) (fun l => c (ix2 r l)) (fun l => s (ix2 r l)) z _ _ _ _ _ (mask_k _) ?_ ?_ ?_ ?_ <;> simp only [] <;> omega
    · split
      · refine arm (fun u => y (ix2 r u)) (fun l => c (ix2 r l)) (fun l => s (ix2 r l)) z _ _ _ _ _ (mask_k _) ?_ ?_ ?_ ?_ <;> simp only [] <;> omega
      · refine arm (fun u => y (ix2 r u)) (fun l => c (ix2 r l)) (fun l => s (ix2 r l)) z _ _ _ _ _ (mask_k _) ?_ ?_ ?_ ?_ <;> simp only [] <;> omega

/-- The norm of k is q's. -/
theorem norm_k (h : FVec Ideal S256x1024 .bf16) (w : Vec Ideal S1024x512 .bf16) (g : FVec Ideal S1x512 .f32)
    (ones : Vec Ideal S256x256 .bf16) : k0_pay35 (k0_pay27 h w) g (k0_pay31 ones) (k0_pay32 h w) (k0_pay33 h w) (k0_pay34 h w)
    = k0_pay19 (k0_pay15 h w) g ones := rfl

end Cert.Inp.Ker

end
-- ==== Proof.InBlock.lean ====
/-
  The input projection's three blocks at one grid point, at an index.
-/
module

public import proofs.«01_k».proof.Proof.InPay

@[expose] public section

set_option maxRecDepth 16384

noncomputable section

namespace Cert.Inp

open Idealize.ShloMosaic Idealize.ShloMosaic.Shape

/-! The packed projection, region by region. -/

theorem chunk_sig (P : Fin 8192 → EReal) (q k : Fin 512 → EReal) (z : Fin 8192)
    (h : (z : ℕ) < 3072 ∨ (5120 ≤ (z : ℕ) ∧ (z : ℕ) < 5632)) : chunks P q k z = Ideal.logistic (P z) := by
  unfold chunks
  split_ifs <;> first | rfl | omega

theorem chunk_silu (P : Fin 8192 → EReal) (q k : Fin 512 → EReal) (z : Fin 8192)
    (h : (3072 ≤ (z : ℕ) ∧ (z : ℕ) < 3584) ∨ (5632 ≤ (z : ℕ) ∧ (z : ℕ) < 6144) ∨ 7680 ≤ (z : ℕ)) :
    chunks P q k z = P z * Ideal.logistic (P z) := by
  unfold chunks
  split_ifs <;> first | rfl | omega

theorem chunk_plain (P : Fin 8192 → EReal) (q k : Fin 512 → EReal) (z : Fin 8192)
    (h : (3584 ≤ (z : ℕ) ∧ (z : ℕ) < 5120) ∨ (7168 ≤ (z : ℕ) ∧ (z : ℕ) < 7680)) : chunks P q k z = P z := by
  unfold chunks
  split_ifs <;> first | rfl | omega

theorem chunk_q (P : Fin 8192 → EReal) (q k : Fin 512 → EReal) (z : Fin 8192) (u : Fin 512) (h : (z : ℕ) = 6144 + u) :
    chunks P q k z = q u := by
  unfold chunks
  split_ifs <;> first | exact congrArg q (Fin.ext (by simp only []; omega)) | omega

theorem chunk_k (P : Fin 8192 → EReal) (q k : Fin 512 → EReal) (z : Fin 8192) (u : Fin 512) (h : (z : ℕ) = 6656 + u) :
    chunks P q k z = k u := by
  unfold chunks
  split_ifs <;> first | exact congrArg k (Fin.ext (by simp only []; omega)) | omega

end Cert.Inp

namespace Cert.Inp.Ker

open Idealize.ShloMosaic Idealize.ShloMosaic.Shape Idealize.ShloMosaic.TcCoe
open Cert.Kernel3Ideal
open Cert.Kernel3Ideal.Gen

/-- A load of a window of a matrix, read at an index. -/
theorem ld2_at {A B A' B' : ℕ} {dt : EltTy} (X : Vec Ideal ⟨2, ![A, B]⟩ dt) (o : ℕ)
    (inb : ∀ i, (![0, o] : Fin 2 → ℕ) i + (![A', B'] : Fin 2 → ℕ) i ≤ (⟨2, ![A, B]⟩ : Shape).size i)
    (a : Fin A') (b : Fin B') (a' : Fin A) (b' : Fin B) (ha : (a' : ℕ) = a) (hb : (b' : ℕ) = o + b) :
    View.ld X (Rect.unit ![0, o] ![A', B'] inb) (ix2 a b) = X (ix2 a' b') := by
  refine congrArg X (funext fun i => Fin.ext ?_)
  match i with
  | 0 => show 0 + 1 * (a : ℕ) = a'; omega
  | 1 => show o + 1 * (b : ℕ) = b'; omega

/-- A load of a window of a stack of one matrix, read at an index. -/
theorem ld3_at {A B A' B' : ℕ} {dt : EltTy} (X : Vec Ideal ⟨3, ![1, A, B]⟩ dt) (o : ℕ)
    (inb : ∀ i, (![0, 0, o] : Fin 3 → ℕ) i + (![1, A', B'] : Fin 3 → ℕ) i ≤ (⟨3, ![1, A, B]⟩ : Shape).size i)
    (a : Fin A') (b : Fin B') (a' : Fin A) (b' : Fin B) (ha : (a' : ℕ) = a) (hb : (b' : ℕ) = o + b) :
    View.ld X (Rect.unit ![0, 0, o] ![1, A', B'] inb) (ix3 0 a b) = X (ix3 0 a' b') :=
  congrArg X (idx3_ext rfl (by show 0 + 1 * (a : ℕ) = a'; omega) (by show o + 1 * (b : ℕ) = b'; omega))

/-- A token's normalised and modulated row. -/
def hrow (x0 : Vec Ideal S1x256x1024 .f32) (x1 : Vec Ideal S1x1x3072 .f32) (x2 : Vec Ideal S1x1024 .f32) (r : Fin 256) :
    Fin 1024 → EReal :=
  hid (fun k => x0 (ix3 0 r k)) (fun k => x2 (ix2 0 k)) (fun k => x1 (ix3 0 0 ⟨k, by omega⟩)) (fun k => x1 (ix3 0 0 ⟨1024 + k, by omega⟩))

/-- A token's products with the packed columns. -/
def prow (x0 : Vec Ideal S1x256x1024 .f32) (x1 : Vec Ideal S1x1x3072 .f32) (x2 : Vec Ideal S1x1024 .f32)
    (x3 : Vec Ideal S1024x8192 .bf16) (r : Fin 256) (z : Fin 8192) : EReal := pcol (hrow x0 x1 x2 r) (fun k => x3 (ix2 k z))

/-- The block of the packed projection, at row `r` and column `z`. -/
def projRow (x0 : Vec Ideal S1x256x1024 .f32) (x1 : Vec Ideal S1x1x3072 .f32) (x2 : Vec Ideal S1x1024 .f32)
    (x3 : Vec Ideal S1024x8192 .bf16) (x6 x7 : Vec Ideal S256x128 .f32) (x8 x9 : Vec Ideal S1x512 .f32)
    (x10 : Vec Ideal S256x256 .bf16) (r : Fin 256) (z : Fin 8192) : EReal :=
  chunks (prow x0 x1 x2 x3 r)
    (fun u => krope (knorm (fun u => prow x0 x1 x2 x3 r ⟨6144 + u, by omega⟩) (fun k j => x10 (ix2 k j)) (fun u => x8 (ix2 0 u)))
      (fun l => x6 (ix2 r l)) (fun l => x7 (ix2 r l)) u * Ideal.ofBits FTy.f32 0x3E000000#32)
    (krope (knorm (fun u => prow x0 x1 x2 x3 r ⟨6656 + u, by omega⟩) (fun k j => x10 (ix2 k j)) (fun u => x9 (ix2 0 u)))
      (fun l => x6 (ix2 r l)) (fun l => x7 (ix2 r l))) z

/-- The block of the packed projection. -/
def projBlk (x0 : Vec Ideal S1x256x1024 .f32) (x1 : Vec Ideal S1x1x3072 .f32) (x2 : Vec Ideal S1x1024 .f32)
    (x3 : Vec Ideal S1024x8192 .bf16) (x6 x7 : Vec Ideal S256x128 .f32) (x8 x9 : Vec Ideal S1x512 .f32)
    (x10 : Vec Ideal S256x256 .bf16) : Vec Ideal S1x256x8192 .bf16 :=
  fun y => projRow x0 x1 x2 x3 x6 x7 x8 x9 x10 (y 1) (y 2)

theorem h_at (x0 : Vec Ideal S1x256x1024 .f32) (x1 : Vec Ideal S1x1x3072 .f32) (x2 : Vec Ideal S1x1024 .f32) (r : Fin 256) (k : Fin 1024) :
    k0_pay2 (View.ld x0 r0_0) (View.ld x2 r0_1) (View.ld x1 r0_2) (View.ld x1 r0_3) (ix2 r k) = hrow x0 x1 x2 r k := by
  refine (pay2_at _ _ _ _ r k).trans ?_
  unfold hrow
  have e0 : (fun k => View.ld x0 r0_0 (ix3 0 r k)) = fun k => x0 (ix3 0 r k) :=
    funext fun k => ld3_at x0 0 _ r k r k rfl (by omega)
  have e1 : (fun k => View.ld x2 r0_1 (ix2 0 k)) = fun k => x2 (ix2 0 k) :=
    funext fun k => ld2_at x2 0 _ 0 k 0 k rfl (by omega)
  have e2 : (fun k => View.ld x1 r0_2 (ix3 0 0 k)) = fun k : Fin 1024 => x1 (ix3 0 0 ⟨k, by omega⟩) :=
    funext fun k => ld3_at x1 0 _ 0 k 0 _ rfl (by simp only []; omega)
  have e3 : (fun k => View.ld x1 r0_3 (ix3 0 0 k)) = fun k : Fin 1024 => x1 (ix3 0 0 ⟨1024 + k, by omega⟩) :=
    funext fun k => ld3_at x1 1024 _ 0 k 0 _ rfl rfl
  rw [e0, e1, e2, e3]

/-- The normalised rows of a block. -/
abbrev hb (x0 : Vec Ideal S1x256x1024 .f32) (x1 : Vec Ideal S1x1x3072 .f32) (x2 : Vec Ideal S1x1024 .f32) : FVec Ideal S256x1024 .bf16 :=
  k0_pay2 (View.ld x0 r0_0) (View.ld x2 r0_1) (View.ld x1 r0_2) (View.ld x1 r0_3)

theorem p_at (x0 : Vec Ideal S1x256x1024 .f32) (x1 : Vec Ideal S1x1x3072 .f32) (x2 : Vec Ideal S1x1024 .f32)
    (x3 : Vec Ideal S1024x8192 .bf16) (o : ℕ)
    (inb : ∀ i, (![0, o] : Fin 2 → ℕ) i + (![1024, 512] : Fin 2 → ℕ) i ≤ S1024x8192.size i) (r : Fin 256) (d : Fin 512) (z : Fin 8192)
    (hz : (z : ℕ) = o + d) :
    pcol (fun k => hb x0 x1 x2 (ix2 r k)) (fun k => View.ld x3 (Rect.unit ![0, o] ![1024, 512] inb) (ix2 k d)) = prow x0 x1 x2 x3 r z := by
  unfold prow
  have e1 : (fun k => hb x0 x1 x2 (ix2 r k)) = hrow x0 x1 x2 r := funext fun k => h_at x0 x1 x2 r k
  have e2 : (fun k => View.ld x3 (Rect.unit ![0, o] ![1024, 512] inb) (ix2 k d)) = fun k => x3 (ix2 k z) :=
    funext fun k => ld2_at x3 o _ k d k z rfl hz
  rw [e1, e2]

section pieces

variable (x0 : Vec Ideal S1x256x1024 .f32) (x1 : Vec Ideal S1x1x3072 .f32) (x2 : Vec Ideal S1x1024 .f32)
  (x3 : Vec Ideal S1024x8192 .bf16) (x6 x7 : Vec Ideal S256x128 .f32) (x8 x9 : Vec Ideal S1x512 .f32)
  (x10 : Vec Ideal S256x256 .bf16) (o : ℕ)
  (inb : ∀ i, (![0, o] : Fin 2 → ℕ) i + (![1024, 512] : Fin 2 → ℕ) i ≤ S1024x8192.size i)
  (y : S1x256x8192.Idx) (x : S1x256x512.Idx) (h1 : ((y 1 : Fin 256) : ℕ) = ((x 1 : Fin 256) : ℕ))
  (h2 : ((y 2 : Fin 8192) : ℕ) = o + ((x 2 : Fin 512) : ℕ))

include h1 h2

theorem piece_sig (h : o + 512 ≤ 3072 ∨ o = 5120) :
    k0_pay4 (hb x0 x1 x2) (View.ld x3 (Rect.unit ![0, o] ![1024, 512] inb)) x = projBlk x0 x1 x2 x3 x6 x7 x8 x9 x10 y := by
  obtain ⟨a, r, d, rfl⟩ : ∃ (a : Fin 1) (r : Fin 256) (d : Fin 512), x = ix3 a r d := ⟨x 0, x 1, x 2, idx3_ext rfl rfl rfl⟩
  obtain rfl : a = 0 := Subsingleton.elim _ _
  have er : (y 1 : Fin 256) = r := Fin.ext h1
  have h2' : ((y 2 : Fin 8192) : ℕ) = o + (d : ℕ) := h2
  show _ = projRow x0 x1 x2 x3 x6 x7 x8 x9 x10 (y 1) (y 2)
  rw [er]
  unfold projRow
  rw [sig_at, p_at x0 x1 x2 x3 o inb r d (y 2) h2']
  exact (chunk_sig _ _ _ (y 2) (by omega)).symm

theorem piece_silu (h : o = 3072 ∨ o = 5632 ∨ o = 7680) :
    k0_pay9 (hb x0 x1 x2) (View.ld x3 (Rect.unit ![0, o] ![1024, 512] inb)) x = projBlk x0 x1 x2 x3 x6 x7 x8 x9 x10 y := by
  obtain ⟨a, r, d, rfl⟩ : ∃ (a : Fin 1) (r : Fin 256) (d : Fin 512), x = ix3 a r d := ⟨x 0, x 1, x 2, idx3_ext rfl rfl rfl⟩
  obtain rfl : a = 0 := Subsingleton.elim _ _
  have er : (y 1 : Fin 256) = r := Fin.ext h1
  have h2' : ((y 2 : Fin 8192) : ℕ) = o + (d : ℕ) := h2
  show _ = projRow x0 x1 x2 x3 x6 x7 x8 x9 x10 (y 1) (y 2)
  rw [er]
  unfold projRow
  rw [silu_at, p_at x0 x1 x2 x3 o inb r d (y 2) h2']
  exact (chunk_silu _ _ _ (y 2) (by omega)).symm

theorem piece_plain (h : (3584 ≤ o ∧ o + 512 ≤ 5120) ∨ o = 7168) :
    k0_pay10 (hb x0 x1 x2) (View.ld x3 (Rect.unit ![0, o] ![1024, 512] inb)) x = projBlk x0 x1 x2 x3 x6 x7 x8 x9 x10 y := by
  obtain ⟨a, r, d, rfl⟩ : ∃ (a : Fin 1) (r : Fin 256) (d : Fin 512), x = ix3 a r d := ⟨x 0, x 1, x 2, idx3_ext rfl rfl rfl⟩
  obtain rfl : a = 0 := Subsingleton.elim _ _
  have er : (y 1 : Fin 256) = r := Fin.ext h1
  have h2' : ((y 2 : Fin 8192) : ℕ) = o + (d : ℕ) := h2
  show _ = projRow x0 x1 x2 x3 x6 x7 x8 x9 x10 (y 1) (y 2)
  rw [er]
  unfold projRow
  rw [plain_at, p_at x0 x1 x2 x3 o inb r d (y 2) h2']
  exact (chunk_plain _ _ _ (y 2) (by omega)).symm

end pieces

/-- The normalised heads of a block. -/
theorem y_at (x0 : Vec Ideal S1x256x1024 .f32) (x1 : Vec Ideal S1x1x3072 .f32) (x2 : Vec Ideal S1x1024 .f32)
    (x3 : Vec Ideal S1024x8192 .bf16) (x8 : Vec Ideal S1x512 .f32) (x10 : Vec Ideal S256x256 .bf16) (o : ℕ) (ho : o + 512 ≤ 8192)
    (inb : ∀ i, (![0, o] : Fin 2 → ℕ) i + (![1024, 512] : Fin 2 → ℕ) i ≤ S1024x8192.size i) (r : Fin 256) (z : Fin 512) :
    k0_pay19 (k0_pay15 (hb x0 x1 x2) (View.ld x3 (Rect.unit ![0, o] ![1024, 512] inb))) (k0_pay16 (View.ld x8 r0_29)) (View.ld x10 r0_31) (ix2 r z)
      = knorm (fun u => prow x0 x1 x2 x3 r ⟨o + u, by omega⟩) (fun k j => x10 (ix2 k j)) (fun u => x8 (ix2 0 u)) z := by
  refine (norm_at _ _ _ r z).trans ?_
  have e1 : (fun u => k0_pay15 (hb x0 x1 x2) (View.ld x3 (Rect.unit ![0, o] ![1024, 512] inb)) (ix2 r u))
      = fun u : Fin 512 => prow x0 x1 x2 x3 r ⟨o + u, by omega⟩ :=
    funext fun u => (dot_at _ _ r u).trans (p_at x0 x1 x2 x3 o inb r u _ rfl)
  have e2 : (fun k j => View.ld x10 r0_31 (ix2 k j)) = fun k j => x10 (ix2 k j) :=
    funext fun k => funext fun j => ld2_at x10 0 _ k j k j rfl (by omega)
  have e3 : (fun u => k0_pay16 (View.ld x8 r0_29) (ix2 0 u)) = fun u => x8 (ix2 0 u) := by
    funext u
    refine Eq.trans (b := View.ld x8 r0_29 (ix2 0 u)) (by pointwise [k0_pay16]) ?_
    exact ld2_at x8 0 _ 0 u 0 u rfl (by omega)
  rw [e1, e2, e3]

theorem table_at (x6 : Vec Ideal S256x128 .f32) (r : Fin 256) (l : Fin 128) : k0_pay17 (View.ld x6 r0_30) (ix2 r l) = x6 (ix2 r l) := by
  refine Eq.trans (b := View.ld x6 r0_30 (ix2 r l)) (by pointwise [k0_pay17]) ?_
  exact ld2_at x6 0 _ r l r l rfl (by omega)

/-- What the body leaves in the block of the packed projection. -/
theorem out11 (x0 : Vec Ideal S1x256x1024 .f32) (x1 : Vec Ideal S1x1x3072 .f32) (x2 : Vec Ideal S1x1024 .f32)
    (x3 : Vec Ideal S1024x8192 .bf16) (x4 : Vec Ideal S1024x512 .bf16) (x5 : Vec Ideal S16x1024 .bf16)
    (x6 x7 : Vec Ideal S256x128 .f32) (x8 x9 : Vec Ideal S1x512 .f32) (x10 : Vec Ideal S256x256 .bf16) :
    out0_11 x0 x1 x2 x3 x4 x5 x6 x7 x8 x9 x10 = projBlk x0 x1 x2 x3 x6 x7 x8 x9 x10 := by
  unfold_out out0_11
  funext y
  canon_tiles x h
  case piece0 => exact piece_silu x0 x1 x2 x3 x6 x7 x8 x9 x10 7680 _ y x (by omega) (by omega) (by omega)
  case piece1 => exact piece_plain x0 x1 x2 x3 x6 x7 x8 x9 x10 7168 _ y x (by omega) (by omega) (by omega)
  case piece2 =>
    have h1 : ((y 1 : Fin 256) : ℕ) = ((x 1 : Fin 256) : ℕ) := by omega
    have h2 : ((y 2 : Fin 8192) : ℕ) = 6656 + ((x 2 : Fin 512) : ℕ) := by omega
    obtain ⟨a, r, d, rfl⟩ : ∃ (a : Fin 1) (r : Fin 256) (d : Fin 512), x = ix3 a r d := ⟨x 0, x 1, x 2, idx3_ext rfl rfl rfl⟩
    obtain rfl : a = 0 := Subsingleton.elim _ _
    have er : (y 1 : Fin 256) = r := Fin.ext h1
    have h2' : ((y 2 : Fin 8192) : ℕ) = 6656 + (d : ℕ) := h2
    show _ = projRow x0 x1 x2 x3 x6 x7 x8 x9 x10 (y 1) (y 2)
    rw [er]
    unfold projRow
    refine Eq.trans ?_ (chunk_k _ _ _ (y 2) d h2').symm
    refine (rope_k _ _ _ r d).trans ?_
    have e1 := funext fun u => y_at x0 x1 x2 x3 x9 x10 6656 (by omega) inb_S1024x8192_S1024x512_0_6656 r u
    have e2 := funext fun l => table_at x6 r l
    have e3 := funext fun l => table_at x7 r l
    exact congrArg (fun f => f d) (congr (congr (congrArg krope e1) e2) e3)
  case piece3 =>
    have h1 : ((y 1 : Fin 256) : ℕ) = ((x 1 : Fin 256) : ℕ) := by omega
    have h2 : ((y 2 : Fin 8192) : ℕ) = 6144 + ((x 2 : Fin 512) : ℕ) := by omega
    obtain ⟨a, r, d, rfl⟩ : ∃ (a : Fin 1) (r : Fin 256) (d : Fin 512), x = ix3 a r d := ⟨x 0, x 1, x 2, idx3_ext rfl rfl rfl⟩
    obtain rfl : a = 0 := Subsingleton.elim _ _
    have er : (y 1 : Fin 256) = r := Fin.ext h1
    have h2' : ((y 2 : Fin 8192) : ℕ) = 6144 + (d : ℕ) := h2
    show _ = projRow x0 x1 x2 x3 x6 x7 x8 x9 x10 (y 1) (y 2)
    rw [er]
    unfold projRow
    refine Eq.trans ?_ (chunk_q _ _ _ (y 2) d h2').symm
    refine (rope_q _ _ _ r d).trans ?_
    have e1 := funext fun u => y_at x0 x1 x2 x3 x8 x10 6144 (by omega) inb_S1024x8192_S1024x512_0_6144 r u
    have e2 := funext fun l => table_at x6 r l
    have e3 := funext fun l => table_at x7 r l
    exact congrArg (fun f => f d * Ideal.ofBits FTy.f32 0x3E000000#32) (congr (congr (congrArg krope e1) e2) e3)
  case piece4 => exact piece_silu x0 x1 x2 x3 x6 x7 x8 x9 x10 5632 _ y x (by omega) (by omega) (by omega)
  case piece5 => exact piece_sig x0 x1 x2 x3 x6 x7 x8 x9 x10 5120 _ y x (by omega) (by omega) (by omega)
  case piece6 => exact piece_plain x0 x1 x2 x3 x6 x7 x8 x9 x10 4608 _ y x (by omega) (by omega) (by omega)
  case piece7 => exact piece_plain x0 x1 x2 x3 x6 x7 x8 x9 x10 4096 _ y x (by omega) (by omega) (by omega)
  case piece8 => exact piece_plain x0 x1 x2 x3 x6 x7 x8 x9 x10 3584 _ y x (by omega) (by omega) (by omega)
  case piece9 => exact piece_silu x0 x1 x2 x3 x6 x7 x8 x9 x10 3072 _ y x (by omega) (by omega) (by omega)
  case piece10 => exact piece_sig x0 x1 x2 x3 x6 x7 x8 x9 x10 2560 _ y x (by omega) (by omega) (by omega)
  case piece11 => exact piece_sig x0 x1 x2 x3 x6 x7 x8 x9 x10 2048 _ y x (by omega) (by omega) (by omega)
  case piece12 => exact piece_sig x0 x1 x2 x3 x6 x7 x8 x9 x10 1536 _ y x (by omega) (by omega) (by omega)
  case piece13 => exact piece_sig x0 x1 x2 x3 x6 x7 x8 x9 x10 1024 _ y x (by omega) (by omega) (by omega)
  case piece14 => exact piece_sig x0 x1 x2 x3 x6 x7 x8 x9 x10 512 _ y x (by omega) (by omega) (by omega)
  case piece15 => exact piece_sig x0 x1 x2 x3 x6 x7 x8 x9 x10 0 _ y x (by omega) (by omega) (by omega)

end Cert.Inp.Ker

end
-- ==== Proof.InSlab.lean ====
/-
  The input projection's two smaller blocks at one grid point: the slabs of the state-space input and the mLSTM's gates.
-/
module

public import proofs.«01_k».proof.Proof.InBlock

@[expose] public section

set_option maxRecDepth 16384

noncomputable section

namespace Cert.Inp.Ker

open Idealize.ShloMosaic Idealize.ShloMosaic.Shape Idealize.ShloMosaic.TcCoe
open Cert.Kernel3Ideal
open Cert.Kernel3Ideal.Gen

/-- The block of slabs: row `16 a + q` against channel `128 s + k`. -/
def slabRow (x0 : Vec Ideal S1x256x1024 .f32) (x1 : Vec Ideal S1x1x3072 .f32) (x2 : Vec Ideal S1x1024 .f32)
    (x4 : Vec Ideal S1024x512 .bf16) (s : Fin 4) (a q : Fin 16) (k : Fin 128) : EReal :=
  pcol (hrow x0 x1 x2 ⟨a * 16 + q, by omega⟩) (fun j => x4 (ix2 j ⟨128 * s + k, by omega⟩))

theorem slab_lo (h : FVec Ideal S256x1024 .bf16) (w : Vec Ideal S1024x256 .bf16) (a q : Fin 16) (k : Fin 128) :
    k0_pay50 h w (ix5 0 a 0 q k)
      = pcol (fun j => h (ix2 ⟨a * 16 + q, by omega⟩ j)) (fun j => w (ix2 j ⟨k, by omega⟩)) := by
  pointwise [k0_pay50, k0_pay49]
  rfl

theorem slab_hi (h : FVec Ideal S256x1024 .bf16) (w : Vec Ideal S1024x256 .bf16) (a q : Fin 16) (k : Fin 128) :
    k0_pay51 h w (ix5 0 a 0 q k)
      = pcol (fun j => h (ix2 ⟨a * 16 + q, by omega⟩ j)) (fun j => w (ix2 j ⟨128 + k, by omega⟩)) := by
  pointwise [k0_pay51, k0_pay49]
  rfl

theorem p4_at (x0 : Vec Ideal S1x256x1024 .f32) (x1 : Vec Ideal S1x1x3072 .f32) (x2 : Vec Ideal S1x1024 .f32)
    (x4 : Vec Ideal S1024x512 .bf16) (o : ℕ)
    (inb : ∀ i, (![0, o] : Fin 2 → ℕ) i + (![1024, 256] : Fin 2 → ℕ) i ≤ S1024x512.size i) (r : Fin 256) (d : Fin 256) (z : Fin 512)
    (hz : (z : ℕ) = o + d) :
    pcol (fun k => hb x0 x1 x2 (ix2 r k)) (fun k => View.ld x4 (Rect.unit ![0, o] ![1024, 256] inb) (ix2 k d))
      = pcol (hrow x0 x1 x2 r) (fun j => x4 (ix2 j z)) := by
  have e1 : (fun k => hb x0 x1 x2 (ix2 r k)) = hrow x0 x1 x2 r := funext fun k => h_at x0 x1 x2 r k
  have e2 : (fun k => View.ld x4 (Rect.unit ![0, o] ![1024, 256] inb) (ix2 k d)) = fun k => x4 (ix2 k z) :=
    funext fun k => ld2_at x4 o _ k d k z rfl hz
  rw [e1, e2]

section pieces

variable (x0 : Vec Ideal S1x256x1024 .f32) (x1 : Vec Ideal S1x1x3072 .f32) (x2 : Vec Ideal S1x1024 .f32)
  (x4 : Vec Ideal S1024x512 .bf16) (o : ℕ)
  (inb : ∀ i, (![0, o] : Fin 2 → ℕ) i + (![1024, 256] : Fin 2 → ℕ) i ≤ S1024x512.size i) (s : Fin 4)
  (y : S4x16x1x16x128.Idx) (x : S1x16x1x16x128.Idx) (h0 : ((y 0 : Fin 4) : ℕ) = (s : ℕ))
  (h1 : ((y 1 : Fin 16) : ℕ) = ((x 1 : Fin 16) : ℕ)) (h3 : ((y 3 : Fin 16) : ℕ) = ((x 3 : Fin 16) : ℕ))
  (h4 : ((y 4 : Fin 128) : ℕ) = ((x 4 : Fin 128) : ℕ))

include h0 h1 h3 h4

theorem piece_lo (h : 128 * (s : ℕ) = o) : k0_pay50 (hb x0 x1 x2) (View.ld x4 (Rect.unit ![0, o] ![1024, 256] inb)) x
    = slabRow x0 x1 x2 x4 (y 0) (y 1) (y 3) (y 4) := by
  obtain ⟨e, a, e', q, k, rfl⟩ : ∃ (e : Fin 1) (a : Fin 16) (e' : Fin 1) (q : Fin 16) (k : Fin 128), x = ix5 e a e' q k :=
    ⟨x 0, x 1, x 2, x 3, x 4, funext fun i => by match i with | 0 => rfl | 1 => rfl | 2 => rfl | 3 => rfl | 4 => rfl⟩
  obtain rfl : e = 0 := Subsingleton.elim _ _
  obtain rfl : e' = 0 := Subsingleton.elim _ _
  have e0 : (y 0 : Fin 4) = s := Fin.ext h0
  have e1 : (y 1 : Fin 16) = a := Fin.ext h1
  have e3 : (y 3 : Fin 16) = q := Fin.ext h3
  have e4 : (y 4 : Fin 128) = k := Fin.ext h4
  rw [e0, e1, e3, e4]
  exact (slab_lo _ _ a q k).trans (p4_at x0 x1 x2 x4 o inb _ _ _ (by simp only []; omega))

theorem piece_hi (h : 128 * (s : ℕ) = o + 128) : k0_pay51 (hb x0 x1 x2) (View.ld x4 (Rect.unit ![0, o] ![1024, 256] inb)) x
    = slabRow x0 x1 x2 x4 (y 0) (y 1) (y 3) (y 4) := by
  obtain ⟨e, a, e', q, k, rfl⟩ : ∃ (e : Fin 1) (a : Fin 16) (e' : Fin 1) (q : Fin 16) (k : Fin 128), x = ix5 e a e' q k :=
    ⟨x 0, x 1, x 2, x 3, x 4, funext fun i => by match i with | 0 => rfl | 1 => rfl | 2 => rfl | 3 => rfl | 4 => rfl⟩
  obtain rfl : e = 0 := Subsingleton.elim _ _
  obtain rfl : e' = 0 := Subsingleton.elim _ _
  have e0 : (y 0 : Fin 4) = s := Fin.ext h0
  have e1 : (y 1 : Fin 16) = a := Fin.ext h1
  have e3 : (y 3 : Fin 16) = q := Fin.ext h3
  have e4 : (y 4 : Fin 128) = k := Fin.ext h4
  rw [e0, e1, e3, e4]
  exact (slab_hi _ _ a q k).trans (p4_at x0 x1 x2 x4 o inb _ _ _ (by simp only []; omega))

end pieces

/-- The block of gates: column `g` against row `r`. -/
theorem gate_at (h : FVec Ideal S256x1024 .bf16) (w : Vec Ideal S16x1024 .bf16) (g : Fin 16) (r : Fin 256) :
    k0_pay1 (k0_pay52 h w) (ix3 0 g r) = pcol (fun j => h (ix2 r j)) (fun j => w (ix2 g j)) := by
  pointwise [k0_pay1, k0_pay52]
  unfold pcol
  exact Finset.sum_congr rfl fun x _ => mul_comm _ _

/-- What the body leaves in the block of slabs. -/
theorem out12 (x0 : Vec Ideal S1x256x1024 .f32) (x1 : Vec Ideal S1x1x3072 .f32) (x2 : Vec Ideal S1x1024 .f32)
    (x3 : Vec Ideal S1024x8192 .bf16) (x4 : Vec Ideal S1024x512 .bf16) (x5 : Vec Ideal S16x1024 .bf16)
    (x6 x7 : Vec Ideal S256x128 .f32) (x8 x9 : Vec Ideal S1x512 .f32) (x10 : Vec Ideal S256x256 .bf16) :
    out0_12 x0 x1 x2 x3 x4 x5 x6 x7 x8 x9 x10 = fun y => slabRow x0 x1 x2 x4 (y 0) (y 1) (y 3) (y 4) := by
  unfold_out out0_12
  funext y
  canon_tiles x h
  case piece0 => exact piece_hi x0 x1 x2 x4 256 _ 3 y x (by simp only [Fin.isValue]; omega) h1 h3 h4 rfl
  case piece1 => exact piece_lo x0 x1 x2 x4 256 _ 2 y x (by simp only [Fin.isValue]; omega) h1 h3 h4 rfl
  case piece2 => exact piece_hi x0 x1 x2 x4 0 _ 1 y x (by simp only [Fin.isValue]; omega) h1 h3 h4 rfl
  case piece3 => exact piece_lo x0 x1 x2 x4 0 _ 0 y x (by simp only [Fin.isValue]; omega) h1 h3 h4 rfl

/-- What the body leaves in the block of gates. -/
theorem out13 (x0 : Vec Ideal S1x256x1024 .f32) (x1 : Vec Ideal S1x1x3072 .f32) (x2 : Vec Ideal S1x1024 .f32)
    (x3 : Vec Ideal S1024x8192 .bf16) (x4 : Vec Ideal S1024x512 .bf16) (x5 : Vec Ideal S16x1024 .bf16)
    (x6 x7 : Vec Ideal S256x128 .f32) (x8 x9 : Vec Ideal S1x512 .f32) (x10 : Vec Ideal S256x256 .bf16) :
    out0_13 x0 x1 x2 x3 x4 x5 x6 x7 x8 x9 x10 = fun y => pcol (hrow x0 x1 x2 (y 2)) (fun j => x5 (ix2 (y 1) j)) := by
  unfold_out out0_13
  funext y
  canon_tiles x h
  obtain ⟨a, g, r, rfl⟩ : ∃ (a : Fin 1) (g : Fin 16) (r : Fin 256), x = ix3 a g r := ⟨x 0, x 1, x 2, idx3_ext rfl rfl rfl⟩
  obtain rfl : a = 0 := Subsingleton.elim _ _
  have e1 : (y 1 : Fin 16) = g := Fin.ext h1
  have e2 : (y 2 : Fin 256) = r := Fin.ext h2
  rw [e1, e2]
  refine (gate_at _ _ g r).trans ?_
  exact congrArg₂ pcol (funext fun k => h_at x0 x1 x2 r k) (funext fun j => ld2_at x5 0 _ g j g j rfl (by omega))

end Cert.Inp.Ker

end
-- ==== Proof.InHost.lean ====
/-
  The arrays the host code prepares for the input projection, as their defining terms: tokens, packed weights, tables of the
  rotation, tiled gains, the block matrix of ones.
-/
module

public import proofs.«01_k».proof.Proof.InRow
public import proofs.«01_k».proof.Proof.Gen.Kernel3Ideal.Value
public import Idealize.ShloMosaic.Lib.ViewIndex
public import Idealize.ShloMosaic.Lib.Pipeline.ValueKit

@[expose] public section

set_option maxRecDepth 16384

noncomputable section

namespace Cert.Inp.Ker

open Idealize.ShloMosaic Idealize.ShloMosaic.Shape Idealize.ShloMosaic.TcCoe
open Cert.Kernel3Ideal
open Cert.Kernel3Ideal.Gen

/-- The frequencies. -/
def freq : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The row coordinates. -/
def rowc : FVec Ideal S2048 .f32 :=
  sitofp .f32 (shapeCast S2048 (broadcastInDim S32x64 ![0] bcast_S32_S32x64_0 (iotaInDim S32 32 0) : IVec S32x64 32) shapeCasts_S32x64_S2048 : IVec S2048 32)

/-- The column coordinates. -/
def colc : FVec Ideal S2048 .f32 :=
  sitofp .f32 (shapeCast S2048 (broadcastInDim S32x64 ![0, 1] bcast_S1x64_S32x64_0_1 (shapeCast S1x64 (iotaInDim S64 32 0 : IVec S64 32) shapeCasts_S64_S1x64 : IVec S1x64 32) : IVec S32x64 32) shapeCasts_S32x64_S2048 : IVec S2048 32)

/-- The angles of one coordinate. -/
def ang (p : FVec Ideal S2048 .f32) : FVec Ideal S2048x16 .f32 :=
  mulf (broadcastInDim S2048x16 ![0, 1] bcast_S2048x1_S2048x16_0_1 (broadcastInDim S2048x1 ![0] bcast_S2048_S2048x1_0 p : FVec Ideal S2048x1 .f32))
    (broadcastInDim S2048x16 ![0, 1] bcast_S1x16_S2048x16_0_1 (broadcastInDim S1x16 ![1] bcast_S16_S1x16_1 freq : FVec Ideal S1x16 .f32))

/-- A table over the latent tokens extended by a constant over the context and doubled along the lanes. -/
def ext2 (v : FVec Ideal S_ .f32) (a b c d : FVec Ideal S2048x16 .f32) : FVec Ideal S2304x128 .f32 :=
  shapeCast S2304x128 (broadcastInDim S1x2304x2x64 ![0, 1, 2, 3] bcast_S1x2304x1x64_S1x2304x2x64_0_1_2_3
    (shapeCast S1x2304x1x64 (concatenate S2304x64 0 [⟨S256x64, (broadcastInDim S256x64 ![] bcast_S_S256x64 v : FVec Ideal S256x64 .f32)⟩, ⟨S2048x64,
      (concatenate S2048x64 1 [⟨S2048x16, a⟩, ⟨S2048x16, b⟩, ⟨S2048x16, c⟩, ⟨S2048x16, d⟩] concatenates_S2048x16_S2048x16_S2048x16_S2048x16_S2048x64_d1 : FVec Ideal S2048x64 .f32)⟩]
      concatenates_S256x64_S2048x64_S2304x64_d0 : FVec Ideal S2304x64 .f32) shapeCasts_S2304x64_S1x2304x1x64 : FVec Ideal S1x2304x1x64 .f32) : FVec Ideal S1x2304x2x64 .f32) shapeCasts_S1x2304x2x64_S2304x128

/-- The block matrix of ones. -/
def onesM : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2
      (uitofp .f32 (cmpi .eq (addi (iotaInDim S4x4 32 0 : IVec S4x4 32) (broadcastInDim S4x4 ![] bcast_S_S4x4 (constantI S_ 32 0#32 : IVec S_ 32) : IVec S4x4 32)) (iotaInDim S4x4 32 1 : IVec S4x4 32) : IVec S4x4 1) : FVec Ideal S4x4 .f32) : FVec Ideal S4x1x4x1 .f32))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant S_ .f32 0x3F800000#32) : FVec Ideal S64x64 .f32) : FVec Ideal S1x64x1x64 .f32)) : FVec Ideal S4x64x4x64 .f32)
    shapeCasts_S4x64x4x64_S256x256 : FVec Ideal S256x256 .f32) bitsLt_bf16_f32

/-- A gain repeated for every head. -/
def tile8 (g : FVec Ideal S64 .f32) : FVec Ideal S1x512 .f32 :=
  shapeCast S1x512 (shapeCast S512 (broadcastInDim S8x64 ![0, 1] bcast_S1x64_S8x64_0_1 (shapeCast S1x64 g shapeCasts_S64_S1x64 : FVec Ideal S1x64 .f32) : FVec Ideal S8x64 .f32)
    shapeCasts_S8x64_S512 : FVec Ideal S512 .f32) shapeCasts_S512_S1x512

/-- The packed columns. -/
def pack (w : FVec Ideal S1024x8720 .f32) : FVec Ideal S1024x8192 .bf16 :=
  truncf .bf16 (concatenate S1024x8192 1 [⟨S1024x3072, (extractStridedSlice S1024x3072 ![0, 5648] w slices_S1024x8720_S1024x3072_0_5648 : FVec Ideal S1024x3072 .f32)⟩,
    ⟨S1024x3072, (extractStridedSlice S1024x3072 ![0, 512] w slices_S1024x8720_S1024x3072_0_512 : FVec Ideal S1024x3072 .f32)⟩,
    ⟨S1024x2048, (extractStridedSlice S1024x2048 ![0, 3600] w slices_S1024x8720_S1024x2048_0_3600 : FVec Ideal S1024x2048 .f32)⟩]
    concatenates_S1024x3072_S1024x3072_S1024x2048_S1024x8192_d1 : FVec Ideal S1024x8192 .f32) bitsLt_bf16_f32

variable (m : (ℓ : Loc nD τ sig) → Buf (Elt Ideal) ℓ)

theorem x_val (c : Dev nD) : V m c main_v0
    = (concatenate S16x2304x1024 1 [⟨S16x256x1024, (m ((c : Thread nD τ).loc main_arg1) : FVec Ideal S16x256x1024 .f32)⟩,
        ⟨S16x2048x1024, (m ((c : Thread nD τ).loc main_arg0) : FVec Ideal S16x2048x1024 .f32)⟩] concatenates_S16x256x1024_S16x2048x1024_S16x2304x1024_d1 : FVec Ideal S16x2304x1024 .f32) := by
  unfold_abbrev_sides
  simp only [hostOps0, hostOps0_1, hostOps0_2, List.flatten_cons, List.flatten_nil, List.append_nil, List.cons_append, List.nil_append]
  after_results

theorem m_val (c : Dev nD) : V m c main_v1
    = (shapeCast S24x1x3072 (m ((c : Thread nD τ).loc main_arg2) : Vec Ideal S24x3072 .f32) shapeCasts_S24x3072_S24x1x3072 : Vec Ideal S24x1x3072 .f32) := by
  unfold_abbrev_sides
  simp only [hostOps0, hostOps0_1, hostOps0_2, List.flatten_cons, List.flatten_nil, List.append_nil, List.cons_append, List.nil_append]
  after_results
  rfl

theorem w_val (c : Dev nD) : V m c main_v6 = pack (m ((c : Thread nD τ).loc main_arg4)) := by
  unfold_abbrev_sides
  simp only [hostOps0, hostOps0_1, hostOps0_2, List.flatten_cons, List.flatten_nil, List.append_nil, List.cons_append, List.nil_append]
  after_results
  rfl

theorem su_val (c : Dev nD) : V m c main_v8
    = (truncf .bf16 (extractStridedSlice S1024x512 ![0, 0] (m ((c : Thread nD τ).loc main_arg4) : FVec Ideal S1024x8720 .f32) slices_S1024x8720_S1024x512_0_0 : FVec Ideal S1024x512 .f32) bitsLt_bf16_f32 : FVec Ideal S1024x512 .bf16) := by
  unfold_abbrev_sides
  simp only [hostOps0, hostOps0_1, hostOps0_2, List.flatten_cons, List.flatten_nil, List.append_nil, List.cons_append, List.nil_append]
  after_results

theorem gt_val (c : Dev nD) : V m c main_v11
    = (truncf .bf16 (transpose S16x1024 [1, 0] (extractStridedSlice S1024x16 ![0, 3584] (m ((c : Thread nD τ).loc main_arg4) : FVec Ideal S1024x8720 .f32) slices_S1024x8720_S1024x16_0_3584 : FVec Ideal S1024x16 .f32) transposes_S1024x16_S16x1024_1_0 : FVec Ideal S16x1024 .f32) bitsLt_bf16_f32 : FVec Ideal S16x1024 .bf16) := by
  unfold_abbrev_sides
  simp only [hostOps0, hostOps0_1, hostOps0_2, List.flatten_cons, List.flatten_nil, List.append_nil, List.cons_append, List.nil_append]
  after_results

theorem cos_val (c : Dev nD) : V m c main_v59
    = ext2 (constant S_ .f32 0x3F800000#32) (Host.cos (ang rowc)) (Host.cos (ang rowc)) (Host.cos (ang colc)) (Host.cos (ang colc)) := by
  unfold_abbrev_sides
  simp only [hostOps0, hostOps0_1, hostOps0_2, List.flatten_cons, List.flatten_nil, List.append_nil, List.cons_append, List.nil_append]
  after_results
  rfl

theorem sin_val (c : Dev nD) : V m c main_v62
    = ext2 (constant S_ .f32 0x00000000#32) (Host.negf (Host.sin (ang rowc))) (Host.sin (ang rowc)) (Host.negf (Host.sin (ang colc))) (Host.sin (ang colc)) := by
  unfold_abbrev_sides
  simp only [hostOps0, hostOps0_1, hostOps0_2, List.flatten_cons, List.flatten_nil, List.append_nil, List.cons_append, List.nil_append]
  after_results
  rfl

theorem ones_val (c : Dev nD) : V m c main_v71 = onesM := by
  unfold_abbrev_sides
  simp only [hostOps0, hostOps0_1, hostOps0_2, List.flatten_cons, List.flatten_nil, List.append_nil, List.cons_append, List.nil_append]
  after_results
  rfl

theorem qg_val (c : Dev nD) : V m c main_v75 = tile8 (m ((c : Thread nD τ).loc main_arg5)) := by
  unfold_abbrev_sides
  simp only [hostOps0, hostOps0_1, hostOps0_2, List.flatten_cons, List.flatten_nil, List.append_nil, List.cons_append, List.nil_append]
  after_results
  rfl

theorem kg_val (c : Dev nD) : V m c main_v79 = tile8 (m ((c : Thread nD τ).loc main_arg6)) := by
  unfold_abbrev_sides
  simp only [hostOps0, hostOps0_1, hostOps0_2, List.flatten_cons, List.flatten_nil, List.append_nil, List.cons_append, List.nil_append]
  after_results
  rfl

theorem g_val (c : Dev nD) : V m c main_v80
    = (shapeCast S1x1024 (m ((c : Thread nD τ).loc main_arg3) : Vec Ideal S1024 .f32) shapeCasts_S1024_S1x1024 : Vec Ideal S1x1024 .f32) := by
  unfold_abbrev_sides
  simp only [hostOps0, hostOps0_1, hostOps0_2, List.flatten_cons, List.flatten_nil, List.append_nil, List.cons_append, List.nil_append]
  after_results
  rfl

/-! The prepared arrays, at an index. -/

theorem col_of (f : Fin 8720 → EReal) (z : Fin 8192) :
    (if h : (z : ℕ) < 3072 then f ⟨5648 + z, by omega⟩ else if h : (z : ℕ) - 3072 < 3072 then f ⟨512 + (z - 3072), by omega⟩
      else f ⟨3600 + (z - 3072 - 3072), by omega⟩) = f (col z) := by
  unfold col
  by_cases h0 : (z : ℕ) < 3072
  · rw [dif_pos h0, dif_pos h0]
  rw [dif_neg h0, dif_neg h0]
  by_cases h1 : (z : ℕ) - 3072 < 3072
  · rw [dif_pos h1, if_pos (by omega)]
    exact congrArg f (Fin.ext (by simp only []; omega))
  rw [dif_neg h1, if_neg (by omega)]
  exact congrArg f (Fin.ext (by simp only []; omega))

theorem pack_at (w : FVec Ideal S1024x8720 .f32) (k : Fin 1024) (z : Fin 8192) : pack w (ix2 k z) = w (ix2 k (col z)) := by
  pointwise [pack]
  exact col_of (fun j => w (ix2 k j)) z

theorem tile8_at (g : FVec Ideal S64 .f32) (u : Fin 512) : tile8 g (ix2 0 u) = g (ix1 ⟨(u : ℕ) % 64, by omega⟩) := by
  pointwise [tile8]

theorem ones_at (k j : Fin 256) : onesM (ix2 k j) = if (k : ℕ) / 64 = (j : ℕ) / 64 then 1 else 0 := by
  have h : ∀ a b : Fin 4, IntOp.cmpi CmpIPredicate.eq (IntOp.addi (BitVec.ofNat 32 a) 0#32) (BitVec.ofNat 32 b) = if (a : ℕ) = b then 1#1 else 0#1 := by
    decide +kernel
  pointwise [onesM]
  refine (congrArg _ (h ⟨k / 64, by omega⟩ ⟨j / 64, by omega⟩)).trans ?_
  simp only []
  split
  · show ((((1#1 : BitVec 1).toNat : ℝ)) : EReal) = _
    simp
  · show ((((0#1 : BitVec 1).toNat : ℝ)) : EReal) = _
    simp

theorem tab_of (a b c d : Fin 16 → EReal) (l : Fin 128) :
    (if h : (l : ℕ) % 64 < 16 then a ⟨(l : ℕ) % 64, h⟩ else if h : (l : ℕ) % 64 - 16 < 16 then b ⟨(l : ℕ) % 64 - 16, h⟩
      else if h : (l : ℕ) % 64 - 16 - 16 < 16 then c ⟨(l : ℕ) % 64 - 16 - 16, h⟩ else d ⟨(l : ℕ) % 64 - 16 - 16 - 16, by omega⟩)
      = tab a b c d l := by
  unfold tab
  by_cases h0 : (l : ℕ) % 64 < 16
  · rw [dif_pos h0, if_pos h0]
    exact congrArg a (Fin.ext (by simp only []; omega))
  rw [dif_neg h0, if_neg h0]
  by_cases h1 : (l : ℕ) % 64 - 16 < 16
  · rw [dif_pos h1, if_pos (by omega)]
    exact congrArg b (Fin.ext (by simp only []; omega))
  rw [dif_neg h1, if_neg (by omega)]
  by_cases h2 : (l : ℕ) % 64 - 16 - 16 < 16
  · rw [dif_pos h2, if_pos (by omega)]
    exact congrArg c (Fin.ext (by simp only []; omega))
  rw [dif_neg h2, if_neg (by omega)]
  exact congrArg d (Fin.ext (by simp only []; omega))

theorem ext2_at (v : FVec Ideal S_ .f32) (a b c d : FVec Ideal S2048x16 .f32) (n : Fin 2304) (l : Fin 128) :
    ext2 v a b c d (ix2 n l) = if h : (n : ℕ) < 256 then v ix0
      else tab (fun f => a (ix2 ⟨n - 256, by omega⟩ f)) (fun f => b (ix2 ⟨n - 256, by omega⟩ f)) (fun f => c (ix2 ⟨n - 256, by omega⟩ f))
        (fun f => d (ix2 ⟨n - 256, by omega⟩ f)) l := by
  pointwise [ext2]
  refine dite_congr rfl (fun _ => rfl) fun h => ?_
  exact tab_of (fun f => a (ix2 ⟨n - 256, by omega⟩ f)) (fun f => b (ix2 ⟨n - 256, by omega⟩ f)) (fun f => c (ix2 ⟨n - 256, by omega⟩ f))
        (fun f => d (ix2 ⟨n - 256, by omega⟩ f)) l

theorem ang_row (n : Fin 2048) (f : Fin 16) : ang rowc (ix2 n f) = angle ((n : ℕ) / 64) f := by
  pointwise [ang, rowc, freq]
  rfl

theorem ang_col (n : Fin 2048) (f : Fin 16) : ang colc (ix2 n f) = angle ((n : ℕ) % 64) f := by
  pointwise [ang, colc, freq]
  rfl

theorem cos_at (n : Fin 2304) (l : Fin 128) :
    ext2 (constant S_ .f32 0x3F800000#32) (Host.cos (ang rowc)) (Host.cos (ang rowc)) (Host.cos (ang colc)) (Host.cos (ang colc)) (ix2 n l)
      = cosAt n l := by
  refine (ext2_at _ _ _ _ _ n l).trans ?_
  unfold cosAt
  refine dite_congr rfl (fun _ => by pointwise) fun h => ?_
  refine congr (congr (congr (congr (congrArg tab ?_) ?_) ?_) ?_) rfl <;> funext f
  · exact congrArg Ideal.cos (ang_row _ f)
  · exact congrArg Ideal.cos (ang_row _ f)
  · exact congrArg Ideal.cos (ang_col _ f)
  · exact congrArg Ideal.cos (ang_col _ f)

theorem sin_at (n : Fin 2304) (l : Fin 128) :
    ext2 (constant S_ .f32 0x00000000#32) (Host.negf (Host.sin (ang rowc))) (Host.sin (ang rowc)) (Host.negf (Host.sin (ang colc))) (Host.sin (ang colc)) (ix2 n l)
      = sinAt n l := by
  refine (ext2_at _ _ _ _ _ n l).trans ?_
  unfold sinAt
  refine dite_congr rfl (fun _ => by pointwise) fun h => ?_
  refine congr (congr (congr (congr (congrArg tab ?_) ?_) ?_) ?_) rfl <;> funext f
  · exact congrArg (fun z => -Ideal.sin z) (ang_row _ f)
  · exact congrArg Ideal.sin (ang_row _ f)
  · exact congrArg (fun z => -Ideal.sin z) (ang_col _ f)
  · exact congrArg Ideal.sin (ang_col _ f)

end Cert.Inp.Ker

end
-- ==== Proof.InArray.lean ====
/-
  What the input projection's three output arrays hold after the run, at an index: the blocks of the 144 grid points put together.
-/
module

public import proofs.«01_k».proof.Proof.InSlab
public import proofs.«01_k».proof.Proof.InHost

@[expose] public section

set_option maxRecDepth 16384

noncomputable section

namespace Cert.Inp.Ker

open Idealize.ShloMosaic Idealize.ShloMosaic.Shape Idealize.ShloMosaic.TcCoe
open Cert.Kernel3Ideal
open Cert.Kernel3Ideal.Gen

variable (m : (ℓ : Loc nD τ sig) → Buf (Elt Ideal) ℓ)

theorem idx : ∀ t : Fin cfg0.N, win0_0.index t = ![t.val / 9, t.val % 9, 0] ∧ win0_1.index t = ![if t.val % 9 = 0 then 16 else t.val / 9, 0, 0]
    ∧ win0_2.index t = ![0, 0] ∧ win0_3.index t = ![0, 0] ∧ win0_4.index t = ![0, 0] ∧ win0_5.index t = ![0, 0]
    ∧ win0_6.index t = ![t.val % 9, 0] ∧ win0_7.index t = ![t.val % 9, 0] ∧ win0_8.index t = ![0, 0] ∧ win0_9.index t = ![0, 0]
    ∧ win0_10.index t = ![0, 0] ∧ win0_11.index t = ![t.val / 9, t.val % 9, 0] ∧ win0_12.index t = ![0, t.val % 9, t.val / 9, 0, 0]
    ∧ win0_13.index t = ![t.val / 9, 0, t.val % 9] :=
  (by decide +kernel : ∀ t : Fin grid0.N, _)

/-! The staged blocks, at an index. -/

theorem mods_at (M : Vec Ideal S24x3072 .f32) (a : Fin 24) (z : Fin 3072) :
    shapeCast S24x1x3072 M shapeCasts_S24x3072_S24x1x3072 (ix3 a 0 z) = M (ix2 a z) := by
  pointwise

theorem gain_at (g : Vec Ideal S1024 .f32) (k : Fin 1024) : shapeCast S1x1024 g shapeCasts_S1024_S1x1024 (ix2 0 k) = g (ix1 k) := by
  pointwise

theorem x_at (c : Dev nD) (t : Fin cfg0.N) (r : Fin 256) (k : Fin 1024) (b : Fin 16) (n : Fin 2304) (hb : (b : ℕ) = t.val / 9)
    (hn : (n : ℕ) = t.val % 9 * 256 + r) :
    iblk m c 0 t (ix3 0 r k) = tok (m ((c : Thread nD τ).loc main_arg0)) (m ((c : Thread nD τ).loc main_arg1)) b n k := by
  have e : iblk m c 0 t (ix3 0 r k) = (V m c main_v0 : FVec Ideal S16x2304x1024 .f32) (ix3 b n k) := by blk_ext [iblk, idx t]
  rw [e, x_val]
  unfold tok
  pointwise

theorem m_at (c : Dev nD) (t : Fin cfg0.N) (z : Fin 3072) (b : Fin 16) (n : Fin 2304) (r : Fin 256) (hb : (b : ℕ) = t.val / 9)
    (hn : (n : ℕ) = t.val % 9 * 256 + r) : iblk m c 1 t (ix3 0 0 z) = m ((c : Thread nD τ).loc main_arg2) (ix2 (mrow b n) z) := by
  have e : iblk m c 1 t (ix3 0 0 z) = (V m c main_v1 : Vec Ideal S24x1x3072 .f32) (ix3 (mrow b n) 0 z) := by
    have h : ((mrow b n : Fin 24) : ℕ) = if t.val % 9 = 0 then 16 else t.val / 9 := by
      unfold mrow
      by_cases h0 : t.val % 9 = 0
      · rw [if_pos h0, if_pos (by omega)]
        rfl
      · rw [if_neg h0, if_neg (by omega)]
        exact hb
    blk_ext [iblk, idx t]
  rw [e, m_val]
  exact mods_at _ _ z

theorem g_at (c : Dev nD) (t : Fin cfg0.N) (k : Fin 1024) : iblk m c 2 t (ix2 0 k) = m ((c : Thread nD τ).loc main_arg3) (ix1 k) := by
  have e : iblk m c 2 t (ix2 0 k) = (V m c main_v80 : Vec Ideal S1x1024 .f32) (ix2 0 k) := by blk_ext [iblk, idx t]
  rw [e, g_val]
  exact gain_at _ k

theorem w_at (c : Dev nD) (t : Fin cfg0.N) (k : Fin 1024) (z : Fin 8192) :
    iblk m c 3 t (ix2 k z) = m ((c : Thread nD τ).loc main_arg4) (ix2 k (col z)) := by
  have e : iblk m c 3 t (ix2 k z) = (V m c main_v6 : Vec Ideal S1024x8192 .bf16) (ix2 k z) := by blk_ext [iblk, idx t]
  rw [e, w_val]
  exact pack_at _ k z

theorem su_at (c : Dev nD) (t : Fin cfg0.N) (k : Fin 1024) (z : Fin 512) :
    iblk m c 4 t (ix2 k z) = m ((c : Thread nD τ).loc main_arg4) (ix2 k ⟨z, by omega⟩) := by
  have e : iblk m c 4 t (ix2 k z) = (V m c main_v8 : Vec Ideal S1024x512 .bf16) (ix2 k z) := by blk_ext [iblk, idx t]
  rw [e, su_val]
  pointwise

theorem gt_at (c : Dev nD) (t : Fin cfg0.N) (g : Fin 16) (k : Fin 1024) :
    iblk m c 5 t (ix2 g k) = m ((c : Thread nD τ).loc main_arg4) (ix2 k ⟨3584 + g, by omega⟩) := by
  have e : iblk m c 5 t (ix2 g k) = (V m c main_v11 : Vec Ideal S16x1024 .bf16) (ix2 g k) := by blk_ext [iblk, idx t]
  rw [e, gt_val]
  pointwise

theorem c_at (c : Dev nD) (t : Fin cfg0.N) (r : Fin 256) (l : Fin 128) (n : Fin 2304) (hn : (n : ℕ) = t.val % 9 * 256 + r) :
    iblk m c 6 t (ix2 r l) = cosAt n l := by
  have e : iblk m c 6 t (ix2 r l) = (V m c main_v59 : Vec Ideal S2304x128 .f32) (ix2 n l) := by blk_ext [iblk, idx t]
  rw [e, cos_val]
  exact cos_at n l

theorem s_at (c : Dev nD) (t : Fin cfg0.N) (r : Fin 256) (l : Fin 128) (n : Fin 2304) (hn : (n : ℕ) = t.val % 9 * 256 + r) :
    iblk m c 7 t (ix2 r l) = sinAt n l := by
  have e : iblk m c 7 t (ix2 r l) = (V m c main_v62 : Vec Ideal S2304x128 .f32) (ix2 n l) := by blk_ext [iblk, idx t]
  rw [e, sin_val]
  exact sin_at n l

theorem qg_at (c : Dev nD) (t : Fin cfg0.N) (u : Fin 512) :
    iblk m c 8 t (ix2 0 u) = m ((c : Thread nD τ).loc main_arg5) (ix1 ⟨(u : ℕ) % 64, by omega⟩) := by
  have e : iblk m c 8 t (ix2 0 u) = (V m c main_v75 : Vec Ideal S1x512 .f32) (ix2 0 u) := by blk_ext [iblk, idx t]
  rw [e, qg_val]
  exact tile8_at _ u

theorem kg_at (c : Dev nD) (t : Fin cfg0.N) (u : Fin 512) :
    iblk m c 9 t (ix2 0 u) = m ((c : Thread nD τ).loc main_arg6) (ix1 ⟨(u : ℕ) % 64, by omega⟩) := by
  have e : iblk m c 9 t (ix2 0 u) = (V m c main_v79 : Vec Ideal S1x512 .f32) (ix2 0 u) := by blk_ext [iblk, idx t]
  rw [e, kg_val]
  exact tile8_at _ u

theorem o_at (c : Dev nD) (t : Fin cfg0.N) (k j : Fin 256) : iblk m c 10 t (ix2 k j) = onesAt k j := by
  have e : iblk m c 10 t (ix2 k j) = (V m c main_v71 : Vec Ideal S256x256 .bf16) (ix2 k j) := by blk_ext [iblk, idx t]
  rw [e, ones_val]
  exact ones_at k j

/-- The normalised and modulated row of a token. -/
theorem hrow_at (c : Dev nD) (t : Fin cfg0.N) (b : Fin 16) (n : Fin 2304) (r : Fin 256) (hb : (b : ℕ) = t.val / 9)
    (hn : (n : ℕ) = t.val % 9 * 256 + r) : hrow (iblk m c 0 t) (iblk m c 1 t) (iblk m c 2 t) r
    = hid (tok (m ((c : Thread nD τ).loc main_arg0)) (m ((c : Thread nD τ).loc main_arg1)) b n) (fun k => m ((c : Thread nD τ).loc main_arg3) (ix1 k))
        (fun k => m ((c : Thread nD τ).loc main_arg2) (ix2 (mrow b n) ⟨k, by omega⟩))
        (fun k => m ((c : Thread nD τ).loc main_arg2) (ix2 (mrow b n) ⟨1024 + k, by omega⟩)) := by
  unfold hrow
  simp only [x_at m c t r _ b n hb hn, m_at m c t _ b n r hb hn, g_at]

theorem prow_at (c : Dev nD) (t : Fin cfg0.N) (b : Fin 16) (n : Fin 2304) (r : Fin 256) (hb : (b : ℕ) = t.val / 9)
    (hn : (n : ℕ) = t.val % 9 * 256 + r) (z : Fin 8192) : prow (iblk m c 0 t) (iblk m c 1 t) (iblk m c 2 t) (iblk m c 3 t) r z
    = projAt (m ((c : Thread nD τ).loc main_arg0)) (m ((c : Thread nD τ).loc main_arg1)) (m ((c : Thread nD τ).loc main_arg2))
        (m ((c : Thread nD τ).loc main_arg3)) (m ((c : Thread nD τ).loc main_arg4)) b n (col z) := by
  unfold prow projAt
  rw [hrow_at m c t b n r hb hn]
  simp only [w_at]

theorem projRow_at (c : Dev nD) (t : Fin cfg0.N) (b : Fin 16) (n : Fin 2304) (r : Fin 256) (hb : (b : ℕ) = t.val / 9)
    (hn : (n : ℕ) = t.val % 9 * 256 + r) (z : Fin 8192) :
    projRow (iblk m c 0 t) (iblk m c 1 t) (iblk m c 2 t) (iblk m c 3 t) (iblk m c 6 t) (iblk m c 7 t) (iblk m c 8 t) (iblk m c 9 t) (iblk m c 10 t) r z
    = kerProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b n z := by
  unfold projRow kerProj kerHead
  have e : prow (iblk m c 0 t) (iblk m c 1 t) (iblk m c 2 t) (iblk m c 3 t) r = fun z => projAt (m ((c : Thread nD τ).loc main_arg0)) (m ((c : Thread nD τ).loc main_arg1)) (m ((c : Thread nD τ).loc main_arg2))
        (m ((c : Thread nD τ).loc main_arg3)) (m ((c : Thread nD τ).loc main_arg4)) b n (col z) := funext (prow_at m c t b n r hb hn)
  have e6 : (fun l : Fin 128 => iblk m c 6 t (ix2 r l)) = cosAt n := funext fun l => c_at m c t r l n hn
  have e7 : (fun l : Fin 128 => iblk m c 7 t (ix2 r l)) = sinAt n := funext fun l => s_at m c t r l n hn
  have e8 : (fun u : Fin 512 => iblk m c 8 t (ix2 0 u)) = fun u : Fin 512 => m ((c : Thread nD τ).loc main_arg5) (ix1 ⟨(u : ℕ) % 64, by omega⟩) := funext fun u => qg_at m c t u
  have e9 : (fun u : Fin 512 => iblk m c 9 t (ix2 0 u)) = fun u : Fin 512 => m ((c : Thread nD τ).loc main_arg6) (ix1 ⟨(u : ℕ) % 64, by omega⟩) := funext fun u => kg_at m c t u
  have e10 : (fun k j : Fin 256 => iblk m c 10 t (ix2 k j)) = onesAt := funext fun k => funext fun j => o_at m c t k j
  rw [e, e6, e7, e8, e9, e10]

/-! The output arrays after the run. -/

theorem final11 (c : Dev nD) : (dats m 0 c).arrAt 11 cfg0.N
    = (fun i => kerProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) (i 2) : Vec Ideal S16x2304x8192 .bf16) := by
  refine Pipeline.Dat.arrAt_eq_of_covers _ 11 _ (by decide +kernel) fun t hf y => ?_
  obtain ⟨a, r, z, rfl⟩ : ∃ (a : Fin 1) (r : Fin 256) (z : Fin 8192), y = ix3 a r z := ⟨y 0, y 1, y 2, idx3_ext rfl rfl rfl⟩
  obtain rfl : a = 0 := Subsingleton.elim _ _
  blk_simp [idx t]
  rw [after0_11]
  have hN : t.val < 144 := t.isLt
  have e : ∀ X : S16x2304x8192.Idx → EReal, X ((win0_11.blk t).view.emb (ix3 0 r z))
      = X (ix3 ⟨t.val / 9, by omega⟩ ⟨t.val % 9 * 256 + r, by omega⟩ z) := by
    intro X
    blk_ext [idx t]
  refine (congrFun (out11 _ _ _ _ _ _ _ _ _ _ _) (ix3 0 r z)).trans ?_
  refine (projRow_at m c t ⟨t.val / 9, by omega⟩ ⟨t.val % 9 * 256 + r, by omega⟩ r rfl rfl z).trans ?_
  exact (e fun i => kerProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) (i 2)).symm

theorem final12 (c : Dev nD) : (dats m 0 c).arrAt 12 cfg0.N
    = (fun i => projAt (m ((c : Thread nD τ).loc main_arg0)) (m ((c : Thread nD τ).loc main_arg1)) (m ((c : Thread nD τ).loc main_arg2))
        (m ((c : Thread nD τ).loc main_arg3)) (m ((c : Thread nD τ).loc main_arg4)) (i 2) (tokOf (i 1) (i 3)) (chanOf (i 0) (i 4)) : Vec Ideal S4x144x16x16x128 .bf16) := by
  refine Pipeline.Dat.arrAt_eq_of_covers _ 12 _ (by decide +kernel) fun t hf y => ?_
  obtain ⟨s, a, b, q, k, rfl⟩ : ∃ (s : Fin 4) (a : Fin 16) (b : Fin 1) (q : Fin 16) (k : Fin 128), y = ix5 s a b q k :=
    ⟨y 0, y 1, y 2, y 3, y 4, funext fun i => by match i with | 0 => rfl | 1 => rfl | 2 => rfl | 3 => rfl | 4 => rfl⟩
  obtain rfl : b = 0 := Subsingleton.elim _ _
  blk_simp [idx t]
  rw [after0_12]
  have hN : t.val < 144 := t.isLt
  have e : ∀ X : S4x144x16x16x128.Idx → EReal, X ((win0_12.blk t).view.emb (ix5 s a 0 q k))
      = X (ix5 s ⟨t.val % 9 * 16 + a, by omega⟩ ⟨t.val / 9, by omega⟩ q k) := by
    intro X
    blk_ext [idx t]
  refine (congrFun (out12 _ _ _ _ _ _ _ _ _ _ _) (ix5 s a 0 q k)).trans ?_
  refine Eq.trans ?_ (e fun i => projAt (m ((c : Thread nD τ).loc main_arg0)) (m ((c : Thread nD τ).loc main_arg1)) (m ((c : Thread nD τ).loc main_arg2))
        (m ((c : Thread nD τ).loc main_arg3)) (m ((c : Thread nD τ).loc main_arg4)) (i 2) (tokOf (i 1) (i 3)) (chanOf (i 0) (i 4))).symm
  refine (congrArg₂ pcol (hrow_at m c t ⟨t.val / 9, by omega⟩ (tokOf ⟨t.val % 9 * 16 + a, by omega⟩ q) ⟨a * 16 + q, by omega⟩ rfl
    (by simp only [tokOf]; omega)) (funext fun j => su_at m c t j ⟨128 * s + k, by omega⟩)).trans ?_
  rfl

theorem final13 (c : Dev nD) : (dats m 0 c).arrAt 13 cfg0.N
    = (fun i => projAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 2) (gateOf (i 1)) : Vec Ideal S16x16x2304 .f32) := by
  refine Pipeline.Dat.arrAt_eq_of_covers _ 13 _ (by decide +kernel) fun t hf y => ?_
  obtain ⟨a, g, r, rfl⟩ : ∃ (a : Fin 1) (g : Fin 16) (r : Fin 256), y = ix3 a g r := ⟨y 0, y 1, y 2, idx3_ext rfl rfl rfl⟩
  obtain rfl : a = 0 := Subsingleton.elim _ _
  blk_simp [idx t]
  rw [after0_13]
  have hN : t.val < 144 := t.isLt
  have e : ∀ X : S16x16x2304.Idx → EReal, X ((win0_13.blk t).view.emb (ix3 0 g r))
      = X (ix3 ⟨t.val / 9, by omega⟩ g ⟨t.val % 9 * 256 + r, by omega⟩) := by
    intro X
    blk_ext [idx t]
  refine (congrFun (out13 _ _ _ _ _ _ _ _ _ _ _) (ix3 0 g r)).trans ?_
  refine Eq.trans ?_ (e fun i => projAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 2) (gateOf (i 1))).symm
  exact congrArg₂ pcol (hrow_at m c t ⟨t.val / 9, by omega⟩ ⟨t.val % 9 * 256 + r, by omega⟩ r rfl rfl) (funext fun j => gt_at m c t g j)

end Cert.Inp.Ker

end
-- ==== Proof.InTie.lean ====
/-
  The mathematics of the input projection's normalised heads: the kernel's normalisation and rotation are the reference's
  wherever the products are real numbers, and they are real numbers for finite arguments.
-/
module

public import proofs.«01_k».proof.Proof.InRow
public import proofs.«01_k».proof.Proof.Softmax

@[expose] public section

noncomputable section

namespace Cert.Inp

open Idealize.ShloMosaic Idealize.ShloMosaic.Shape
open Cert.Attn (IsReal coe_sum)

/-- One head's lane rotated in the order of the reference: quarters 0 and 1 turn by the row's angle, 2 and 3 by the column's. -/
def rotL (y : Fin 64 → EReal) (cr sr cc sc : Fin 16 → EReal) (l : Fin 64) : EReal :=
  if h : (l : ℕ) < 16 then y l * cr ⟨l, h⟩ - y ⟨l + 16, by omega⟩ * sr ⟨l, h⟩
  else if h : (l : ℕ) < 32 then y l * cr ⟨l - 16, by omega⟩ + y ⟨l - 16, by omega⟩ * sr ⟨l - 16, by omega⟩
  else if h : (l : ℕ) < 48 then y l * cc ⟨l - 32, by omega⟩ - y ⟨l + 16, by omega⟩ * sc ⟨l - 32, by omega⟩
  else y l * cc ⟨l - 48, by omega⟩ + y ⟨l - 16, by omega⟩ * sc ⟨l - 48, by omega⟩

/-- The head's normalisation and rotation as the reference takes them, on token `n`. -/
def refHead (p : Fin 512 → EReal) (g : Fin 64 → EReal) (n : Fin 2304) (u : Fin 512) : EReal :=
  if (n : ℕ) < 256 then rnorm p g u
  else rotL (fun l => rnorm p g ⟨(u : ℕ) / 64 * 64 + l, by omega⟩)
    (fun f => Ideal.cos (angle ((n - 256 : ℕ) / 64) f)) (fun f => Ideal.sin (angle ((n - 256 : ℕ) / 64) f))
    (fun f => Ideal.cos (angle ((n - 256 : ℕ) % 64) f)) (fun f => Ideal.sin (angle ((n - 256 : ℕ) % 64) f)) ⟨(u : ℕ) % 64, by omega⟩

/-- The packed projection, as the reference takes it. -/
def refProj (X : Shape.Idx ⟨3, ![16, 2048, 1024]⟩ → EReal) (C : Shape.Idx ⟨3, ![16, 256, 1024]⟩ → EReal)
    (M : Shape.Idx ⟨2, ![24, 3072]⟩ → EReal) (G : Shape.Idx ⟨1, ![1024]⟩ → EReal) (W : Shape.Idx ⟨2, ![1024, 8720]⟩ → EReal)
    (Q K : Shape.Idx ⟨1, ![64]⟩ → EReal) (b : Fin 16) (n : Fin 2304) (z : Fin 8192) : EReal :=
  chunks (fun z => projAt X C M G W b n (col z))
    (fun u => refHead (fun u => projAt X C M G W b n ⟨3600 + u, by omega⟩) (fun l => Q (ix1 l)) n u * Ideal.ofBits FTy.f32 0x3E000000#32)
    (refHead (fun u => projAt X C M G W b n ⟨4112 + u, by omega⟩) (fun l => K (ix1 l)) n) z

theorem isReal_div {y : ℝ} (h : y ≠ 0) {x : EReal} (hx : IsReal x) : IsReal (Ideal.div x (y : EReal)) := by
  rw [Ideal.div_coe h]
  exact hx.mul ⟨_, rfl⟩

theorem ofBits_64 : Ideal.ofBits FTy.f32 0x42800000#32 = ((64 : ℝ) : EReal) := by
  simp [Ideal.ofBits, Ideal.ieee, -EReal.coe_mul]
  norm_num

theorem ofBits_64th : Ideal.ofBits FTy.f32 0x3C800000#32 = ((1 / 64 : ℝ) : EReal) := by
  simp [Ideal.ofBits, Ideal.ieee, -EReal.coe_mul]
  norm_num

theorem ofBits_1024 : Ideal.ofBits FTy.f32 0x44800000#32 = ((1024 : ℝ) : EReal) := by
  simp [Ideal.ofBits, Ideal.ieee, -EReal.coe_mul]
  norm_num

theorem ofBits_eps : ∃ r : ℝ, 0 < r ∧ Ideal.ofBits FTy.f32 0x358637BD#32 = (r : EReal) := by
  refine ⟨8796093 / 8796093022208, by norm_num, ?_⟩
  simp [Ideal.ofBits, Ideal.ieee, -EReal.coe_mul]
  norm_num

/-- The kernel's sum over 256 lanes picks the head's 64. -/
theorem sum_head (f : Fin 512 → EReal) (z : Fin 512) :
    (∑ k : Fin 256, f ⟨(z : ℕ) / 256 * 256 + k, by omega⟩ * onesAt k ⟨(z : ℕ) % 256, by omega⟩)
      = ∑ l : Fin 64, f ⟨(z : ℕ) / 64 * 64 + l, by omega⟩ := by
  have hz := z.isLt
  rw [← Equiv.sum_comp (finProdFinEquiv (m := 4) (n := 64)) (fun k : Fin 256 => f ⟨(z : ℕ) / 256 * 256 + k, by omega⟩ * onesAt k ⟨(z : ℕ) % 256, by omega⟩),
    Fintype.sum_prod_type]
  rw [Finset.sum_eq_single (⟨(z : ℕ) % 256 / 64, by omega⟩ : Fin 4)]
  · refine Finset.sum_congr rfl fun l _ => ?_
    have hl := l.isLt
    have e : onesAt (finProdFinEquiv ((⟨(z : ℕ) % 256 / 64, by omega⟩ : Fin 4), l)) ⟨(z : ℕ) % 256, by omega⟩ = 1 := by
      unfold onesAt
      rw [if_pos]
      show ((l : ℕ) + 64 * ((z : ℕ) % 256 / 64)) / 64 = (z : ℕ) % 256 / 64
      omega
    rw [e, mul_one]
    refine congrArg f (Fin.ext ?_)
    show (z : ℕ) / 256 * 256 + ((l : ℕ) + 64 * ((z : ℕ) % 256 / 64)) = (z : ℕ) / 64 * 64 + l
    omega
  · intro a _ ha
    refine Finset.sum_eq_zero fun l _ => ?_
    have hl := l.isLt
    have e : onesAt (finProdFinEquiv (a, l)) ⟨(z : ℕ) % 256, by omega⟩ = 0 := by
      unfold onesAt
      rw [if_neg]
      show ¬ ((l : ℕ) + 64 * (a : ℕ)) / 64 = (z : ℕ) % 256 / 64
      intro h
      exact ha (Fin.ext (by simp only []; omega))
    rw [e, mul_zero]
  · intro h
    exact absurd (Finset.mem_univ _) h

theorem IsReal.sub_self {x : EReal} : IsReal x → x - x = 0
  | ⟨r, hr⟩ => by rw [hr, ← EReal.coe_sub, _root_.sub_self, EReal.coe_zero]

theorem knorm_eq (p : Fin 512 → EReal) (g : Fin 64 → EReal) (hp : ∀ u, IsReal (p u)) (z : Fin 512) :
    knorm p onesAt (fun u => g ⟨(u : ℕ) % 64, by omega⟩) z = rnorm p g z := by
  unfold knorm rnorm ksum
  have h0 : (∑ k : Fin 256, (p ⟨(z : ℕ) / 256 * 256 + k, by omega⟩ * p ⟨(z : ℕ) / 256 * 256 + k, by omega⟩
      - p ⟨(z : ℕ) / 256 * 256 + k, by omega⟩ * p ⟨(z : ℕ) / 256 * 256 + k, by omega⟩) * onesAt k ⟨(z : ℕ) % 256, by omega⟩) = 0 :=
    Finset.sum_eq_zero fun k _ => by rw [IsReal.sub_self ((hp _).mul (hp _)), zero_mul]
  rw [h0, add_zero, sum_head (fun u => p u * p u) z, ofBits_64, Ideal.div_coe (by norm_num), ofBits_64th]

/-- The kernel's rotation is the reference's. -/
theorem krope_eq (y : Fin 512 → EReal) (n : Fin 2304) (hn : ¬ (n : ℕ) < 256) (u : Fin 512) : krope y (cosAt n) (sinAt n) u
    = rotL (fun l => y ⟨(u : ℕ) / 64 * 64 + l, by omega⟩)
      (fun f => Ideal.cos (angle ((n - 256 : ℕ) / 64) f)) (fun f => Ideal.sin (angle ((n - 256 : ℕ) / 64) f))
      (fun f => Ideal.cos (angle ((n - 256 : ℕ) % 64) f)) (fun f => Ideal.sin (angle ((n - 256 : ℕ) % 64) f)) ⟨(u : ℕ) % 64, by omega⟩ := by
  have hu := u.isLt
  unfold krope cosAt sinAt rotL tab
  rw [dif_neg hn, dif_neg hn]
  have ey : ∀ a b : Fin 512, (a : ℕ) = b → y a = y b := fun a b h => congrArg y (Fin.ext h)
  have eC : ∀ (q : ℕ) (a b : Fin 16), (a : ℕ) = b → Ideal.cos (angle q a) = Ideal.cos (angle q b) := fun q a b h => congrArg (fun f => Ideal.cos (angle q f)) (Fin.ext h)
  have eS : ∀ (q : ℕ) (a b : Fin 16), (a : ℕ) = b → Ideal.sin (angle q a) = Ideal.sin (angle q b) := fun q a b h => congrArg (fun f => Ideal.sin (angle q f)) (Fin.ext h)
  have en : y u = y ⟨(u : ℕ) / 64 * 64 + (u : ℕ) % 64, by omega⟩ := ey _ _ (by simp only []; omega)
  have hm : (u : ℕ) % 128 % 64 = (u : ℕ) % 64 := by omega
  simp only [hm]
  by_cases h0 : (u : ℕ) % 64 < 16
  · have hp : y (partner u) = y ⟨(u : ℕ) / 64 * 64 + ((u : ℕ) % 64 + 16), by omega⟩ := by
      unfold partner
      rw [if_pos (by omega)]
      exact ey _ _ (by simp only []; omega)
    rw [if_pos h0, if_pos h0, dif_pos h0, hp, mul_neg, ← sub_eq_add_neg, en, eC _ _ ⟨(u : ℕ) % 64, h0⟩ (by simp only []; omega),
      eS _ _ ⟨(u : ℕ) % 64, h0⟩ (by simp only []; omega)]
  rw [if_neg h0, if_neg h0, dif_neg h0]
  by_cases h1 : (u : ℕ) % 64 < 32
  · have hp : y (partner u) = y ⟨(u : ℕ) / 64 * 64 + ((u : ℕ) % 64 - 16), by omega⟩ := by
      unfold partner
      rw [if_neg (by omega)]
      exact ey _ _ (by simp only []; omega)
    rw [if_pos h1, if_pos h1, dif_pos h1, hp, en, eC _ _ ⟨(u : ℕ) % 64 - 16, by omega⟩ (by simp only []; omega),
      eS _ _ ⟨(u : ℕ) % 64 - 16, by omega⟩ (by simp only []; omega)]
  rw [if_neg h1, if_neg h1, dif_neg h1]
  by_cases h2 : (u : ℕ) % 64 < 48
  · have hp : y (partner u) = y ⟨(u : ℕ) / 64 * 64 + ((u : ℕ) % 64 + 16), by omega⟩ := by
      unfold partner
      rw [if_pos (by omega)]
      exact ey _ _ (by simp only []; omega)
    rw [if_pos h2, if_pos h2, dif_pos h2, hp, mul_neg, ← sub_eq_add_neg, en, eC _ _ ⟨(u : ℕ) % 64 - 32, by omega⟩ (by simp only []; omega),
      eS _ _ ⟨(u : ℕ) % 64 - 32, by omega⟩ (by simp only []; omega)]
  · have hp : y (partner u) = y ⟨(u : ℕ) / 64 * 64 + ((u : ℕ) % 64 - 16), by omega⟩ := by
      unfold partner
      rw [if_neg (by omega)]
      exact ey _ _ (by simp only []; omega)
    rw [if_neg h2, if_neg h2, dif_neg h2, hp, en, eC _ _ ⟨(u : ℕ) % 64 - 48, by omega⟩ (by simp only []; omega),
      eS _ _ ⟨(u : ℕ) % 64 - 48, by omega⟩ (by simp only []; omega)]

/-- The two heads agree where the products are real. -/
theorem head_eq (p : Fin 512 → EReal) (g : Fin 64 → EReal) (hp : ∀ u, IsReal (p u)) (n : Fin 2304) (u : Fin 512) :
    kerHead p g n u = refHead p g n u := by
  unfold kerHead refHead
  have e : knorm p onesAt (fun u => g ⟨(u : ℕ) % 64, by omega⟩) = rnorm p g := funext fun z => knorm_eq p g hp z
  rw [e]
  by_cases hn : (n : ℕ) < 256
  · rw [if_pos hn]
    unfold krope cosAt sinAt
    rw [dif_pos hn, dif_pos hn, mul_one, mul_zero, add_zero]
  · rw [if_neg hn]
    exact krope_eq _ n hn u

/-- A row of real numbers normalised and modulated is a row of real numbers. -/
theorem hid_real (x g sh sc : Fin 1024 → EReal) (hx : ∀ k, IsReal (x k)) (hg : ∀ k, IsReal (g k)) (hsh : ∀ k, IsReal (sh k))
    (hsc : ∀ k, IsReal (sc k)) (k : Fin 1024) : IsReal (hid x g sh sc k) := by
  unfold hid
  have hr : IsReal (Ideal.rsqrt (Ideal.div (∑ k, x k * x k) (Ideal.ofBits FTy.f32 0x44800000#32) + Ideal.ofBits FTy.f32 0x358637BD#32)) := by
    choose a ha using hx
    obtain ⟨e, he, hE⟩ := ofBits_eps
    have hs : (∑ k, x k * x k) = ((∑ k, a k * a k : ℝ) : EReal) := by
      rw [← coe_sum]
      exact Finset.sum_congr rfl fun k _ => by rw [ha, EReal.coe_mul]
    have hpos : 0 < (∑ k, a k * a k) * (1 / 1024) + e :=
      add_pos_of_nonneg_of_pos (mul_nonneg (Finset.sum_nonneg fun k _ => mul_self_nonneg _) (by norm_num)) he
    rw [hs, ofBits_1024, hE, Ideal.div_coe (by norm_num), ← EReal.coe_mul, ← EReal.coe_add, Ideal.rsqrt_coe, if_neg (not_lt.mpr hpos.le),
      if_neg hpos.ne']
    exact ⟨_, rfl⟩
  exact ((((hx k).mul hr).mul (hg k)).mul (IsReal.add ⟨1, by simp⟩ (hsc k))).add (hsh k)

/-- The columns as the nested choice of parts. -/
theorem chunks_of (P : Fin 8720 → EReal) (q k : Fin 512 → EReal) (z : Fin 8192) :
    (if h : (z : ℕ) < 3072 then Ideal.logistic (P ⟨5648 + z, by omega⟩)
    else if h : (z : ℕ) - 3072 < 512 then P ⟨512 + (z - 3072), by omega⟩ * Ideal.logistic (P ⟨512 + (z - 3072), by omega⟩)
    else if h : (z : ℕ) - 3072 - 512 < 1024 then P ⟨1024 + (z - 3072 - 512), by omega⟩
    else if h : (z : ℕ) - 3072 - 512 - 1024 < 512 then P ⟨2048 + (z - 3072 - 512 - 1024), by omega⟩
    else if h : (z : ℕ) - 3072 - 512 - 1024 - 512 < 512 then Ideal.logistic (P ⟨2560 + (z - 3072 - 512 - 1024 - 512), by omega⟩)
    else if h : (z : ℕ) - 3072 - 512 - 1024 - 512 - 512 < 512 then
      P ⟨3072 + (z - 3072 - 512 - 1024 - 512 - 512), by omega⟩ * Ideal.logistic (P ⟨3072 + (z - 3072 - 512 - 1024 - 512 - 512), by omega⟩)
    else if h : (z : ℕ) - 3072 - 512 - 1024 - 512 - 512 - 512 < 512 then q ⟨z - 3072 - 512 - 1024 - 512 - 512 - 512, h⟩
    else if h : (z : ℕ) - 3072 - 512 - 1024 - 512 - 512 - 512 - 512 < 512 then k ⟨z - 3072 - 512 - 1024 - 512 - 512 - 512 - 512, h⟩
    else if h : (z : ℕ) - 3072 - 512 - 1024 - 512 - 512 - 512 - 512 - 512 < 512 then P ⟨4624 + (z - 3072 - 512 - 1024 - 512 - 512 - 512 - 512 - 512), by omega⟩
    else P ⟨5136 + (z - 3072 - 512 - 1024 - 512 - 512 - 512 - 512 - 512 - 512), by omega⟩
      * Ideal.logistic (P ⟨5136 + (z - 3072 - 512 - 1024 - 512 - 512 - 512 - 512 - 512 - 512), by omega⟩))
    = chunks (fun z => P (col z)) q k z := by
  have hz := z.isLt
  have ep : ∀ a : Fin 8720, (a : ℕ) = (if (z : ℕ) < 3072 then 5648 + z else if (z : ℕ) < 6144 then z - 2560 else z - 2544 : ℕ) → P a = P (col z) := by
    intro a h
    refine congrArg P (Fin.ext (h.trans ?_))
    unfold col
    split
    · rfl
    · split <;> rfl
  unfold chunks
  by_cases h0 : (z : ℕ) < 3072
  · rw [dif_pos h0, if_pos h0, ep _ (by rw [if_pos h0])]
  rw [dif_neg h0, if_neg h0]
  by_cases h1 : (z : ℕ) < 3584
  · rw [dif_pos (by omega), if_pos h1, ep _ (by rw [if_neg h0, if_pos (by omega)]; simp only []; omega)]
  rw [dif_neg (by omega), if_neg h1]
  by_cases h2 : (z : ℕ) < 5120
  · rw [if_pos h2]
    by_cases h3 : (z : ℕ) < 4608
    · rw [dif_pos (by omega), ep _ (by rw [if_neg h0, if_pos (by omega)]; simp only []; omega)]
    · rw [dif_neg (by omega), dif_pos (by omega), ep _ (by rw [if_neg h0, if_pos (by omega)]; simp only []; omega)]
  rw [dif_neg (by omega), dif_neg (by omega), if_neg h2]
  by_cases h3 : (z : ℕ) < 5632
  · rw [dif_pos (by omega), if_pos h3, ep _ (by rw [if_neg h0, if_pos (by omega)]; simp only []; omega)]
  rw [dif_neg (by omega), if_neg h3]
  by_cases h4 : (z : ℕ) < 6144
  · rw [dif_pos (by omega), if_pos h4, ep _ (by rw [if_neg h0, if_pos (by omega)]; simp only []; omega)]
  rw [dif_neg (by omega), if_neg h4]
  by_cases h5 : (z : ℕ) < 6656
  · rw [dif_pos (by omega), dif_pos h5]
    exact congrArg q (Fin.ext (by simp only []; omega))
  rw [dif_neg (by omega), dif_neg h5]
  by_cases h6 : (z : ℕ) < 7168
  · rw [dif_pos (by omega), dif_pos h6]
    exact congrArg k (Fin.ext (by simp only []; omega))
  rw [dif_neg (by omega), dif_neg h6]
  by_cases h7 : (z : ℕ) < 7680
  · rw [dif_pos (by omega), if_pos h7, ep _ (by rw [if_neg h0, if_neg (by omega)]; simp only []; omega)]
  rw [dif_neg (by omega), if_neg h7, ep _ (by rw [if_neg h0, if_neg (by omega)]; simp only []; omega)]

/-- The rotated lane as the nested choice of parts. -/
theorem rot_of (y : Fin 64 → EReal) (cr sr cc sc : Fin 16 → EReal) (l : Fin 64) :
    (if h : (l : ℕ) < 32 then
      if h : (l : ℕ) < 16 then y ⟨l, by omega⟩ * cr ⟨l, h⟩ - y ⟨16 + l, by omega⟩ * sr ⟨l, h⟩
      else y ⟨16 + (l - 16), by omega⟩ * cr ⟨l - 16, by omega⟩ + y ⟨l - 16, by omega⟩ * sr ⟨l - 16, by omega⟩
    else if h : (l : ℕ) - 32 < 16 then y ⟨32 + (l - 32), by omega⟩ * cc ⟨l - 32, h⟩ - y ⟨32 + (16 + (l - 32)), by omega⟩ * sc ⟨l - 32, h⟩
      else y ⟨32 + (16 + (l - 32 - 16)), by omega⟩ * cc ⟨l - 32 - 16, by omega⟩ + y ⟨32 + (l - 32 - 16), by omega⟩ * sc ⟨l - 32 - 16, by omega⟩)
    = rotL y cr sr cc sc l := by
  have hl := l.isLt
  have ey : ∀ a b : Fin 64, (a : ℕ) = b → y a = y b := fun a b h => congrArg y (Fin.ext h)
  unfold rotL
  by_cases h0 : (l : ℕ) < 16
  · rw [dif_pos (by omega), dif_pos h0, dif_pos h0]
    exact congrArg₂ (· - ·) rfl (congrArg (· * _) (ey _ _ (by simp only []; omega)))
  by_cases h1 : (l : ℕ) < 32
  · rw [dif_pos h1, dif_neg h0, dif_neg h0, dif_pos h1]
    exact congrArg₂ (· + ·) (congrArg (· * _) (ey _ _ (by simp only []; omega))) rfl
  rw [dif_neg h1, dif_neg h0, dif_neg h1]
  by_cases h2 : (l : ℕ) < 48
  · rw [dif_pos (by omega), dif_pos h2]
    exact congrArg₂ (· - ·) (congrArg (· * _) (ey _ _ (by simp only []; omega))) (congrArg (· * _) (ey _ _ (by simp only []; omega)))
  · rw [dif_neg (by omega), dif_neg h2]
    exact congrArg₂ (· + ·) (congrArg₂ (· * ·) (ey _ _ (by simp only []; omega)) (congrArg cc (Fin.ext (by simp only []; omega))))
      (congrArg₂ (· * ·) (ey _ _ (by simp only []; omega)) (congrArg sc (Fin.ext (by simp only []; omega))))

end Cert.Inp

end
-- ==== Proof.InRefOps.lean ====
/-
  The input projection's reference in parts: the rotation of the heads and the joining of the packed columns.
-/
module

public import proofs.«01_k».proof.Proof.InRow
public import proofs.«01_k».proof.Proof.Gen.Reference3Ideal.Run
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

/-- The latent tokens' half of the lanes for the row coordinate. -/
def halfR (v : FVec Ideal S16x2304x4x2x64 .f32) : FVec Ideal S16x2048x4x2x32 .f32 :=
  extractStridedSlice S16x2048x4x2x32 ![0, 0, 0, 0, 0] (extractStridedSlice S16x2048x4x2x64 ![0, 256, 0, 0, 0] v slices_S16x2304x4x2x64_S16x2048x4x2x64_0_256_0_0_0) slices_S16x2048x4x2x64_S16x2048x4x2x32_0_0_0_0_0

/-- The latent tokens' half of the lanes for the column coordinate. -/
def halfC (v : FVec Ideal S16x2304x4x2x64 .f32) : FVec Ideal S16x2048x4x2x32 .f32 :=
  extractStridedSlice S16x2048x4x2x32 ![0, 0, 0, 0, 32] (extractStridedSlice S16x2048x4x2x64 ![0, 256, 0, 0, 0] v slices_S16x2304x4x2x64_S16x2048x4x2x64_0_256_0_0_0) slices_S16x2048x4x2x64_S16x2048x4x2x32_0_0_0_0_32

/-- The four quarters of a latent token's lanes. -/
def part0 (v : FVec Ideal S16x2304x4x2x64 .f32) : FVec Ideal S16x2048x4x2x16 .f32 :=
  extractStridedSlice S16x2048x4x2x16 ![0, 0, 0, 0, 0] (halfR v) slices_S16x2048x4x2x32_S16x2048x4x2x16_0_0_0_0_0

@[inherit_doc part0] def part1 (v : FVec Ideal S16x2304x4x2x64 .f32) : FVec Ideal S16x2048x4x2x16 .f32 :=
  extractStridedSlice S16x2048x4x2x16 ![0, 0, 0, 0, 16] (halfR v) slices_S16x2048x4x2x32_S16x2048x4x2x16_0_0_0_0_16

@[inherit_doc part0] def part2 (v : FVec Ideal S16x2304x4x2x64 .f32) : FVec Ideal S16x2048x4x2x16 .f32 :=
  extractStridedSlice S16x2048x4x2x16 ![0, 0, 0, 0, 0] (halfC v) slices_S16x2048x4x2x32_S16x2048x4x2x16_0_0_0_0_0

@[inherit_doc part0] def part3 (v : FVec Ideal S16x2304x4x2x64 .f32) : FVec Ideal S16x2048x4x2x16 .f32 :=
  extractStridedSlice S16x2048x4x2x16 ![0, 0, 0, 0, 16] (halfC v) slices_S16x2048x4x2x32_S16x2048x4x2x16_0_0_0_0_16

/-- The rotation of every head on the latent tokens. -/
def rot (v : FVec Ideal S16x2304x4x2x64 .f32) (cr sr cc sc : FVec Ideal S2048x1x1x16 .f32) : FVec Ideal S16x2304x4x2x64 .f32 :=
  (concatenate S16x2304x4x2x64 1 [⟨S16x256x4x2x64, (extractStridedSlice S16x256x4x2x64 ![0, 0, 0, 0, 0] v slices_S16x2304x4x2x64_S16x256x4x2x64_0_0_0_0_0)⟩,
    ⟨S16x2048x4x2x64, (concatenate S16x2048x4x2x64 4 [⟨S16x2048x4x2x32, (concatenate S16x2048x4x2x32 4 [⟨S16x2048x4x2x16, (subf (F := Ideal) (mulf (part0 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 cr))) (mulf (part1 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 sr))))⟩,
    ⟨S16x2048x4x2x16, (addf (mulf (part1 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 cr))) (mulf (part0 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 sr))))⟩] concatenates_S16x2048x4x2x16_S16x2048x4x2x16_S16x2048x4x2x32_d4)⟩,
    ⟨S16x2048x4x2x32, (concatenate S16x2048x4x2x32 4 [⟨S16x2048x4x2x16, (subf (F := Ideal) (mulf (part2 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 cc))) (mulf (part3 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 sc))))⟩,
    ⟨S16x2048x4x2x16, (addf (mulf (part3 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 cc))) (mulf (part2 v) (broadcastInDim S16x2048x4x2x16 ![0, 1, 2, 3, 4] bcast_S1x2048x1x1x16_S16x2048x4x2x16_0_1_2_3_4 (broadcastInDim S1x2048x1x1x16 ![1, 2, 3, 4] bcast_S2048x1x1x16_S1x2048x1x1x16_1_2_3_4 sc))))⟩] concatenates_S16x2048x4x2x16_S16x2048x4x2x16_S16x2048x4x2x32_d4)⟩] concatenates_S16x2048x4x2x32_S16x2048x4x2x32_S16x2048x4x2x64_d4)⟩] concatenates_S16x256x4x2x64_S16x2048x4x2x64_S16x2304x4x2x64_d1)

/-- The packed projection from the plain one and the finished heads. -/
def join (p : FVec Ideal S16x2304x8720 .f32) (q k : FVec Ideal S16x2304x512 .f32) : FVec Ideal S16x2304x8192 .f32 :=
  (concatenate S16x2304x8192 2 [⟨S16x2304x3072, ((Host.divf (broadcastInDim S16x2304x3072 ![] bcast_S_S16x2304x3072 (constant S_ .f32 0x3F800000#32)) (addf (broadcastInDim S16x2304x3072 ![] bcast_S_S16x2304x3072 (constant S_ .f32 0x3F800000#32)) (Host.exp (Host.negf (extractStridedSlice S16x2304x3072 ![0, 0, 5648] p slices_S16x2304x8720_S16x2304x3072_0_0_5648))))) : FVec Ideal S16x2304x3072 .f32)⟩,
    ⟨S16x2304x512, ((mulf (extractStridedSlice S16x2304x512 ![0, 0, 512] p slices_S16x2304x8720_S16x2304x512_0_0_512 : FVec Ideal S16x2304x512 .f32) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 512] p slices_S16x2304x8720_S16x2304x512_0_0_512 : FVec Ideal S16x2304x512 .f32)))))) : FVec Ideal S16x2304x512 .f32)⟩,
    ⟨S16x2304x1024, ((extractStridedSlice S16x2304x1024 ![0, 0, 1024] p slices_S16x2304x8720_S16x2304x1024_0_0_1024) : FVec Ideal S16x2304x1024 .f32)⟩,
    ⟨S16x2304x512, ((extractStridedSlice S16x2304x512 ![0, 0, 2048] p slices_S16x2304x8720_S16x2304x512_0_0_2048) : FVec Ideal S16x2304x512 .f32)⟩,
    ⟨S16x2304x512, ((Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 2560] p slices_S16x2304x8720_S16x2304x512_0_0_2560))))) : FVec Ideal S16x2304x512 .f32)⟩,
    ⟨S16x2304x512, ((mulf (extractStridedSlice S16x2304x512 ![0, 0, 3072] p slices_S16x2304x8720_S16x2304x512_0_0_3072 : FVec Ideal S16x2304x512 .f32) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 3072] p slices_S16x2304x8720_S16x2304x512_0_0_3072 : FVec Ideal S16x2304x512 .f32)))))) : FVec Ideal S16x2304x512 .f32)⟩,
    ⟨S16x2304x512, (q : FVec Ideal S16x2304x512 .f32)⟩,
    ⟨S16x2304x512, (k : FVec Ideal S16x2304x512 .f32)⟩,
    ⟨S16x2304x512, ((extractStridedSlice S16x2304x512 ![0, 0, 4624] p slices_S16x2304x8720_S16x2304x512_0_0_4624) : FVec Ideal S16x2304x512 .f32)⟩,
    ⟨S16x2304x512, ((mulf (extractStridedSlice S16x2304x512 ![0, 0, 5136] p slices_S16x2304x8720_S16x2304x512_0_0_5136 : FVec Ideal S16x2304x512 .f32) (Host.divf (broadcastInDim S16x2304x512 ![] bcast_S_S16x2304x512 (constant S_ .f32 0x3F800000#32)) (addf (broadcastInDim S16x2304x512 ![] bcast_S_S16x2304x512 (constant S_ .f32 0x3F800000#32)) (Host.exp (Host.negf (extractStridedSlice S16x2304x512 ![0, 0, 5136] p slices_S16x2304x8720_S16x2304x512_0_0_5136 : FVec Ideal S16x2304x512 .f32)))))) : FVec Ideal S16x2304x512 .f32)⟩] concatenates_S16x2304x3072_S16x2304x512_S16x2304x1024_S16x2304x512_S16x2304x512_S16x2304x512_S16x2304x512_S16x2304x512_S16x2304x512_S16x2304x512_S16x2304x8192_d2 : FVec Ideal S16x2304x8192 .f32)

variable (V0 : Valuation τ sig (Elt Ideal))

theorem whole : res_main_v227 V0 = join (res_main_v50 V0)
    (mulf (shapeCast _ (rot (res_main_v127 V0) (res_main_v93 V0) (res_main_v95 V0) (res_main_v97 V0) (res_main_v99 V0)) shapeCasts_S16x2304x4x2x64_S16x2304x512)
      (broadcastInDim S16x2304x512 ![] bcast_S_S16x2304x512 (constant S_ .f32 0x3E000000#32)))
    (shapeCast _ (rot (res_main_v184 V0) (res_main_v93 V0) (res_main_v95 V0) (res_main_v97 V0) (res_main_v99 V0)) shapeCasts_S16x2304x4x2x64_S16x2304x512) := by
  unfold res_main_v227
  rfl

end Cert.Inp.Ref

end
-- ==== Proof.InRefProj.lean ====
/-
  The input projection's reference: the projection itself, and the two results that only move its columns, at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

theorem proj_at (b : Fin 16) (n : Fin 2304) (j : Fin 8720) : res_main_v50 V0 (ix3 b n j)
    = projAt (V0 (Proc.devRef .tc main_arg0)) (V0 (Proc.devRef .tc main_arg1)) (V0 (Proc.devRef .tc main_arg2))
        (V0 (Proc.devRef .tc main_arg3)) (V0 (Proc.devRef .tc main_arg4)) b n j := by
  pointwise [res_main_v50]
  unfold projAt pcol hid tok mrow
  by_cases h : (n : ℕ) < 256
  · simp only [dif_pos h, if_pos h]
  · simp only [dif_neg h, if_neg h]

/-- The slabs of the reference, at an index. -/
theorem slab_at (s : Fin 4) (a : Fin 144) (b : Fin 16) (q : Fin 16) (k : Fin 128) :
    (truncf .bf16 (transpose S4x144x16x16x128 [3, 1, 0, 2, 4] (shapeCast _ (extractStridedSlice S16x2304x512 ![0, 0, 0] (res_main_v50 V0) slices_S16x2304x8720_S16x2304x512_0_0_0) shapeCasts_S16x2304x512_S16x144x16x4x128) transposes_S16x144x16x4x128_S4x144x16x16x128_3_1_0_2_4) bitsLt_bf16_f32 : FVec Ideal S4x144x16x16x128 .bf16) (ix5 s a b q k)
      = projAt (V0 (Proc.devRef .tc main_arg0)) (V0 (Proc.devRef .tc main_arg1)) (V0 (Proc.devRef .tc main_arg2))
        (V0 (Proc.devRef .tc main_arg3)) (V0 (Proc.devRef .tc main_arg4)) b (tokOf a q) (chanOf s k) := by
  refine Eq.trans ?_ (proj_at V0 b (tokOf a q) (chanOf s k))
  pointwise
  exact congrArg (fun j => res_main_v50 V0 (ix3 b (tokOf a q) j)) (Fin.ext (by unfold chanOf; simp only []; omega))

/-- The gates of the reference, at an index. -/
theorem gates_at (b : Fin 16) (g : Fin 16) (n : Fin 2304) :
    (transpose S16x16x2304 [0, 2, 1] (extractStridedSlice S16x2304x16 ![0, 0, 3584] (res_main_v50 V0) slices_S16x2304x8720_S16x2304x16_0_0_3584) transposes_S16x2304x16_S16x16x2304_0_2_1 : FVec Ideal S16x16x2304 .f32) (ix3 b g n)
      = projAt (V0 (Proc.devRef .tc main_arg0)) (V0 (Proc.devRef .tc main_arg1)) (V0 (Proc.devRef .tc main_arg2))
        (V0 (Proc.devRef .tc main_arg3)) (V0 (Proc.devRef .tc main_arg4)) b n (gateOf g) := by
  refine Eq.trans ?_ (proj_at V0 b n (gateOf g))
  pointwise
  rfl

end Cert.Inp.Ref

end
-- ==== Proof.InRefRot.lean ====
/-
  The input projection's reference: the rotary turn at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

theorem rot_at (v : FVec Ideal S16x2304x4x2x64 .f32) (cr sr cc sc : FVec Ideal S2048x1x1x16 .f32) (b : Fin 16) (n : Fin 2304) (h : Fin 4) (s : Fin 2) (l : Fin 64) :
    rot v cr sr cc sc (ix5 b n h s l) = if hn : (n : ℕ) < 256 then v (ix5 b n h s l)
      else rotL (fun l => v (ix5 b n h s l)) (fun f => cr (ix4 ⟨n - 256, by omega⟩ 0 0 f)) (fun f => sr (ix4 ⟨n - 256, by omega⟩ 0 0 f))
        (fun f => cc (ix4 ⟨n - 256, by omega⟩ 0 0 f)) (fun f => sc (ix4 ⟨n - 256, by omega⟩ 0 0 f)) l := by
  pointwise [rot, part0, part1, part2, part3, halfR, halfC]
  refine dite_congr rfl (fun _ => rfl) fun hn => ?_
  have e : (⟨256 + (n - 256), by omega⟩ : Fin 2304) = n := Fin.ext (by simp only []; omega)
  refine (rot_of (fun l => v (ix5 b ⟨256 + (n - 256), by omega⟩ h s l)) (fun f => cr (ix4 ⟨n - 256, by omega⟩ 0 0 f)) (fun f => sr (ix4 ⟨n - 256, by omega⟩ 0 0 f))
        (fun f => cc (ix4 ⟨n - 256, by omega⟩ 0 0 f)) (fun f => sc (ix4 ⟨n - 256, by omega⟩ 0 0 f)) l).trans ?_
  exact congrArg (fun n' => rotL (fun l => v (ix5 b n' h s l)) (fun f => cr (ix4 ⟨n - 256, by omega⟩ 0 0 f)) (fun f => sr (ix4 ⟨n - 256, by omega⟩ 0 0 f))
        (fun f => cc (ix4 ⟨n - 256, by omega⟩ 0 0 f)) (fun f => sc (ix4 ⟨n - 256, by omega⟩ 0 0 f)) l) e

theorem flat_at (v : FVec Ideal S16x2304x4x2x64 .f32) (b : Fin 16) (n : Fin 2304) (u : Fin 512) :
    shapeCast S16x2304x512 v shapeCasts_S16x2304x4x2x64_S16x2304x512 (ix3 b n u)
      = v (ix5 b n ⟨(u : ℕ) / 128, by omega⟩ ⟨(u : ℕ) / 64 % 2, by omega⟩ ⟨(u : ℕ) % 64, by omega⟩) := by
  pointwise

theorem scale_at (v : FVec Ideal S16x2304x512 .f32) (b : Fin 16) (n : Fin 2304) (u : Fin 512) :
    mulf v (broadcastInDim S16x2304x512 ![] bcast_S_S16x2304x512 (constant S_ .f32 0x3E000000#32) : FVec Ideal S16x2304x512 .f32) (ix3 b n u)
      = (v (ix3 b n u) * Ideal.ofBits FTy.f32 0x3E000000#32 : EReal) := by
  pointwise

end Cert.Inp.Ref

end
-- ==== Proof.InRefJoin.lean ====
/-
  The input projection's reference: the packed columns at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

theorem join_at (p : FVec Ideal S16x2304x8720 .f32) (q k : FVec Ideal S16x2304x512 .f32) (b : Fin 16) (n : Fin 2304) (z : Fin 8192) :
    join p q k (ix3 b n z) = chunks (fun z => p (ix3 b n (col z))) (fun u => q (ix3 b n u)) (fun u => k (ix3 b n u)) z := by
  pointwise [join]
  exact chunks_of (fun j => p (ix3 b n j)) (fun u => q (ix3 b n u)) (fun u => k (ix3 b n u)) z

end Cert.Inp.Ref

end
-- ==== Proof.InRefHeads.lean ====
/-
  The input projection's reference: the normalised heads at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

/-- A head's normalisation, on arrays. -/
def norm (v : FVec Ideal S16x2304x4x2x64 .f32) (g : FVec Ideal S64 .f32) : FVec Ideal S16x2304x4x2x64 .f32 :=
  mulf (mulf v (broadcastInDim S16x2304x4x2x64 ![0, 1, 2, 3, 4] bcast_S16x2304x4x2x1_S16x2304x4x2x64_0_1_2_3_4 (Host.rsqrt (addf (Host.divf (broadcastInDim S16x2304x4x2x1 ![0, 1, 2, 3] bcast_S16x2304x4x2_S16x2304x4x2x1_0_1_2_3 (Host.reduceAdd (mulf v v) (constant S_ .f32 0x00000000#32) reducesTo_S16x2304x4x2x64_S16x2304x4x2_d4 h_S_)) (broadcastInDim S16x2304x4x2x1 ![] bcast_S_S16x2304x4x2x1 (constant S_ .f32 0x42800000#32))) (broadcastInDim S16x2304x4x2x1 ![] bcast_S_S16x2304x4x2x1 (constant S_ .f32 0x358637BD#32)))))) (broadcastInDim S16x2304x4x2x64 ![0, 1, 2, 3, 4] bcast_S1x1x1x1x64_S16x2304x4x2x64_0_1_2_3_4 (broadcastInDim S1x1x1x1x64 ![4] bcast_S64_S1x1x1x1x64_4 g))

theorem norm_at (v : FVec Ideal S16x2304x4x2x64 .f32) (g : FVec Ideal S64 .f32) (b : Fin 16) (n : Fin 2304) (h : Fin 4) (s : Fin 2) (l : Fin 64) :
    norm v g (ix5 b n h s l) = (v (ix5 b n h s l) * Ideal.rsqrt (Ideal.div (∑ x : Fin 64, v (ix5 b n h s x) * v (ix5 b n h s x)) (Ideal.ofBits FTy.f32 0x42800000#32)
      + Ideal.ofBits FTy.f32 0x358637BD#32) * g (ix1 l) : EReal) := by
  pointwise [norm]

/-- A normalised head whose entries are 512 columns `p`. -/
theorem norm_of (v : FVec Ideal S16x2304x4x2x64 .f32) (g : FVec Ideal S64 .f32) (p : Fin 512 → EReal) (b : Fin 16) (n : Fin 2304)
    (hv : ∀ (h : Fin 4) (s : Fin 2) (l : Fin 64), v (ix5 b n h s l) = p ⟨h * 128 + s * 64 + l, by omega⟩) (h : Fin 4) (s : Fin 2) (l : Fin 64) :
    norm v g (ix5 b n h s l) = rnorm p (fun l => g (ix1 l)) ⟨h * 128 + s * 64 + l, by omega⟩ := by
  refine (norm_at v g b n h s l).trans ?_
  unfold rnorm
  have hx : ∀ x : Fin 64, v (ix5 b n h s x) = p ⟨(h * 128 + s * 64 + l : ℕ) / 64 * 64 + x, by omega⟩ := fun x =>
    (hv h s x).trans (congrArg p (Fin.ext (by simp only []; omega)))
  have hl : l = ⟨(h * 128 + s * 64 + l : ℕ) % 64, by omega⟩ := Fin.ext (by simp only []; omega)
  simp only [hx]
  rw [← hx l, hv h s l]
  exact congrArg₂ (· * ·) rfl (congrArg (fun l => g (ix1 l)) hl)

/-- The columns of q and those of k as heads. -/
theorem heads_at (p : FVec Ideal S16x2304x8720 .f32) (b : Fin 16) (n : Fin 2304) (h : Fin 4) (s : Fin 2) (l : Fin 64) :
    shapeCast S16x2304x4x2x64 (extractStridedSlice S16x2304x512 ![0, 0, 3600] p slices_S16x2304x8720_S16x2304x512_0_0_3600) shapeCasts_S16x2304x512_S16x2304x4x2x64 (ix5 b n h s l)
      = p (ix3 b n ⟨3600 + (h * 128 + s * 64 + l), by omega⟩) := by
  pointwise

theorem heads_at2 (p : FVec Ideal S16x2304x8720 .f32) (b : Fin 16) (n : Fin 2304) (h : Fin 4) (s : Fin 2) (l : Fin 64) :
    shapeCast S16x2304x4x2x64 (extractStridedSlice S16x2304x512 ![0, 0, 4112] p slices_S16x2304x8720_S16x2304x512_0_0_4112) shapeCasts_S16x2304x512_S16x2304x4x2x64 (ix5 b n h s l)
      = p (ix3 b n ⟨4112 + (h * 128 + s * 64 + l), by omega⟩) := by
  pointwise

variable (V0 : Valuation τ sig (Elt Ideal))

theorem q_at (b : Fin 16) (n : Fin 2304) (h : Fin 4) (s : Fin 2) (l : Fin 64) : res_main_v127 V0 (ix5 b n h s l)
    = rnorm (fun u => res_main_v50 V0 (ix3 b n ⟨3600 + u, by omega⟩)) (fun l => V0 (Proc.devRef .tc main_arg5) (ix1 l)) ⟨h * 128 + s * 64 + l, by omega⟩ :=
  norm_of (res_main_v114 V0) (V0 (Proc.devRef .tc main_arg5))
    (fun u => res_main_v50 V0 (ix3 b n ⟨3600 + u, by omega⟩)) b n (fun h s l => heads_at (res_main_v50 V0) b n h s l) h s l

theorem k_at (b : Fin 16) (n : Fin 2304) (h : Fin 4) (s : Fin 2) (l : Fin 64) : res_main_v184 V0 (ix5 b n h s l)
    = rnorm (fun u => res_main_v50 V0 (ix3 b n ⟨4112 + u, by omega⟩)) (fun l => V0 (Proc.devRef .tc main_arg6) (ix1 l)) ⟨h * 128 + s * 64 + l, by omega⟩ :=
  norm_of (res_main_v171 V0) (V0 (Proc.devRef .tc main_arg6))
    (fun u => res_main_v50 V0 (ix3 b n ⟨4112 + u, by omega⟩)) b n (fun h s l => heads_at2 (res_main_v50 V0) b n h s l) h s l

end Cert.Inp.Ref

end
-- ==== Proof.InRefAngle.lean ====
/-
  The input projection's reference: the rotary table of the rows at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

theorem cr_at (n : Fin 2048) (f : Fin 16) : res_main_v93 V0 (ix4 n 0 0 f) = Ideal.cos (angle ((n : ℕ) / 64) f) := by
  pointwise [res_main_v93, res_main_v86, res_main_v81]
  rfl

theorem sr_at (n : Fin 2048) (f : Fin 16) : res_main_v95 V0 (ix4 n 0 0 f) = Ideal.sin (angle ((n : ℕ) / 64) f) := by
  pointwise [res_main_v95, res_main_v86, res_main_v81]
  rfl

end Cert.Inp.Ref

end
-- ==== Proof.InRefAngle2.lean ====
/-
  The input projection's reference: the rotary table of the columns at an index.
-/
module

public import proofs.«01_k».proof.Proof.InTie
public import proofs.«01_k».proof.Proof.InRefOps
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

theorem cc_at (n : Fin 2048) (f : Fin 16) : res_main_v97 V0 (ix4 n 0 0 f) = Ideal.cos (angle ((n : ℕ) % 64) f) := by
  pointwise [res_main_v97, res_main_v91, res_main_v81]
  rfl

theorem sc_at (n : Fin 2048) (f : Fin 16) : res_main_v99 V0 (ix4 n 0 0 f) = Ideal.sin (angle ((n : ℕ) % 64) f) := by
  pointwise [res_main_v99, res_main_v91, res_main_v81]
  rfl

end Cert.Inp.Ref

end
-- ==== Proof.InRef.lean ====
/-
  The input projection's reference, read at an index: the packed projection as a function of the arguments.
-/
module

public import proofs.«01_k».proof.Proof.InRefProj
public import proofs.«01_k».proof.Proof.InRefRot
public import proofs.«01_k».proof.Proof.InRefJoin
public import proofs.«01_k».proof.Proof.InRefHeads
public import proofs.«01_k».proof.Proof.InRefAngle
public import proofs.«01_k».proof.Proof.InRefAngle2
public import Idealize.ShloMosaic.Lib.ViewIndex
public import Idealize.ShloMosaic.Lib.Pipeline.ValueKit

@[expose] public section

set_option maxRecDepth 16384

noncomputable section

namespace Cert.Inp.Ref

open Idealize.ShloMosaic Idealize.ShloMosaic.Shape Idealize.ShloMosaic.TcCoe Idealize.ShloMosaic.StableHlo
open Cert.Reference3Ideal
open Cert.Reference3Ideal.Gen
open Cert.Reference3Ideal.Value

variable (V0 : Valuation τ sig (Elt Ideal))

/-- One finished head of the reference. -/
theorem head_at (v : FVec Ideal S16x2304x4x2x64 .f32) (p : Fin 512 → EReal) (g : Fin 64 → EReal) (b : Fin 16) (n : Fin 2304)
    (hv : ∀ (h : Fin 4) (s : Fin 2) (l : Fin 64), v (ix5 b n h s l) = rnorm p g ⟨h * 128 + s * 64 + l, by omega⟩) (u : Fin 512) :
    shapeCast S16x2304x512 (rot v (res_main_v93 V0) (res_main_v95 V0) (res_main_v97 V0) (res_main_v99 V0)) shapeCasts_S16x2304x4x2x64_S16x2304x512 (ix3 b n u)
      = refHead p g n u := by
  refine (flat_at _ b n u).trans ((rot_at v _ _ _ _ b n _ _ _).trans ?_)
  unfold refHead
  have hu := u.isLt
  by_cases hn : (n : ℕ) < 256
  · rw [dif_pos hn, if_pos hn, hv]
    exact congrArg (rnorm p g) (Fin.ext (by simp only []; omega))
  · rw [dif_neg hn, if_neg hn]
    have e : (fun l : Fin 64 => v (ix5 b n ⟨(u : ℕ) / 128, by omega⟩ ⟨(u : ℕ) / 64 % 2, by omega⟩ l))
        = fun l : Fin 64 => rnorm p g ⟨(u : ℕ) / 64 * 64 + l, by omega⟩ :=
      funext fun l => (hv _ _ _).trans (congrArg (rnorm p g) (Fin.ext (by simp only []; omega)))
    have e1 := funext fun f => cr_at V0 ⟨n - 256, by omega⟩ f
    have e2 := funext fun f => sr_at V0 ⟨n - 256, by omega⟩ f
    have e3 := funext fun f => cc_at V0 ⟨n - 256, by omega⟩ f
    have e4 := funext fun f => sc_at V0 ⟨n - 256, by omega⟩ f
    rw [e, e1, e2, e3, e4]

/-- The packed projection of the reference, at an index. -/
theorem packed_at (b : Fin 16) (n : Fin 2304) (z : Fin 8192) : res_main_v227 V0 (ix3 b n z)
    = refProj (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) (V0 (Proc.devRef .tc main_arg6)) b n z := by
  refine (congrFun (whole V0) (ix3 b n z)).trans ((join_at _ _ _ b n z).trans ?_)
  unfold refProj
  have ep : (fun j => res_main_v50 V0 (ix3 b n j)) = projAt (V0 (Proc.devRef .tc main_arg0)) (V0 (Proc.devRef .tc main_arg1)) (V0 (Proc.devRef .tc main_arg2))
        (V0 (Proc.devRef .tc main_arg3)) (V0 (Proc.devRef .tc main_arg4)) b n := funext fun j => proj_at V0 b n j
  rw [← ep]
  have eq := funext fun u => (scale_at (shapeCast _ (rot (res_main_v127 V0) (res_main_v93 V0) (res_main_v95 V0) (res_main_v97 V0) (res_main_v99 V0)) shapeCasts_S16x2304x4x2x64_S16x2304x512) b n u).trans
    (congrArg (· * Ideal.ofBits FTy.f32 0x3E000000#32) (head_at V0 (res_main_v127 V0) _ _ b n (q_at V0 b n) u))
  have ek := funext fun u => head_at V0 (res_main_v184 V0) _ _ b n (k_at V0 b n) u
  exact congrFun (congrArg₂ (chunks fun z => res_main_v50 V0 (ix3 b n (col z))) eq ek) z

/-- The first result of the reference, at an index: the cast to bfloat16 is the identity. -/
theorem packedOut_at (b : Fin 16) (n : Fin 2304) (z : Fin 8192) :
    (truncf .bf16 (res_main_v227 V0) bitsLt_bf16_f32 : FVec Ideal S16x2304x8192 .bf16) (ix3 b n z)
      = refProj (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) (V0 (Proc.devRef .tc main_arg6)) b n z := by
  refine Eq.trans ?_ (packed_at V0 b n z)
  pointwise

/-! The three results after the run, as functions of the arguments. -/

theorem packed_run (m : (ℓ : Loc nD τ sig) → Buf (Elt Ideal) ℓ) (c : Dev nD) :
    (truncf .bf16 (res_main_v227 (launchContents m c)) bitsLt_bf16_f32 : FVec Ideal S16x2304x8192 .bf16)
      = fun i => refProj (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (i 0) (i 1) (i 2) := by
  funext i
  obtain ⟨b, n, z, rfl⟩ : ∃ (b : Fin 16) (n : Fin 2304) (z : Fin 8192), i = ix3 b n z := ⟨i 0, i 1, i 2, idx3_ext rfl rfl rfl⟩
  exact packedOut_at (launchContents m c) b n z

theorem slab_run (m : (ℓ : Loc nD τ sig) → Buf (Elt Ideal) ℓ) (c : Dev nD) :
    (truncf .bf16 (transpose S4x144x16x16x128 [3, 1, 0, 2, 4] (shapeCast _ (extractStridedSlice S16x2304x512 ![0, 0, 0] (res_main_v50 (launchContents m c)) slices_S16x2304x8720_S16x2304x512_0_0_0) shapeCasts_S16x2304x512_S16x144x16x4x128) transposes_S16x144x16x4x128_S4x144x16x16x128_3_1_0_2_4) bitsLt_bf16_f32 : FVec Ideal S4x144x16x16x128 .bf16)
      = fun i => projAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 2) (tokOf (i 1) (i 3)) (chanOf (i 0) (i 4)) := by
  funext i
  obtain ⟨s, a, b, q, k, rfl⟩ : ∃ (s : Fin 4) (a : Fin 144) (b : Fin 16) (q : Fin 16) (k : Fin 128), i = ix5 s a b q k :=
    ⟨i 0, i 1, i 2, i 3, i 4, funext fun i => by match i with | 0 => rfl | 1 => rfl | 2 => rfl | 3 => rfl | 4 => rfl⟩
  exact slab_at (launchContents m c) s a b q k

theorem gates_run (m : (ℓ : Loc nD τ sig) → Buf (Elt Ideal) ℓ) (c : Dev nD) :
    (transpose S16x16x2304 [0, 2, 1] (extractStridedSlice S16x2304x16 ![0, 0, 3584] (res_main_v50 (launchContents m c)) slices_S16x2304x8720_S16x2304x16_0_0_3584) transposes_S16x2304x16_S16x16x2304_0_2_1 : FVec Ideal S16x16x2304 .f32)
      = fun i => projAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 2) (gateOf (i 1)) := by
  funext i
  obtain ⟨b, g, n, rfl⟩ : ∃ (b : Fin 16) (g : Fin 16) (n : Fin 2304), i = ix3 b g n := ⟨i 0, i 1, i 2, idx3_ext rfl rfl rfl⟩
  exact gates_at (launchContents m c) b g n

end Cert.Inp.Ref

end
-- ==== Proof.InEquation.lean ====
/-
  The equation of the input projection's two programs: on finite arguments the packed projections agree at every index.
-/
module

public import proofs.«01_k».proof.Proof.InTie
public import proofs.«01_k».proof.Proof.Equation
public import proofs.«01_k».proof.Proof.Gen.Pre_finite3

@[expose] public section

set_option maxRecDepth 16384

noncomputable section

namespace Cert.Inp

open Idealize.ShloMosaic Idealize.ShloMosaic.Shape
open Cert.Pre_finite3
open Cert.Attn (IsReal isReal_of_cmp)

/-- A row that holds an infinity has the normalisation 0, so its normalised and modulated row is the shift: no row of tokens
    needs to be finite. -/
theorem hid_row (x g sh sc : Fin 1024 → EReal) (hg : ∀ k, IsReal (g k)) (hsh : ∀ k, IsReal (sh k))
    (hsc : ∀ k, IsReal (sc k)) (k : Fin 1024) : IsReal (hid x g sh sc k) := by
  by_cases hx : ∀ k, IsReal (x k)
  · exact hid_real x g sh sc hx hg hsh hsc k
  · obtain ⟨k0, h0⟩ := not_forall.mp hx
    have hsq : ∀ v : EReal, 0 ≤ v * v := fun v => by
      induction v with
      | bot => simp
      | top => simp
      | coe r => rw [← EReal.coe_mul]; exact EReal.coe_nonneg.mpr (mul_self_nonneg r)
    have htop : x k0 * x k0 = ⊤ := by
      generalize x k0 = v at h0
      induction v with
      | bot => simp
      | top => simp
      | coe r => exact absurd ⟨r, rfl⟩ h0
    have hs : (∑ k, x k * x k) = ⊤ :=
      top_le_iff.mp (htop ▸ Finset.single_le_sum (f := fun k => x k * x k) (fun k _ => hsq (x k)) (Finset.mem_univ k0))
    have hr : Ideal.rsqrt (Ideal.div (∑ k, x k * x k) (Ideal.ofBits FTy.f32 0x44800000#32) + Ideal.ofBits FTy.f32 0x358637BD#32) = 0 := by
      obtain ⟨e, _, hE⟩ := ofBits_eps
      rw [hs, ofBits_1024, hE, Ideal.div_coe (by norm_num), EReal.top_mul_coe_of_pos (by norm_num), EReal.top_add_coe]
      rfl
    unfold hid
    rw [hr, mul_zero, zero_mul, zero_mul, zero_add]
    exact hsh k

variable (X : FVec Ideal S16x2048x1024 .f32) (C : FVec Ideal S16x256x1024 .f32) (M : FVec Ideal S24x3072 .f32)
  (G : FVec Ideal S1024 .f32) (W : FVec Ideal S1024x8720 .f32) (Q K : FVec Ideal S64 .f32)

/-- The precondition's reading: the modulation, the gain and the columns of q and k are real numbers. -/
structure Finite : Prop where
  mods : ∀ (r : Fin 24) (k : Fin 2048), IsReal (M (ix2 r ⟨k, by omega⟩))
  gain : ∀ k : Fin 1024, IsReal (G (ix1 k))
  w : ∀ (k j : Fin 1024), IsReal (W (ix2 k ⟨3600 + j, by omega⟩))

theorem finite_of (h1 : (Cert.Pre_finite3.fn (F := Ideal) X C M G W Q K).1 = fun _ => 1#1)
    (h2 : (Cert.Pre_finite3.fn (F := Ideal) X C M G W Q K).2.1 = fun _ => 1#1)
    (h3 : (Cert.Pre_finite3.fn (F := Ideal) X C M G W Q K).2.2 = fun _ => 1#1) : Finite M G W := by
  dsimp only [Cert.Pre_finite3.fn] at h1 h2 h3
  refine ⟨fun r k => ?_, fun k => ?_, fun k j => ?_⟩
  · refine isReal_of_cmp _ (Eq.trans ?_ (congrFun h1 (ix2 r k)))
    pointwise
    rfl
  · refine isReal_of_cmp _ (Eq.trans ?_ (congrFun h2 (ix1 k)))
    pointwise
    rfl
  · refine isReal_of_cmp _ (Eq.trans ?_ (congrFun h3 (ix2 k j)))
    pointwise
    rfl

variable {X C M G W}

theorem Finite.proj (hf : Finite M G W) (b : Fin 16) (n : Fin 2304) (j : Fin 1024) :
    IsReal (projAt X C M G W b n ⟨3600 + j, by omega⟩) := by
  unfold projAt pcol
  exact IsReal.sum _ fun k => (hid_row _ _ _ _ (fun k => hf.gain k) (fun k => hf.mods _ ⟨k, by omega⟩)
    (fun k => hf.mods _ ⟨1024 + k, by omega⟩) k).mul (hf.w k j)

/-- The two packed projections agree at every index. -/
theorem equation (hf : Finite M G W) (b : Fin 16) (n : Fin 2304) (z : Fin 8192) :
    kerProj X C M G W Q K b n z = refProj X C M G W Q K b n z := by
  unfold kerProj refProj
  have cq : (fun u : Fin 512 => projAt X C M G W b n (col ⟨6144 + u, by omega⟩)) = fun u : Fin 512 => projAt X C M G W b n ⟨3600 + u, by omega⟩ := by
    funext u
    refine congrArg (projAt X C M G W b n) (Fin.ext ?_)
    unfold col
    rw [dif_neg (by simp only []; omega), if_neg (by simp only []; omega)]
    simp only []
    omega
  have ck : (fun u : Fin 512 => projAt X C M G W b n (col ⟨6656 + u, by omega⟩)) = fun u : Fin 512 => projAt X C M G W b n ⟨4112 + u, by omega⟩ := by
    funext u
    refine congrArg (projAt X C M G W b n) (Fin.ext ?_)
    unfold col
    rw [dif_neg (by simp only []; omega), if_neg (by simp only []; omega)]
    simp only []
    omega
  have hq : ∀ u : Fin 512, IsReal (projAt X C M G W b n ⟨3600 + u, by omega⟩) := fun u => hf.proj b n ⟨u, by omega⟩
  have hk : ∀ u : Fin 512, IsReal (projAt X C M G W b n ⟨4112 + u, by omega⟩) := fun u => by
    have h : IsReal (projAt X C M G W b n _) := hf.proj b n ⟨512 + u, by omega⟩
    have e : (⟨3600 + ((⟨512 + u, by omega⟩ : Fin 1024) : ℕ), by simp only []; omega⟩ : Fin 8720) = ⟨4112 + u, by omega⟩ := Fin.ext (by simp only []; omega)
    exact e ▸ h
  rw [cq, ck]
  have eq := funext fun u => congrArg (· * Ideal.ofBits FTy.f32 0x3E000000#32) (head_eq _ (fun l => Q (ix1 l)) hq n u)
  have ek := funext fun u => head_eq _ (fun l => K (ix1 l)) hk n u
  exact congrFun (congrArg₂ (chunks fun z => projAt X C M G W b n (col z)) eq ek) z

end Cert.Inp

end
-- ==== Proof.lean ====
/-
  The certificate: the runs of the programs, and for each call the equation of the kernel's results with the reference's.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite3
public import proofs.«01_k».proof.Proof.Equation
public import proofs.«01_k».proof.Proof.MergeArray
public import proofs.«01_k».proof.Proof.MergeRef
public import proofs.«01_k».proof.Proof.InArray
public import proofs.«01_k».proof.Proof.InRef
public import proofs.«01_k».proof.Proof.InEquation
public import Idealize.ShloMosaic.Adequacy
public import Idealize.ShloMosaic.Init
public import Idealize.ShloMosaic.Lib.Quiescent

@[expose] public section

noncomputable section

namespace Cert.Proof

open Idealize.ShloMosaic Idealize.ShloMosaic.Shape Idealize.SL.Sem

/-- The reference ends, its arguments unchanged. -/
theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite inputs both programs end with the same array. -/
theorem attention_eq : algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3⟩ := hagree c
  obtain ⟨p0, p1, p2⟩ := hpre c
  refine (h c).1.trans ((Cert.Attn.Ref.res_eq m' c).trans ?_)
  refine Eq.trans ?_ (Cert.Attn.final m c).symm
  rw [h0, h1, h2, h3]
  funext i
  obtain ⟨b, n, z, rfl⟩ : ∃ (b : Fin 16) (n : Fin 2304) (z : Fin 512), i = ix3 b n z := ⟨i 0, i 1, i 2, idx3_ext rfl rfl rfl⟩
  refine (Cert.Attn.Ref.outs_at _ _ _ _ b n z).trans ?_
  exact (Cert.Attn.equation _ (Cert.Attn.finite_of _ _ _ _ p0 p1 p2) b n z).symm

/-- The merge's reference ends, its arguments unchanged. -/
theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The merge's two programs end with the same array. -/
theorem merge_eq : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6, h7, h8, h9, h10, h11⟩ := hagree c
  refine (h c).1.trans ((Cert.Merge.Ref.res_eq m' c).trans ?_)
  refine Eq.trans ?_ (Cert.Merge.Ker.final m c).symm
  rw [h0, h1, h2, h3, h4, h5, h6, h7, h8, h9, h10, h11]
  funext i
  obtain ⟨b, n, d, rfl⟩ : ∃ (b : Fin 16) (n : Fin 2048) (d : Fin 1024), i = ix3 b n d := ⟨i 0, i 1, i 2, idx3_ext rfl rfl rfl⟩
  exact Cert.Merge.Ref.full_at _ _ _ _ _ _ _ _ _ _ _ _ b n d

/-- The input projection's reference ends, its arguments unchanged. -/
theorem frame_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem frame_Reference3Ideal_finite : quiescent_Reference3Ideal_pre_finite3 := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- On finite inputs the input projection's two programs end with the same three arrays. -/
theorem inproj_eq : algebraic_Kernel3Ideal_Reference3Ideal_pre_finite3 := by
  intro m ρ m' ρ' hpre hagree
  refine ⟨_, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3, h4, h5, h6⟩ := hagree c
  obtain ⟨p0, p1, p2⟩ := hpre c
  refine ⟨(h c).1.trans ((Cert.Inp.Ref.packed_run m' c).trans (Eq.trans ?_ (Cert.Inp.Ker.final11 m c).symm)),
    (h c).2.1.trans ((Cert.Inp.Ref.slab_run m' c).trans (Eq.trans ?_ (Cert.Inp.Ker.final12 m c).symm)),
    (h c).2.2.1.trans ((Cert.Inp.Ref.gates_run m' c).trans (Eq.trans ?_ (Cert.Inp.Ker.final13 m c).symm)), (h c).2.2.2⟩
  · rw [h0, h1, h2, h3, h4, h5, h6]
    funext i
    exact (Cert.Inp.equation _ _ (Cert.Inp.finite_of _ _ _ _ _ _ _ p0 p1 p2) (i 0) (i 1) (i 2)).symm
  · rw [h0, h1, h2, h3, h4]
  · rw [h0, h1, h2, h3, h4]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite.Gen.facts, Cert.Pre_finite3.Gen.facts,
  fun m ρ _ => Cert.Kernel.Gen.frame m ρ, fun m ρ _ => Cert.KernelIdeal.Gen.frame m ρ, fun m ρ _ => Cert.KernelIdeal.Gen.frame m ρ,
  frame_ReferenceIdeal, frame_ReferenceIdeal_finite, fun m ρ _ => Cert.Kernel2.Gen.frame m ρ,
  fun m ρ _ => Cert.Kernel2Ideal.Gen.frame m ρ, frame_Reference2Ideal,
  fun m ρ _ => Cert.Kernel3.Gen.frame m ρ, fun m ρ _ => Cert.Kernel3Ideal.Gen.frame m ρ, fun m ρ _ => Cert.Kernel3Ideal.Gen.frame m ρ,
  frame_Reference3Ideal, frame_Reference3Ideal_finite,
  (trivial : preserves_Kernel_KernelIdeal), attention_eq, (trivial : preserves_Kernel2_Kernel2Ideal), merge_eq,
  (trivial : preserves_Kernel3_Kernel3Ideal), inproj_eq⟩

end Cert.Proof

end
